-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_ProjectionSample (m : (ℓ : Loc Cert.ProjectionSample.nD Cert.ProjectionSample.τ Cert.ProjectionSample.sig) → Buf (Elt Bits) ℓ) : Prop :=
  True

def Pre_ProjectionSampleIdeal (m : (ℓ : Loc Cert.ProjectionSampleIdeal.nD Cert.ProjectionSampleIdeal.τ Cert.ProjectionSampleIdeal.sig) → Buf (Elt Ideal) ℓ) : Prop :=
  True

def Pre_ProjectionSampleReferenceIdeal (m : (ℓ : Loc Cert.ProjectionSampleReferenceIdeal.nD Cert.ProjectionSampleReferenceIdeal.τ Cert.ProjectionSampleReferenceIdeal.sig) → Buf (Elt Ideal) ℓ) : Prop :=
  True

def Pre_OutputSample (m : (ℓ : Loc Cert.OutputSample.nD Cert.OutputSample.τ Cert.OutputSample.sig) → Buf (Elt Bits) ℓ) : Prop :=
  True

def Pre_OutputSampleIdeal (m : (ℓ : Loc Cert.OutputSampleIdeal.nD Cert.OutputSampleIdeal.τ Cert.OutputSampleIdeal.sig) → Buf (Elt Ideal) ℓ) : Prop :=
  True

def Pre_OutputSampleReferenceIdeal (m : (ℓ : Loc Cert.OutputSampleReferenceIdeal.nD Cert.OutputSampleReferenceIdeal.τ Cert.OutputSampleReferenceIdeal.sig) → Buf (Elt Ideal) ℓ) : Prop :=
  True

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeReferenceIdeal (m : (ℓ : Loc Cert.DecodeReferenceIdeal.nD Cert.DecodeReferenceIdeal.τ Cert.DecodeReferenceIdeal.sig) → Buf (Elt Ideal) ℓ) : Prop :=
  True

def Pre_RecurrenceSample (m : (ℓ : Loc Cert.RecurrenceSample.nD Cert.RecurrenceSample.τ Cert.RecurrenceSample.sig) → Buf (Elt Bits) ℓ) : Prop :=
  True

def Pre_RecurrenceSampleIdeal (m : (ℓ : Loc Cert.RecurrenceSampleIdeal.nD Cert.RecurrenceSampleIdeal.τ Cert.RecurrenceSampleIdeal.sig) → Buf (Elt Ideal) ℓ) : Prop :=
  True

def Pre_RecurrenceSampleIdeal_finite_logits [hPre_finite_logits : Cert.Pre_finite_logits.Facts] (m : (ℓ : Loc Cert.RecurrenceSampleIdeal.nD Cert.RecurrenceSampleIdeal.τ Cert.RecurrenceSampleIdeal.sig) → Buf (Elt Ideal) ℓ) : Prop :=
  ∀ c : Dev Cert.RecurrenceSampleIdeal.nD,
    (Cert.Pre_finite_logits.fn (F := Ideal) (m ((c.tc : Thread Cert.RecurrenceSampleIdeal.nD Cert.RecurrenceSampleIdeal.τ).loc Cert.RecurrenceSampleIdeal.main_arg0)) (m ((c.tc : Thread Cert.RecurrenceSampleIdeal.nD Cert.RecurrenceSampleIdeal.τ).loc Cert.RecurrenceSampleIdeal.main_arg1)) (m ((c.tc : Thread Cert.RecurrenceSampleIdeal.nD Cert.RecurrenceSampleIdeal.τ).loc Cert.RecurrenceSampleIdeal.main_arg2)) (m ((c.tc : Thread Cert.RecurrenceSampleIdeal.nD Cert.RecurrenceSampleIdeal.τ).loc Cert.RecurrenceSampleIdeal.main_arg3)) (m ((c.tc : Thread Cert.RecurrenceSampleIdeal.nD Cert.RecurrenceSampleIdeal.τ).loc Cert.RecurrenceSampleIdeal.main_arg4)) (m ((c.tc : Thread Cert.RecurrenceSampleIdeal.nD Cert.RecurrenceSampleIdeal.τ).loc Cert.RecurrenceSampleIdeal.main_arg5)) (m ((c.tc : Thread Cert.RecurrenceSampleIdeal.nD Cert.RecurrenceSampleIdeal.τ).loc Cert.RecurrenceSampleIdeal.main_arg6))) = (fun _ => 1#1)

def Pre_RecurrenceSampleReferenceIdeal (m : (ℓ : Loc Cert.RecurrenceSampleReferenceIdeal.nD Cert.RecurrenceSampleReferenceIdeal.τ Cert.RecurrenceSampleReferenceIdeal.sig) → Buf (Elt Ideal) ℓ) : Prop :=
  True

def Pre_RecurrenceSampleReferenceIdeal_finite_logits [hPre_finite_logits : Cert.Pre_finite_logits.Facts] (m : (ℓ : Loc Cert.RecurrenceSampleReferenceIdeal.nD Cert.RecurrenceSampleReferenceIdeal.τ Cert.RecurrenceSampleReferenceIdeal.sig) → Buf (Elt Ideal) ℓ) : Prop :=
  ∀ c : Dev Cert.RecurrenceSampleReferenceIdeal.nD,
    (Cert.Pre_finite_logits.fn (F := Ideal) (m ((c.tc : Thread Cert.RecurrenceSampleReferenceIdeal.nD Cert.RecurrenceSampleReferenceIdeal.τ).loc Cert.RecurrenceSampleReferenceIdeal.main_arg0)) (m ((c.tc : Thread Cert.RecurrenceSampleReferenceIdeal.nD Cert.RecurrenceSampleReferenceIdeal.τ).loc Cert.RecurrenceSampleReferenceIdeal.main_arg1)) (m ((c.tc : Thread Cert.RecurrenceSampleReferenceIdeal.nD Cert.RecurrenceSampleReferenceIdeal.τ).loc Cert.RecurrenceSampleReferenceIdeal.main_arg2)) (m ((c.tc : Thread Cert.RecurrenceSampleReferenceIdeal.nD Cert.RecurrenceSampleReferenceIdeal.τ).loc Cert.RecurrenceSampleReferenceIdeal.main_arg3)) (m ((c.tc : Thread Cert.RecurrenceSampleReferenceIdeal.nD Cert.RecurrenceSampleReferenceIdeal.τ).loc Cert.RecurrenceSampleReferenceIdeal.main_arg4)) (m ((c.tc : Thread Cert.RecurrenceSampleReferenceIdeal.nD Cert.RecurrenceSampleReferenceIdeal.τ).loc Cert.RecurrenceSampleReferenceIdeal.main_arg5)) (m ((c.tc : Thread Cert.RecurrenceSampleReferenceIdeal.nD Cert.RecurrenceSampleReferenceIdeal.τ).loc Cert.RecurrenceSampleReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5))
      ∧ r.2.sem = fun _ => 0)

def quiescent_ProjectionSample [hProjectionSample : Cert.ProjectionSample.Facts] : Prop :=
  ∀ (m : (ℓ : Loc Cert.ProjectionSample.nD Cert.ProjectionSample.τ Cert.ProjectionSample.sig) → Buf (Elt Bits) ℓ) (g : Dev Cert.ProjectionSample.nD → PrngReg), Pre_ProjectionSample m →
    θ_run (Cert.ProjectionSample.defs (F := Bits)) (onTc (τ := Cert.ProjectionSample.τ) (Cert.ProjectionSample.main (F := Bits))) ⟨m, fun _ => 0, g⟩ (fun r => (∀ c : Dev Cert.ProjectionSample.nD,
      r.2.mem ((c.tc : Thread Cert.ProjectionSample.nD Cert.ProjectionSample.τ).loc Cert.ProjectionSample.main_arg0) = m ((c.tc : Thread Cert.ProjectionSample.nD Cert.ProjectionSample.τ).loc Cert.ProjectionSample.main_arg0)
      ∧ r.2.mem ((c.tc : Thread Cert.ProjectionSample.nD Cert.ProjectionSample.τ).loc Cert.ProjectionSample.main_arg1) = m ((c.tc : Thread Cert.ProjectionSample.nD Cert.ProjectionSample.τ).loc Cert.ProjectionSample.main_arg1))
      ∧ r.2.sem = fun _ => 0)

def quiescent_ProjectionSampleIdeal [hProjectionSampleIdeal : Cert.ProjectionSampleIdeal.Facts] : Prop :=
  ∀ (m : (ℓ : Loc Cert.ProjectionSampleIdeal.nD Cert.ProjectionSampleIdeal.τ Cert.ProjectionSampleIdeal.sig) → Buf (Elt Ideal) ℓ) (g : Dev Cert.ProjectionSampleIdeal.nD → PrngReg), Pre_ProjectionSampleIdeal m →
    θ_run (Cert.ProjectionSampleIdeal.defs (F := Ideal)) (onTc (τ := Cert.ProjectionSampleIdeal.τ) (Cert.ProjectionSampleIdeal.main (F := Ideal))) ⟨m, fun _ => 0, g⟩ (fun r => (∀ c : Dev Cert.ProjectionSampleIdeal.nD,
      r.2.mem ((c.tc : Thread Cert.ProjectionSampleIdeal.nD Cert.ProjectionSampleIdeal.τ).loc Cert.ProjectionSampleIdeal.main_arg0) = m ((c.tc : Thread Cert.ProjectionSampleIdeal.nD Cert.ProjectionSampleIdeal.τ).loc Cert.ProjectionSampleIdeal.main_arg0)
      ∧ r.2.mem ((c.tc : Thread Cert.ProjectionSampleIdeal.nD Cert.ProjectionSampleIdeal.τ).loc Cert.ProjectionSampleIdeal.main_arg1) = m ((c.tc : Thread Cert.ProjectionSampleIdeal.nD Cert.ProjectionSampleIdeal.τ).loc Cert.ProjectionSampleIdeal.main_arg1))
      ∧ r.2.sem = fun _ => 0)

def quiescent_ProjectionSampleReferenceIdeal [hProjectionSampleReferenceIdeal : Cert.ProjectionSampleReferenceIdeal.Facts] : Prop :=
  ∀ (m : (ℓ : Loc Cert.ProjectionSampleReferenceIdeal.nD Cert.ProjectionSampleReferenceIdeal.τ Cert.ProjectionSampleReferenceIdeal.sig) → Buf (Elt Ideal) ℓ) (g : Dev Cert.ProjectionSampleReferenceIdeal.nD → PrngReg), Pre_ProjectionSampleReferenceIdeal m →
    θ_run (Cert.ProjectionSampleReferenceIdeal.defs (F := Ideal)) (onTc (τ := Cert.ProjectionSampleReferenceIdeal.τ) (Cert.ProjectionSampleReferenceIdeal.main (F := Ideal))) ⟨m, fun _ => 0, g⟩ (fun r => (∀ c : Dev Cert.ProjectionSampleReferenceIdeal.nD,
      r.2.mem ((c.tc : Thread Cert.ProjectionSampleReferenceIdeal.nD Cert.ProjectionSampleReferenceIdeal.τ).loc Cert.ProjectionSampleReferenceIdeal.main_arg0) = m ((c.tc : Thread Cert.ProjectionSampleReferenceIdeal.nD Cert.ProjectionSampleReferenceIdeal.τ).loc Cert.ProjectionSampleReferenceIdeal.main_arg0)
      ∧ r.2.mem ((c.tc : Thread Cert.ProjectionSampleReferenceIdeal.nD Cert.ProjectionSampleReferenceIdeal.τ).loc Cert.ProjectionSampleReferenceIdeal.main_arg1) = m ((c.tc : Thread Cert.ProjectionSampleReferenceIdeal.nD Cert.ProjectionSampleReferenceIdeal.τ).loc Cert.ProjectionSampleReferenceIdeal.main_arg1))
      ∧ r.2.sem = fun _ => 0)

def quiescent_OutputSample [hOutputSample : Cert.OutputSample.Facts] : Prop :=
  ∀ (m : (ℓ : Loc Cert.OutputSample.nD Cert.OutputSample.τ Cert.OutputSample.sig) → Buf (Elt Bits) ℓ) (g : Dev Cert.OutputSample.nD → PrngReg), Pre_OutputSample m →
    θ_run (Cert.OutputSample.defs (F := Bits)) (onTc (τ := Cert.OutputSample.τ) (Cert.OutputSample.main (F := Bits))) ⟨m, fun _ => 0, g⟩ (fun r => (∀ c : Dev Cert.OutputSample.nD,
      r.2.mem ((c.tc : Thread Cert.OutputSample.nD Cert.OutputSample.τ).loc Cert.OutputSample.main_arg0) = m ((c.tc : Thread Cert.OutputSample.nD Cert.OutputSample.τ).loc Cert.OutputSample.main_arg0)
      ∧ r.2.mem ((c.tc : Thread Cert.OutputSample.nD Cert.OutputSample.τ).loc Cert.OutputSample.main_arg1) = m ((c.tc : Thread Cert.OutputSample.nD Cert.OutputSample.τ).loc Cert.OutputSample.main_arg1)
      ∧ r.2.mem ((c.tc : Thread Cert.OutputSample.nD Cert.OutputSample.τ).loc Cert.OutputSample.main_arg2) = m ((c.tc : Thread Cert.OutputSample.nD Cert.OutputSample.τ).loc Cert.OutputSample.main_arg2)
      ∧ r.2.mem ((c.tc : Thread Cert.OutputSample.nD Cert.OutputSample.τ).loc Cert.OutputSample.main_arg3) = m ((c.tc : Thread Cert.OutputSample.nD Cert.OutputSample.τ).loc Cert.OutputSample.main_arg3)
      ∧ r.2.mem ((c.tc : Thread Cert.OutputSample.nD Cert.OutputSample.τ).loc Cert.OutputSample.main_arg4) = m ((c.tc : Thread Cert.OutputSample.nD Cert.OutputSample.τ).loc Cert.OutputSample.main_arg4)
      ∧ r.2.mem ((c.tc : Thread Cert.OutputSample.nD Cert.OutputSample.τ).loc Cert.OutputSample.main_arg5) = m ((c.tc : Thread Cert.OutputSample.nD Cert.OutputSample.τ).loc Cert.OutputSample.main_arg5))
      ∧ r.2.sem = fun _ => 0)

def quiescent_OutputSampleIdeal [hOutputSampleIdeal : Cert.OutputSampleIdeal.Facts] : Prop :=
  ∀ (m : (ℓ : Loc Cert.OutputSampleIdeal.nD Cert.OutputSampleIdeal.τ Cert.OutputSampleIdeal.sig) → Buf (Elt Ideal) ℓ) (g : Dev Cert.OutputSampleIdeal.nD → PrngReg), Pre_OutputSampleIdeal m →
    θ_run (Cert.OutputSampleIdeal.defs (F := Ideal)) (onTc (τ := Cert.OutputSampleIdeal.τ) (Cert.OutputSampleIdeal.main (F := Ideal))) ⟨m, fun _ => 0, g⟩ (fun r => (∀ c : Dev Cert.OutputSampleIdeal.nD,
      r.2.mem ((c.tc : Thread Cert.OutputSampleIdeal.nD Cert.OutputSampleIdeal.τ).loc Cert.OutputSampleIdeal.main_arg0) = m ((c.tc : Thread Cert.OutputSampleIdeal.nD Cert.OutputSampleIdeal.τ).loc Cert.OutputSampleIdeal.main_arg0)
      ∧ r.2.mem ((c.tc : Thread Cert.OutputSampleIdeal.nD Cert.OutputSampleIdeal.τ).loc Cert.OutputSampleIdeal.main_arg1) = m ((c.tc : Thread Cert.OutputSampleIdeal.nD Cert.OutputSampleIdeal.τ).loc Cert.OutputSampleIdeal.main_arg1)
      ∧ r.2.mem ((c.tc : Thread Cert.OutputSampleIdeal.nD Cert.OutputSampleIdeal.τ).loc Cert.OutputSampleIdeal.main_arg2) = m ((c.tc : Thread Cert.OutputSampleIdeal.nD Cert.OutputSampleIdeal.τ).loc Cert.OutputSampleIdeal.main_arg2)
      ∧ r.2.mem ((c.tc : Thread Cert.OutputSampleIdeal.nD Cert.OutputSampleIdeal.τ).loc Cert.OutputSampleIdeal.main_arg3) = m ((c.tc : Thread Cert.OutputSampleIdeal.nD Cert.OutputSampleIdeal.τ).loc Cert.OutputSampleIdeal.main_arg3)
      ∧ r.2.mem ((c.tc : Thread Cert.OutputSampleIdeal.nD Cert.OutputSampleIdeal.τ).loc Cert.OutputSampleIdeal.main_arg4) = m ((c.tc : Thread Cert.OutputSampleIdeal.nD Cert.OutputSampleIdeal.τ).loc Cert.OutputSampleIdeal.main_arg4)
      ∧ r.2.mem ((c.tc : Thread Cert.OutputSampleIdeal.nD Cert.OutputSampleIdeal.τ).loc Cert.OutputSampleIdeal.main_arg5) = m ((c.tc : Thread Cert.OutputSampleIdeal.nD Cert.OutputSampleIdeal.τ).loc Cert.OutputSampleIdeal.main_arg5))
      ∧ r.2.sem = fun _ => 0)

def quiescent_OutputSampleReferenceIdeal [hOutputSampleReferenceIdeal : Cert.OutputSampleReferenceIdeal.Facts] : Prop :=
  ∀ (m : (ℓ : Loc Cert.OutputSampleReferenceIdeal.nD Cert.OutputSampleReferenceIdeal.τ Cert.OutputSampleReferenceIdeal.sig) → Buf (Elt Ideal) ℓ) (g : Dev Cert.OutputSampleReferenceIdeal.nD → PrngReg), Pre_OutputSampleReferenceIdeal m →
    θ_run (Cert.OutputSampleReferenceIdeal.defs (F := Ideal)) (onTc (τ := Cert.OutputSampleReferenceIdeal.τ) (Cert.OutputSampleReferenceIdeal.main (F := Ideal))) ⟨m, fun _ => 0, g⟩ (fun r => (∀ c : Dev Cert.OutputSampleReferenceIdeal.nD,
      r.2.mem ((c.tc : Thread Cert.OutputSampleReferenceIdeal.nD Cert.OutputSampleReferenceIdeal.τ).loc Cert.OutputSampleReferenceIdeal.main_arg0) = m ((c.tc : Thread Cert.OutputSampleReferenceIdeal.nD Cert.OutputSampleReferenceIdeal.τ).loc Cert.OutputSampleReferenceIdeal.main_arg0)
      ∧ r.2.mem ((c.tc : Thread Cert.OutputSampleReferenceIdeal.nD Cert.OutputSampleReferenceIdeal.τ).loc Cert.OutputSampleReferenceIdeal.main_arg1) = m ((c.tc : Thread Cert.OutputSampleReferenceIdeal.nD Cert.OutputSampleReferenceIdeal.τ).loc Cert.OutputSampleReferenceIdeal.main_arg1)
      ∧ r.2.mem ((c.tc : Thread Cert.OutputSampleReferenceIdeal.nD Cert.OutputSampleReferenceIdeal.τ).loc Cert.OutputSampleReferenceIdeal.main_arg2) = m ((c.tc : Thread Cert.OutputSampleReferenceIdeal.nD Cert.OutputSampleReferenceIdeal.τ).loc Cert.OutputSampleReferenceIdeal.main_arg2)
      ∧ r.2.mem ((c.tc : Thread Cert.OutputSampleReferenceIdeal.nD Cert.OutputSampleReferenceIdeal.τ).loc Cert.OutputSampleReferenceIdeal.main_arg3) = m ((c.tc : Thread Cert.OutputSampleReferenceIdeal.nD Cert.OutputSampleReferenceIdeal.τ).loc Cert.OutputSampleReferenceIdeal.main_arg3)
      ∧ r.2.mem ((c.tc : Thread Cert.OutputSampleReferenceIdeal.nD Cert.OutputSampleReferenceIdeal.τ).loc Cert.OutputSampleReferenceIdeal.main_arg4) = m ((c.tc : Thread Cert.OutputSampleReferenceIdeal.nD Cert.OutputSampleReferenceIdeal.τ).loc Cert.OutputSampleReferenceIdeal.main_arg4)
      ∧ r.2.mem ((c.tc : Thread Cert.OutputSampleReferenceIdeal.nD Cert.OutputSampleReferenceIdeal.τ).loc Cert.OutputSampleReferenceIdeal.main_arg5) = m ((c.tc : Thread Cert.OutputSampleReferenceIdeal.nD Cert.OutputSampleReferenceIdeal.τ).loc Cert.OutputSampleReferenceIdeal.main_arg5))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3)
      ∧ r.2.mem ((c.tc : Thread Cert.Decode.nD Cert.Decode.τ).loc Cert.Decode.main_arg4) = m ((c.tc : Thread Cert.Decode.nD Cert.Decode.τ).loc Cert.Decode.main_arg4)
      ∧ r.2.mem ((c.tc : Thread Cert.Decode.nD Cert.Decode.τ).loc Cert.Decode.main_arg5) = m ((c.tc : Thread Cert.Decode.nD Cert.Decode.τ).loc Cert.Decode.main_arg5))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
      ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5))
      ∧ r.2.sem = fun _ => 0)

def quiescent_DecodeReferenceIdeal [hDecodeReferenceIdeal : Cert.DecodeReferenceIdeal.Facts] : Prop :=
  ∀ (m : (ℓ : Loc Cert.DecodeReferenceIdeal.nD Cert.DecodeReferenceIdeal.τ Cert.DecodeReferenceIdeal.sig) → Buf (Elt Ideal) ℓ) (g : Dev Cert.DecodeReferenceIdeal.nD → PrngReg), Pre_DecodeReferenceIdeal m →
    θ_run (Cert.DecodeReferenceIdeal.defs (F := Ideal)) (onTc (τ := Cert.DecodeReferenceIdeal.τ) (Cert.DecodeReferenceIdeal.main (F := Ideal))) ⟨m, fun _ => 0, g⟩ (fun r => (∀ c : Dev Cert.DecodeReferenceIdeal.nD,
      r.2.mem ((c.tc : Thread Cert.DecodeReferenceIdeal.nD Cert.DecodeReferenceIdeal.τ).loc Cert.DecodeReferenceIdeal.main_arg0) = m ((c.tc : Thread Cert.DecodeReferenceIdeal.nD Cert.DecodeReferenceIdeal.τ).loc Cert.DecodeReferenceIdeal.main_arg0)
      ∧ r.2.mem ((c.tc : Thread Cert.DecodeReferenceIdeal.nD Cert.DecodeReferenceIdeal.τ).loc Cert.DecodeReferenceIdeal.main_arg1) = m ((c.tc : Thread Cert.DecodeReferenceIdeal.nD Cert.DecodeReferenceIdeal.τ).loc Cert.DecodeReferenceIdeal.main_arg1)
      ∧ r.2.mem ((c.tc : Thread Cert.DecodeReferenceIdeal.nD Cert.DecodeReferenceIdeal.τ).loc Cert.DecodeReferenceIdeal.main_arg2) = m ((c.tc : Thread Cert.DecodeReferenceIdeal.nD Cert.DecodeReferenceIdeal.τ).loc Cert.DecodeReferenceIdeal.main_arg2)
      ∧ r.2.mem ((c.tc : Thread Cert.DecodeReferenceIdeal.nD Cert.DecodeReferenceIdeal.τ).loc Cert.DecodeReferenceIdeal.main_arg3) = m ((c.tc : Thread Cert.DecodeReferenceIdeal.nD Cert.DecodeReferenceIdeal.τ).loc Cert.DecodeReferenceIdeal.main_arg3)
      ∧ r.2.mem ((c.tc : Thread Cert.DecodeReferenceIdeal.nD Cert.DecodeReferenceIdeal.τ).loc Cert.DecodeReferenceIdeal.main_arg4) = m ((c.tc : Thread Cert.DecodeReferenceIdeal.nD Cert.DecodeReferenceIdeal.τ).loc Cert.DecodeReferenceIdeal.main_arg4)
      ∧ r.2.mem ((c.tc : Thread Cert.DecodeReferenceIdeal.nD Cert.DecodeReferenceIdeal.τ).loc Cert.DecodeReferenceIdeal.main_arg5) = m ((c.tc : Thread Cert.DecodeReferenceIdeal.nD Cert.DecodeReferenceIdeal.τ).loc Cert.DecodeReferenceIdeal.main_arg5))
      ∧ r.2.sem = fun _ => 0)

def quiescent_RecurrenceSample [hRecurrenceSample : Cert.RecurrenceSample.Facts] : Prop :=
  ∀ (m : (ℓ : Loc Cert.RecurrenceSample.nD Cert.RecurrenceSample.τ Cert.RecurrenceSample.sig) → Buf (Elt Bits) ℓ) (g : Dev Cert.RecurrenceSample.nD → PrngReg), Pre_RecurrenceSample m →
    θ_run (Cert.RecurrenceSample.defs (F := Bits)) (onTc (τ := Cert.RecurrenceSample.τ) (Cert.RecurrenceSample.main (F := Bits))) ⟨m, fun _ => 0, g⟩ (fun r => (∀ c : Dev Cert.RecurrenceSample.nD,
      r.2.mem ((c.tc : Thread Cert.RecurrenceSample.nD Cert.RecurrenceSample.τ).loc Cert.RecurrenceSample.main_arg0) = m ((c.tc : Thread Cert.RecurrenceSample.nD Cert.RecurrenceSample.τ).loc Cert.RecurrenceSample.main_arg0)
      ∧ r.2.mem ((c.tc : Thread Cert.RecurrenceSample.nD Cert.RecurrenceSample.τ).loc Cert.RecurrenceSample.main_arg1) = m ((c.tc : Thread Cert.RecurrenceSample.nD Cert.RecurrenceSample.τ).loc Cert.RecurrenceSample.main_arg1)
      ∧ r.2.mem ((c.tc : Thread Cert.RecurrenceSample.nD Cert.RecurrenceSample.τ).loc Cert.RecurrenceSample.main_arg2) = m ((c.tc : Thread Cert.RecurrenceSample.nD Cert.RecurrenceSample.τ).loc Cert.RecurrenceSample.main_arg2)
      ∧ r.2.mem ((c.tc : Thread Cert.RecurrenceSample.nD Cert.RecurrenceSample.τ).loc Cert.RecurrenceSample.main_arg3) = m ((c.tc : Thread Cert.RecurrenceSample.nD Cert.RecurrenceSample.τ).loc Cert.RecurrenceSample.main_arg3)
      ∧ r.2.mem ((c.tc : Thread Cert.RecurrenceSample.nD Cert.RecurrenceSample.τ).loc Cert.RecurrenceSample.main_arg4) = m ((c.tc : Thread Cert.RecurrenceSample.nD Cert.RecurrenceSample.τ).loc Cert.RecurrenceSample.main_arg4)
      ∧ r.2.mem ((c.tc : Thread Cert.RecurrenceSample.nD Cert.RecurrenceSample.τ).loc Cert.RecurrenceSample.main_arg5) = m ((c.tc : Thread Cert.RecurrenceSample.nD Cert.RecurrenceSample.τ).loc Cert.RecurrenceSample.main_arg5)
      ∧ r.2.mem ((c.tc : Thread Cert.RecurrenceSample.nD Cert.RecurrenceSample.τ).loc Cert.RecurrenceSample.main_arg6) = m ((c.tc : Thread Cert.RecurrenceSample.nD Cert.RecurrenceSample.τ).loc Cert.RecurrenceSample.main_arg6))
      ∧ r.2.sem = fun _ => 0)

def quiescent_RecurrenceSampleIdeal [hRecurrenceSampleIdeal : Cert.RecurrenceSampleIdeal.Facts] : Prop :=
  ∀ (m : (ℓ : Loc Cert.RecurrenceSampleIdeal.nD Cert.RecurrenceSampleIdeal.τ Cert.RecurrenceSampleIdeal.sig) → Buf (Elt Ideal) ℓ) (g : Dev Cert.RecurrenceSampleIdeal.nD → PrngReg), Pre_RecurrenceSampleIdeal m →
    θ_run (Cert.RecurrenceSampleIdeal.defs (F := Ideal)) (onTc (τ := Cert.RecurrenceSampleIdeal.τ) (Cert.RecurrenceSampleIdeal.main (F := Ideal))) ⟨m, fun _ => 0, g⟩ (fun r => (∀ c : Dev Cert.RecurrenceSampleIdeal.nD,
      r.2.mem ((c.tc : Thread Cert.RecurrenceSampleIdeal.nD Cert.RecurrenceSampleIdeal.τ).loc Cert.RecurrenceSampleIdeal.main_arg0) = m ((c.tc : Thread Cert.RecurrenceSampleIdeal.nD Cert.RecurrenceSampleIdeal.τ).loc Cert.RecurrenceSampleIdeal.main_arg0)
      ∧ r.2.mem ((c.tc : Thread Cert.RecurrenceSampleIdeal.nD Cert.RecurrenceSampleIdeal.τ).loc Cert.RecurrenceSampleIdeal.main_arg1) = m ((c.tc : Thread Cert.RecurrenceSampleIdeal.nD Cert.RecurrenceSampleIdeal.τ).loc Cert.RecurrenceSampleIdeal.main_arg1)
      ∧ r.2.mem ((c.tc : Thread Cert.RecurrenceSampleIdeal.nD Cert.RecurrenceSampleIdeal.τ).loc Cert.RecurrenceSampleIdeal.main_arg2) = m ((c.tc : Thread Cert.RecurrenceSampleIdeal.nD Cert.RecurrenceSampleIdeal.τ).loc Cert.RecurrenceSampleIdeal.main_arg2)
      ∧ r.2.mem ((c.tc : Thread Cert.RecurrenceSampleIdeal.nD Cert.RecurrenceSampleIdeal.τ).loc Cert.RecurrenceSampleIdeal.main_arg3) = m ((c.tc : Thread Cert.RecurrenceSampleIdeal.nD Cert.RecurrenceSampleIdeal.τ).loc Cert.RecurrenceSampleIdeal.main_arg3)
      ∧ r.2.mem ((c.tc : Thread Cert.RecurrenceSampleIdeal.nD Cert.RecurrenceSampleIdeal.τ).loc Cert.RecurrenceSampleIdeal.main_arg4) = m ((c.tc : Thread Cert.RecurrenceSampleIdeal.nD Cert.RecurrenceSampleIdeal.τ).loc Cert.RecurrenceSampleIdeal.main_arg4)
      ∧ r.2.mem ((c.tc : Thread Cert.RecurrenceSampleIdeal.nD Cert.RecurrenceSampleIdeal.τ).loc Cert.RecurrenceSampleIdeal.main_arg5) = m ((c.tc : Thread Cert.RecurrenceSampleIdeal.nD Cert.RecurrenceSampleIdeal.τ).loc Cert.RecurrenceSampleIdeal.main_arg5)
      ∧ r.2.mem ((c.tc : Thread Cert.RecurrenceSampleIdeal.nD Cert.RecurrenceSampleIdeal.τ).loc Cert.RecurrenceSampleIdeal.main_arg6) = m ((c.tc : Thread Cert.RecurrenceSampleIdeal.nD Cert.RecurrenceSampleIdeal.τ).loc Cert.RecurrenceSampleIdeal.main_arg6))
      ∧ r.2.sem = fun _ => 0)

def quiescent_RecurrenceSampleIdeal_pre_finite_logits [hRecurrenceSampleIdeal : Cert.RecurrenceSampleIdeal.Facts] [hPre_finite_logits : Cert.Pre_finite_logits.Facts] : Prop :=
  ∀ (m : (ℓ : Loc Cert.RecurrenceSampleIdeal.nD Cert.RecurrenceSampleIdeal.τ Cert.RecurrenceSampleIdeal.sig) → Buf (Elt Ideal) ℓ) (g : Dev Cert.RecurrenceSampleIdeal.nD → PrngReg), Pre_RecurrenceSampleIdeal_finite_logits m →
    θ_run (Cert.RecurrenceSampleIdeal.defs (F := Ideal)) (onTc (τ := Cert.RecurrenceSampleIdeal.τ) (Cert.RecurrenceSampleIdeal.main (F := Ideal))) ⟨m, fun _ => 0, g⟩ (fun r => (∀ c : Dev Cert.RecurrenceSampleIdeal.nD,
      r.2.mem ((c.tc : Thread Cert.RecurrenceSampleIdeal.nD Cert.RecurrenceSampleIdeal.τ).loc Cert.RecurrenceSampleIdeal.main_arg0) = m ((c.tc : Thread Cert.RecurrenceSampleIdeal.nD Cert.RecurrenceSampleIdeal.τ).loc Cert.RecurrenceSampleIdeal.main_arg0)
      ∧ r.2.mem ((c.tc : Thread Cert.RecurrenceSampleIdeal.nD Cert.RecurrenceSampleIdeal.τ).loc Cert.RecurrenceSampleIdeal.main_arg1) = m ((c.tc : Thread Cert.RecurrenceSampleIdeal.nD Cert.RecurrenceSampleIdeal.τ).loc Cert.RecurrenceSampleIdeal.main_arg1)
      ∧ r.2.mem ((c.tc : Thread Cert.RecurrenceSampleIdeal.nD Cert.RecurrenceSampleIdeal.τ).loc Cert.RecurrenceSampleIdeal.main_arg2) = m ((c.tc : Thread Cert.RecurrenceSampleIdeal.nD Cert.RecurrenceSampleIdeal.τ).loc Cert.RecurrenceSampleIdeal.main_arg2)
      ∧ r.2.mem ((c.tc : Thread Cert.RecurrenceSampleIdeal.nD Cert.RecurrenceSampleIdeal.τ).loc Cert.RecurrenceSampleIdeal.main_arg3) = m ((c.tc : Thread Cert.RecurrenceSampleIdeal.nD Cert.RecurrenceSampleIdeal.τ).loc Cert.RecurrenceSampleIdeal.main_arg3)
      ∧ r.2.mem ((c.tc : Thread Cert.RecurrenceSampleIdeal.nD Cert.RecurrenceSampleIdeal.τ).loc Cert.RecurrenceSampleIdeal.main_arg4) = m ((c.tc : Thread Cert.RecurrenceSampleIdeal.nD Cert.RecurrenceSampleIdeal.τ).loc Cert.RecurrenceSampleIdeal.main_arg4)
      ∧ r.2.mem ((c.tc : Thread Cert.RecurrenceSampleIdeal.nD Cert.RecurrenceSampleIdeal.τ).loc Cert.RecurrenceSampleIdeal.main_arg5) = m ((c.tc : Thread Cert.RecurrenceSampleIdeal.nD Cert.RecurrenceSampleIdeal.τ).loc Cert.RecurrenceSampleIdeal.main_arg5)
      ∧ r.2.mem ((c.tc : Thread Cert.RecurrenceSampleIdeal.nD Cert.RecurrenceSampleIdeal.τ).loc Cert.RecurrenceSampleIdeal.main_arg6) = m ((c.tc : Thread Cert.RecurrenceSampleIdeal.nD Cert.RecurrenceSampleIdeal.τ).loc Cert.RecurrenceSampleIdeal.main_arg6))
      ∧ r.2.sem = fun _ => 0)

def quiescent_RecurrenceSampleReferenceIdeal [hRecurrenceSampleReferenceIdeal : Cert.RecurrenceSampleReferenceIdeal.Facts] : Prop :=
  ∀ (m : (ℓ : Loc Cert.RecurrenceSampleReferenceIdeal.nD Cert.RecurrenceSampleReferenceIdeal.τ Cert.RecurrenceSampleReferenceIdeal.sig) → Buf (Elt Ideal) ℓ) (g : Dev Cert.RecurrenceSampleReferenceIdeal.nD → PrngReg), Pre_RecurrenceSampleReferenceIdeal m →
    θ_run (Cert.RecurrenceSampleReferenceIdeal.defs (F := Ideal)) (onTc (τ := Cert.RecurrenceSampleReferenceIdeal.τ) (Cert.RecurrenceSampleReferenceIdeal.main (F := Ideal))) ⟨m, fun _ => 0, g⟩ (fun r => (∀ c : Dev Cert.RecurrenceSampleReferenceIdeal.nD,
      r.2.mem ((c.tc : Thread Cert.RecurrenceSampleReferenceIdeal.nD Cert.RecurrenceSampleReferenceIdeal.τ).loc Cert.RecurrenceSampleReferenceIdeal.main_arg0) = m ((c.tc : Thread Cert.RecurrenceSampleReferenceIdeal.nD Cert.RecurrenceSampleReferenceIdeal.τ).loc Cert.RecurrenceSampleReferenceIdeal.main_arg0)
      ∧ r.2.mem ((c.tc : Thread Cert.RecurrenceSampleReferenceIdeal.nD Cert.RecurrenceSampleReferenceIdeal.τ).loc Cert.RecurrenceSampleReferenceIdeal.main_arg1) = m ((c.tc : Thread Cert.RecurrenceSampleReferenceIdeal.nD Cert.RecurrenceSampleReferenceIdeal.τ).loc Cert.RecurrenceSampleReferenceIdeal.main_arg1)
      ∧ r.2.mem ((c.tc : Thread Cert.RecurrenceSampleReferenceIdeal.nD Cert.RecurrenceSampleReferenceIdeal.τ).loc Cert.RecurrenceSampleReferenceIdeal.main_arg2) = m ((c.tc : Thread Cert.RecurrenceSampleReferenceIdeal.nD Cert.RecurrenceSampleReferenceIdeal.τ).loc Cert.RecurrenceSampleReferenceIdeal.main_arg2)
      ∧ r.2.mem ((c.tc : Thread Cert.RecurrenceSampleReferenceIdeal.nD Cert.RecurrenceSampleReferenceIdeal.τ).loc Cert.RecurrenceSampleReferenceIdeal.main_arg3) = m ((c.tc : Thread Cert.RecurrenceSampleReferenceIdeal.nD Cert.RecurrenceSampleReferenceIdeal.τ).loc Cert.RecurrenceSampleReferenceIdeal.main_arg3)
      ∧ r.2.mem ((c.tc : Thread Cert.RecurrenceSampleReferenceIdeal.nD Cert.RecurrenceSampleReferenceIdeal.τ).loc Cert.RecurrenceSampleReferenceIdeal.main_arg4) = m ((c.tc : Thread Cert.RecurrenceSampleReferenceIdeal.nD Cert.RecurrenceSampleReferenceIdeal.τ).loc Cert.RecurrenceSampleReferenceIdeal.main_arg4)
      ∧ r.2.mem ((c.tc : Thread Cert.RecurrenceSampleReferenceIdeal.nD Cert.RecurrenceSampleReferenceIdeal.τ).loc Cert.RecurrenceSampleReferenceIdeal.main_arg5) = m ((c.tc : Thread Cert.RecurrenceSampleReferenceIdeal.nD Cert.RecurrenceSampleReferenceIdeal.τ).loc Cert.RecurrenceSampleReferenceIdeal.main_arg5)
      ∧ r.2.mem ((c.tc : Thread Cert.RecurrenceSampleReferenceIdeal.nD Cert.RecurrenceSampleReferenceIdeal.τ).loc Cert.RecurrenceSampleReferenceIdeal.main_arg6) = m ((c.tc : Thread Cert.RecurrenceSampleReferenceIdeal.nD Cert.RecurrenceSampleReferenceIdeal.τ).loc Cert.RecurrenceSampleReferenceIdeal.main_arg6))
      ∧ r.2.sem = fun _ => 0)

def quiescent_RecurrenceSampleReferenceIdeal_pre_finite_logits [hRecurrenceSampleReferenceIdeal : Cert.RecurrenceSampleReferenceIdeal.Facts] [hPre_finite_logits : Cert.Pre_finite_logits.Facts] : Prop :=
  ∀ (m : (ℓ : Loc Cert.RecurrenceSampleReferenceIdeal.nD Cert.RecurrenceSampleReferenceIdeal.τ Cert.RecurrenceSampleReferenceIdeal.sig) → Buf (Elt Ideal) ℓ) (g : Dev Cert.RecurrenceSampleReferenceIdeal.nD → PrngReg), Pre_RecurrenceSampleReferenceIdeal_finite_logits m →
    θ_run (Cert.RecurrenceSampleReferenceIdeal.defs (F := Ideal)) (onTc (τ := Cert.RecurrenceSampleReferenceIdeal.τ) (Cert.RecurrenceSampleReferenceIdeal.main (F := Ideal))) ⟨m, fun _ => 0, g⟩ (fun r => (∀ c : Dev Cert.RecurrenceSampleReferenceIdeal.nD,
      r.2.mem ((c.tc : Thread Cert.RecurrenceSampleReferenceIdeal.nD Cert.RecurrenceSampleReferenceIdeal.τ).loc Cert.RecurrenceSampleReferenceIdeal.main_arg0) = m ((c.tc : Thread Cert.RecurrenceSampleReferenceIdeal.nD Cert.RecurrenceSampleReferenceIdeal.τ).loc Cert.RecurrenceSampleReferenceIdeal.main_arg0)
      ∧ r.2.mem ((c.tc : Thread Cert.RecurrenceSampleReferenceIdeal.nD Cert.RecurrenceSampleReferenceIdeal.τ).loc Cert.RecurrenceSampleReferenceIdeal.main_arg1) = m ((c.tc : Thread Cert.RecurrenceSampleReferenceIdeal.nD Cert.RecurrenceSampleReferenceIdeal.τ).loc Cert.RecurrenceSampleReferenceIdeal.main_arg1)
      ∧ r.2.mem ((c.tc : Thread Cert.RecurrenceSampleReferenceIdeal.nD Cert.RecurrenceSampleReferenceIdeal.τ).loc Cert.RecurrenceSampleReferenceIdeal.main_arg2) = m ((c.tc : Thread Cert.RecurrenceSampleReferenceIdeal.nD Cert.RecurrenceSampleReferenceIdeal.τ).loc Cert.RecurrenceSampleReferenceIdeal.main_arg2)
      ∧ r.2.mem ((c.tc : Thread Cert.RecurrenceSampleReferenceIdeal.nD Cert.RecurrenceSampleReferenceIdeal.τ).loc Cert.RecurrenceSampleReferenceIdeal.main_arg3) = m ((c.tc : Thread Cert.RecurrenceSampleReferenceIdeal.nD Cert.RecurrenceSampleReferenceIdeal.τ).loc Cert.RecurrenceSampleReferenceIdeal.main_arg3)
      ∧ r.2.mem ((c.tc : Thread Cert.RecurrenceSampleReferenceIdeal.nD Cert.RecurrenceSampleReferenceIdeal.τ).loc Cert.RecurrenceSampleReferenceIdeal.main_arg4) = m ((c.tc : Thread Cert.RecurrenceSampleReferenceIdeal.nD Cert.RecurrenceSampleReferenceIdeal.τ).loc Cert.RecurrenceSampleReferenceIdeal.main_arg4)
      ∧ r.2.mem ((c.tc : Thread Cert.RecurrenceSampleReferenceIdeal.nD Cert.RecurrenceSampleReferenceIdeal.τ).loc Cert.RecurrenceSampleReferenceIdeal.main_arg5) = m ((c.tc : Thread Cert.RecurrenceSampleReferenceIdeal.nD Cert.RecurrenceSampleReferenceIdeal.τ).loc Cert.RecurrenceSampleReferenceIdeal.main_arg5)
      ∧ r.2.mem ((c.tc : Thread Cert.RecurrenceSampleReferenceIdeal.nD Cert.RecurrenceSampleReferenceIdeal.τ).loc Cert.RecurrenceSampleReferenceIdeal.main_arg6) = m ((c.tc : Thread Cert.RecurrenceSampleReferenceIdeal.nD Cert.RecurrenceSampleReferenceIdeal.τ).loc Cert.RecurrenceSampleReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)) →
    ∃ (v0 : (c : Dev Cert.ProjectionIdeal.nD) → Buf (Elt Ideal) ((c.tc : Thread Cert.ProjectionIdeal.nD Cert.ProjectionIdeal.τ).loc Cert.ProjectionIdeal.main_v2_0)) (v1 : (c : Dev Cert.ProjectionIdeal.nD) → Buf (Elt Ideal) ((c.tc : Thread Cert.ProjectionIdeal.nD Cert.ProjectionIdeal.τ).loc Cert.ProjectionIdeal.main_v2_1)) (v2 : (c : Dev Cert.ProjectionIdeal.nD) → Buf (Elt Ideal) ((c.tc : Thread Cert.ProjectionIdeal.nD Cert.ProjectionIdeal.τ).loc Cert.ProjectionIdeal.main_v2_2)) (v3 : (c : Dev Cert.ProjectionIdeal.nD) → Buf (Elt Ideal) ((c.tc : Thread Cert.ProjectionIdeal.nD Cert.ProjectionIdeal.τ).loc Cert.ProjectionIdeal.main_v2_3)) (v4 : (c : Dev Cert.ProjectionIdeal.nD) → Buf (Elt Ideal) ((c.tc : Thread Cert.ProjectionIdeal.nD Cert.ProjectionIdeal.τ).loc Cert.ProjectionIdeal.main_v2_4)) (v5 : (c : Dev Cert.ProjectionIdeal.nD) → Buf (Elt Ideal) ((c.tc : Thread Cert.ProjectionIdeal.nD Cert.ProjectionIdeal.τ).loc Cert.ProjectionIdeal.main_v2_5)) (v6 : (c : Dev Cert.ProjectionIdeal.nD) → Buf (Elt Ideal) ((c.tc : Thread Cert.ProjectionIdeal.nD Cert.ProjectionIdeal.τ).loc Cert.ProjectionIdeal.main_v2_6)) (v7 : (c : Dev Cert.ProjectionIdeal.nD) → Buf (Elt Ideal) ((c.tc : Thread Cert.ProjectionIdeal.nD Cert.ProjectionIdeal.τ).loc Cert.ProjectionIdeal.main_v2_7)) (v8 : (c : Dev Cert.ProjectionIdeal.nD) → Buf (Elt Ideal) ((c.tc : Thread Cert.ProjectionIdeal.nD Cert.ProjectionIdeal.τ).loc Cert.ProjectionIdeal.main_v2_8)) (v9 : (c : Dev Cert.ProjectionIdeal.nD) → Buf (Elt Ideal) ((c.tc : Thread Cert.ProjectionIdeal.nD Cert.ProjectionIdeal.τ).loc Cert.ProjectionIdeal.main_v2_9)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v2_0) = v0 c
          ∧ r.2.mem ((c.tc : Thread Cert.ProjectionIdeal.nD Cert.ProjectionIdeal.τ).loc Cert.ProjectionIdeal.main_v2_1) = v1 c
          ∧ r.2.mem ((c.tc : Thread Cert.ProjectionIdeal.nD Cert.ProjectionIdeal.τ).loc Cert.ProjectionIdeal.main_v2_2) = v2 c
          ∧ r.2.mem ((c.tc : Thread Cert.ProjectionIdeal.nD Cert.ProjectionIdeal.τ).loc Cert.ProjectionIdeal.main_v2_3) = v3 c
          ∧ r.2.mem ((c.tc : Thread Cert.ProjectionIdeal.nD Cert.ProjectionIdeal.τ).loc Cert.ProjectionIdeal.main_v2_4) = v4 c
          ∧ r.2.mem ((c.tc : Thread Cert.ProjectionIdeal.nD Cert.ProjectionIdeal.τ).loc Cert.ProjectionIdeal.main_v2_5) = v5 c
          ∧ r.2.mem ((c.tc : Thread Cert.ProjectionIdeal.nD Cert.ProjectionIdeal.τ).loc Cert.ProjectionIdeal.main_v2_6) = v6 c
          ∧ r.2.mem ((c.tc : Thread Cert.ProjectionIdeal.nD Cert.ProjectionIdeal.τ).loc Cert.ProjectionIdeal.main_v2_7) = v7 c
          ∧ r.2.mem ((c.tc : Thread Cert.ProjectionIdeal.nD Cert.ProjectionIdeal.τ).loc Cert.ProjectionIdeal.main_v2_8) = v8 c
          ∧ r.2.mem ((c.tc : Thread Cert.ProjectionIdeal.nD Cert.ProjectionIdeal.τ).loc Cert.ProjectionIdeal.main_v2_9) = v9 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v14) = v0 c
          ∧ r.2.mem ((c.tc : Thread Cert.ProjectionReferenceIdeal.nD Cert.ProjectionReferenceIdeal.τ).loc Cert.ProjectionReferenceIdeal.main_v15) = v1 c
          ∧ r.2.mem ((c.tc : Thread Cert.ProjectionReferenceIdeal.nD Cert.ProjectionReferenceIdeal.τ).loc Cert.ProjectionReferenceIdeal.main_v16) = v2 c
          ∧ r.2.mem ((c.tc : Thread Cert.ProjectionReferenceIdeal.nD Cert.ProjectionReferenceIdeal.τ).loc Cert.ProjectionReferenceIdeal.main_v18) = v3 c
          ∧ r.2.mem ((c.tc : Thread Cert.ProjectionReferenceIdeal.nD Cert.ProjectionReferenceIdeal.τ).loc Cert.ProjectionReferenceIdeal.main_v19) = v4 c
          ∧ r.2.mem ((c.tc : Thread Cert.ProjectionReferenceIdeal.nD Cert.ProjectionReferenceIdeal.τ).loc Cert.ProjectionReferenceIdeal.main_v7) = v5 c
          ∧ r.2.mem ((c.tc : Thread Cert.ProjectionReferenceIdeal.nD Cert.ProjectionReferenceIdeal.τ).loc Cert.ProjectionReferenceIdeal.main_v20) = v6 c
          ∧ r.2.mem ((c.tc : Thread Cert.ProjectionReferenceIdeal.nD Cert.ProjectionReferenceIdeal.τ).loc Cert.ProjectionReferenceIdeal.main_v21) = v7 c
          ∧ r.2.mem ((c.tc : Thread Cert.ProjectionReferenceIdeal.nD Cert.ProjectionReferenceIdeal.τ).loc Cert.ProjectionReferenceIdeal.main_v24) = v8 c
          ∧ r.2.mem ((c.tc : Thread Cert.ProjectionReferenceIdeal.nD Cert.ProjectionReferenceIdeal.τ).loc Cert.ProjectionReferenceIdeal.main_v27) = v9 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)) →
    ∃ (v0 : (c : Dev Cert.OutputIdeal.nD) → Buf (Elt Ideal) ((c.tc : Thread Cert.OutputIdeal.nD Cert.OutputIdeal.τ).loc Cert.OutputIdeal.main_v10)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v10) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v32) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5))

def preserves_ProjectionSample_ProjectionSampleIdeal : Prop :=
  True

def algebraic_ProjectionSampleIdeal_ProjectionSampleReferenceIdeal [hProjectionSampleIdeal : Cert.ProjectionSampleIdeal.Facts] [hProjectionSampleReferenceIdeal : Cert.ProjectionSampleReferenceIdeal.Facts] : Prop :=
  ∀ (m : (ℓ : Loc Cert.ProjectionSampleIdeal.nD Cert.ProjectionSampleIdeal.τ Cert.ProjectionSampleIdeal.sig) → Buf (Elt Ideal) ℓ) (g : Dev Cert.ProjectionSampleIdeal.nD → PrngReg)
    (m' : (ℓ : Loc Cert.ProjectionSampleReferenceIdeal.nD Cert.ProjectionSampleReferenceIdeal.τ Cert.ProjectionSampleReferenceIdeal.sig) → Buf (Elt Ideal) ℓ) (g' : Dev Cert.ProjectionSampleReferenceIdeal.nD → PrngReg), Pre_ProjectionSampleIdeal m →
    (∀ c : Dev Cert.ProjectionSampleIdeal.nD,
      m' ((c.tc : Thread Cert.ProjectionSampleReferenceIdeal.nD Cert.ProjectionSampleReferenceIdeal.τ).loc Cert.ProjectionSampleReferenceIdeal.main_arg0) = m ((c.tc : Thread Cert.ProjectionSampleIdeal.nD Cert.ProjectionSampleIdeal.τ).loc Cert.ProjectionSampleIdeal.main_arg0)
      ∧ m' ((c.tc : Thread Cert.ProjectionSampleReferenceIdeal.nD Cert.ProjectionSampleReferenceIdeal.τ).loc Cert.ProjectionSampleReferenceIdeal.main_arg1) = m ((c.tc : Thread Cert.ProjectionSampleIdeal.nD Cert.ProjectionSampleIdeal.τ).loc Cert.ProjectionSampleIdeal.main_arg1)) →
    ∃ (v0 : (c : Dev Cert.ProjectionSampleIdeal.nD) → Buf (Elt Ideal) ((c.tc : Thread Cert.ProjectionSampleIdeal.nD Cert.ProjectionSampleIdeal.τ).loc Cert.ProjectionSampleIdeal.main_v2_0)) (v1 : (c : Dev Cert.ProjectionSampleIdeal.nD) → Buf (Elt Ideal) ((c.tc : Thread Cert.ProjectionSampleIdeal.nD Cert.ProjectionSampleIdeal.τ).loc Cert.ProjectionSampleIdeal.main_v2_1)) (v2 : (c : Dev Cert.ProjectionSampleIdeal.nD) → Buf (Elt Ideal) ((c.tc : Thread Cert.ProjectionSampleIdeal.nD Cert.ProjectionSampleIdeal.τ).loc Cert.ProjectionSampleIdeal.main_v2_2)) (v3 : (c : Dev Cert.ProjectionSampleIdeal.nD) → Buf (Elt Ideal) ((c.tc : Thread Cert.ProjectionSampleIdeal.nD Cert.ProjectionSampleIdeal.τ).loc Cert.ProjectionSampleIdeal.main_v2_3)) (v4 : (c : Dev Cert.ProjectionSampleIdeal.nD) → Buf (Elt Ideal) ((c.tc : Thread Cert.ProjectionSampleIdeal.nD Cert.ProjectionSampleIdeal.τ).loc Cert.ProjectionSampleIdeal.main_v2_4)) (v5 : (c : Dev Cert.ProjectionSampleIdeal.nD) → Buf (Elt Ideal) ((c.tc : Thread Cert.ProjectionSampleIdeal.nD Cert.ProjectionSampleIdeal.τ).loc Cert.ProjectionSampleIdeal.main_v2_5)) (v6 : (c : Dev Cert.ProjectionSampleIdeal.nD) → Buf (Elt Ideal) ((c.tc : Thread Cert.ProjectionSampleIdeal.nD Cert.ProjectionSampleIdeal.τ).loc Cert.ProjectionSampleIdeal.main_v2_6)) (v7 : (c : Dev Cert.ProjectionSampleIdeal.nD) → Buf (Elt Ideal) ((c.tc : Thread Cert.ProjectionSampleIdeal.nD Cert.ProjectionSampleIdeal.τ).loc Cert.ProjectionSampleIdeal.main_v2_7)) (v8 : (c : Dev Cert.ProjectionSampleIdeal.nD) → Buf (Elt Ideal) ((c.tc : Thread Cert.ProjectionSampleIdeal.nD Cert.ProjectionSampleIdeal.τ).loc Cert.ProjectionSampleIdeal.main_v2_8)) (v9 : (c : Dev Cert.ProjectionSampleIdeal.nD) → Buf (Elt Ideal) ((c.tc : Thread Cert.ProjectionSampleIdeal.nD Cert.ProjectionSampleIdeal.τ).loc Cert.ProjectionSampleIdeal.main_v2_9)),
      θ_run (Cert.ProjectionSampleIdeal.defs (F := Ideal)) (onTc (τ := Cert.ProjectionSampleIdeal.τ) (Cert.ProjectionSampleIdeal.main (F := Ideal))) ⟨m, fun _ => 0, g⟩ (fun r => ∀ c : Dev Cert.ProjectionSampleIdeal.nD,
          r.2.mem ((c.tc : Thread Cert.ProjectionSampleIdeal.nD Cert.ProjectionSampleIdeal.τ).loc Cert.ProjectionSampleIdeal.main_v2_0) = v0 c
          ∧ r.2.mem ((c.tc : Thread Cert.ProjectionSampleIdeal.nD Cert.ProjectionSampleIdeal.τ).loc Cert.ProjectionSampleIdeal.main_v2_1) = v1 c
          ∧ r.2.mem ((c.tc : Thread Cert.ProjectionSampleIdeal.nD Cert.ProjectionSampleIdeal.τ).loc Cert.ProjectionSampleIdeal.main_v2_2) = v2 c
          ∧ r.2.mem ((c.tc : Thread Cert.ProjectionSampleIdeal.nD Cert.ProjectionSampleIdeal.τ).loc Cert.ProjectionSampleIdeal.main_v2_3) = v3 c
          ∧ r.2.mem ((c.tc : Thread Cert.ProjectionSampleIdeal.nD Cert.ProjectionSampleIdeal.τ).loc Cert.ProjectionSampleIdeal.main_v2_4) = v4 c
          ∧ r.2.mem ((c.tc : Thread Cert.ProjectionSampleIdeal.nD Cert.ProjectionSampleIdeal.τ).loc Cert.ProjectionSampleIdeal.main_v2_5) = v5 c
          ∧ r.2.mem ((c.tc : Thread Cert.ProjectionSampleIdeal.nD Cert.ProjectionSampleIdeal.τ).loc Cert.ProjectionSampleIdeal.main_v2_6) = v6 c
          ∧ r.2.mem ((c.tc : Thread Cert.ProjectionSampleIdeal.nD Cert.ProjectionSampleIdeal.τ).loc Cert.ProjectionSampleIdeal.main_v2_7) = v7 c
          ∧ r.2.mem ((c.tc : Thread Cert.ProjectionSampleIdeal.nD Cert.ProjectionSampleIdeal.τ).loc Cert.ProjectionSampleIdeal.main_v2_8) = v8 c
          ∧ r.2.mem ((c.tc : Thread Cert.ProjectionSampleIdeal.nD Cert.ProjectionSampleIdeal.τ).loc Cert.ProjectionSampleIdeal.main_v2_9) = v9 c
          ∧ r.2.mem ((c.tc : Thread Cert.ProjectionSampleIdeal.nD Cert.ProjectionSampleIdeal.τ).loc Cert.ProjectionSampleIdeal.main_arg0) = m ((c.tc : Thread Cert.ProjectionSampleIdeal.nD Cert.ProjectionSampleIdeal.τ).loc Cert.ProjectionSampleIdeal.main_arg0)
          ∧ r.2.mem ((c.tc : Thread Cert.ProjectionSampleIdeal.nD Cert.ProjectionSampleIdeal.τ).loc Cert.ProjectionSampleIdeal.main_arg1) = m ((c.tc : Thread Cert.ProjectionSampleIdeal.nD Cert.ProjectionSampleIdeal.τ).loc Cert.ProjectionSampleIdeal.main_arg1))
      ∧ θ_run (Cert.ProjectionSampleReferenceIdeal.defs (F := Ideal)) (onTc (τ := Cert.ProjectionSampleReferenceIdeal.τ) (Cert.ProjectionSampleReferenceIdeal.main (F := Ideal))) ⟨m', fun _ => 0, g'⟩ (fun r => ∀ c : Dev Cert.ProjectionSampleReferenceIdeal.nD,
          r.2.mem ((c.tc : Thread Cert.ProjectionSampleReferenceIdeal.nD Cert.ProjectionSampleReferenceIdeal.τ).loc Cert.ProjectionSampleReferenceIdeal.main_v12) = v0 c
          ∧ r.2.mem ((c.tc : Thread Cert.ProjectionSampleReferenceIdeal.nD Cert.ProjectionSampleReferenceIdeal.τ).loc Cert.ProjectionSampleReferenceIdeal.main_v13) = v1 c
          ∧ r.2.mem ((c.tc : Thread Cert.ProjectionSampleReferenceIdeal.nD Cert.ProjectionSampleReferenceIdeal.τ).loc Cert.ProjectionSampleReferenceIdeal.main_v14) = v2 c
          ∧ r.2.mem ((c.tc : Thread Cert.ProjectionSampleReferenceIdeal.nD Cert.ProjectionSampleReferenceIdeal.τ).loc Cert.ProjectionSampleReferenceIdeal.main_v16) = v3 c
          ∧ r.2.mem ((c.tc : Thread Cert.ProjectionSampleReferenceIdeal.nD Cert.ProjectionSampleReferenceIdeal.τ).loc Cert.ProjectionSampleReferenceIdeal.main_v17) = v4 c
          ∧ r.2.mem ((c.tc : Thread Cert.ProjectionSampleReferenceIdeal.nD Cert.ProjectionSampleReferenceIdeal.τ).loc Cert.ProjectionSampleReferenceIdeal.main_v7) = v5 c
          ∧ r.2.mem ((c.tc : Thread Cert.ProjectionSampleReferenceIdeal.nD Cert.ProjectionSampleReferenceIdeal.τ).loc Cert.ProjectionSampleReferenceIdeal.main_v18) = v6 c
          ∧ r.2.mem ((c.tc : Thread Cert.ProjectionSampleReferenceIdeal.nD Cert.ProjectionSampleReferenceIdeal.τ).loc Cert.ProjectionSampleReferenceIdeal.main_v19) = v7 c
          ∧ r.2.mem ((c.tc : Thread Cert.ProjectionSampleReferenceIdeal.nD Cert.ProjectionSampleReferenceIdeal.τ).loc Cert.ProjectionSampleReferenceIdeal.main_v22) = v8 c
          ∧ r.2.mem ((c.tc : Thread Cert.ProjectionSampleReferenceIdeal.nD Cert.ProjectionSampleReferenceIdeal.τ).loc Cert.ProjectionSampleReferenceIdeal.main_v25) = v9 c
          ∧ r.2.mem ((c.tc : Thread Cert.ProjectionSampleReferenceIdeal.nD Cert.ProjectionSampleReferenceIdeal.τ).loc Cert.ProjectionSampleReferenceIdeal.main_arg0) = m' ((c.tc : Thread Cert.ProjectionSampleReferenceIdeal.nD Cert.ProjectionSampleReferenceIdeal.τ).loc Cert.ProjectionSampleReferenceIdeal.main_arg0)
          ∧ r.2.mem ((c.tc : Thread Cert.ProjectionSampleReferenceIdeal.nD Cert.ProjectionSampleReferenceIdeal.τ).loc Cert.ProjectionSampleReferenceIdeal.main_arg1) = m' ((c.tc : Thread Cert.ProjectionSampleReferenceIdeal.nD Cert.ProjectionSampleReferenceIdeal.τ).loc Cert.ProjectionSampleReferenceIdeal.main_arg1))

def preserves_OutputSample_OutputSampleIdeal : Prop :=
  True

def algebraic_OutputSampleIdeal_OutputSampleReferenceIdeal [hOutputSampleIdeal : Cert.OutputSampleIdeal.Facts] [hOutputSampleReferenceIdeal : Cert.OutputSampleReferenceIdeal.Facts] : Prop :=
  ∀ (m : (ℓ : Loc Cert.OutputSampleIdeal.nD Cert.OutputSampleIdeal.τ Cert.OutputSampleIdeal.sig) → Buf (Elt Ideal) ℓ) (g : Dev Cert.OutputSampleIdeal.nD → PrngReg)
    (m' : (ℓ : Loc Cert.OutputSampleReferenceIdeal.nD Cert.OutputSampleReferenceIdeal.τ Cert.OutputSampleReferenceIdeal.sig) → Buf (Elt Ideal) ℓ) (g' : Dev Cert.OutputSampleReferenceIdeal.nD → PrngReg), Pre_OutputSampleIdeal m →
    (∀ c : Dev Cert.OutputSampleIdeal.nD,
      m' ((c.tc : Thread Cert.OutputSampleReferenceIdeal.nD Cert.OutputSampleReferenceIdeal.τ).loc Cert.OutputSampleReferenceIdeal.main_arg0) = m ((c.tc : Thread Cert.OutputSampleIdeal.nD Cert.OutputSampleIdeal.τ).loc Cert.OutputSampleIdeal.main_arg0)
      ∧ m' ((c.tc : Thread Cert.OutputSampleReferenceIdeal.nD Cert.OutputSampleReferenceIdeal.τ).loc Cert.OutputSampleReferenceIdeal.main_arg1) = m ((c.tc : Thread Cert.OutputSampleIdeal.nD Cert.OutputSampleIdeal.τ).loc Cert.OutputSampleIdeal.main_arg1)
      ∧ m' ((c.tc : Thread Cert.OutputSampleReferenceIdeal.nD Cert.OutputSampleReferenceIdeal.τ).loc Cert.OutputSampleReferenceIdeal.main_arg2) = m ((c.tc : Thread Cert.OutputSampleIdeal.nD Cert.OutputSampleIdeal.τ).loc Cert.OutputSampleIdeal.main_arg2)
      ∧ m' ((c.tc : Thread Cert.OutputSampleReferenceIdeal.nD Cert.OutputSampleReferenceIdeal.τ).loc Cert.OutputSampleReferenceIdeal.main_arg3) = m ((c.tc : Thread Cert.OutputSampleIdeal.nD Cert.OutputSampleIdeal.τ).loc Cert.OutputSampleIdeal.main_arg3)
      ∧ m' ((c.tc : Thread Cert.OutputSampleReferenceIdeal.nD Cert.OutputSampleReferenceIdeal.τ).loc Cert.OutputSampleReferenceIdeal.main_arg4) = m ((c.tc : Thread Cert.OutputSampleIdeal.nD Cert.OutputSampleIdeal.τ).loc Cert.OutputSampleIdeal.main_arg4)
      ∧ m' ((c.tc : Thread Cert.OutputSampleReferenceIdeal.nD Cert.OutputSampleReferenceIdeal.τ).loc Cert.OutputSampleReferenceIdeal.main_arg5) = m ((c.tc : Thread Cert.OutputSampleIdeal.nD Cert.OutputSampleIdeal.τ).loc Cert.OutputSampleIdeal.main_arg5)) →
    ∃ (v0 : (c : Dev Cert.OutputSampleIdeal.nD) → Buf (Elt Ideal) ((c.tc : Thread Cert.OutputSampleIdeal.nD Cert.OutputSampleIdeal.τ).loc Cert.OutputSampleIdeal.main_v10)),
      θ_run (Cert.OutputSampleIdeal.defs (F := Ideal)) (onTc (τ := Cert.OutputSampleIdeal.τ) (Cert.OutputSampleIdeal.main (F := Ideal))) ⟨m, fun _ => 0, g⟩ (fun r => ∀ c : Dev Cert.OutputSampleIdeal.nD,
          r.2.mem ((c.tc : Thread Cert.OutputSampleIdeal.nD Cert.OutputSampleIdeal.τ).loc Cert.OutputSampleIdeal.main_v10) = v0 c
          ∧ r.2.mem ((c.tc : Thread Cert.OutputSampleIdeal.nD Cert.OutputSampleIdeal.τ).loc Cert.OutputSampleIdeal.main_arg0) = m ((c.tc : Thread Cert.OutputSampleIdeal.nD Cert.OutputSampleIdeal.τ).loc Cert.OutputSampleIdeal.main_arg0)
          ∧ r.2.mem ((c.tc : Thread Cert.OutputSampleIdeal.nD Cert.OutputSampleIdeal.τ).loc Cert.OutputSampleIdeal.main_arg1) = m ((c.tc : Thread Cert.OutputSampleIdeal.nD Cert.OutputSampleIdeal.τ).loc Cert.OutputSampleIdeal.main_arg1)
          ∧ r.2.mem ((c.tc : Thread Cert.OutputSampleIdeal.nD Cert.OutputSampleIdeal.τ).loc Cert.OutputSampleIdeal.main_arg2) = m ((c.tc : Thread Cert.OutputSampleIdeal.nD Cert.OutputSampleIdeal.τ).loc Cert.OutputSampleIdeal.main_arg2)
          ∧ r.2.mem ((c.tc : Thread Cert.OutputSampleIdeal.nD Cert.OutputSampleIdeal.τ).loc Cert.OutputSampleIdeal.main_arg3) = m ((c.tc : Thread Cert.OutputSampleIdeal.nD Cert.OutputSampleIdeal.τ).loc Cert.OutputSampleIdeal.main_arg3)
          ∧ r.2.mem ((c.tc : Thread Cert.OutputSampleIdeal.nD Cert.OutputSampleIdeal.τ).loc Cert.OutputSampleIdeal.main_arg4) = m ((c.tc : Thread Cert.OutputSampleIdeal.nD Cert.OutputSampleIdeal.τ).loc Cert.OutputSampleIdeal.main_arg4)
          ∧ r.2.mem ((c.tc : Thread Cert.OutputSampleIdeal.nD Cert.OutputSampleIdeal.τ).loc Cert.OutputSampleIdeal.main_arg5) = m ((c.tc : Thread Cert.OutputSampleIdeal.nD Cert.OutputSampleIdeal.τ).loc Cert.OutputSampleIdeal.main_arg5))
      ∧ θ_run (Cert.OutputSampleReferenceIdeal.defs (F := Ideal)) (onTc (τ := Cert.OutputSampleReferenceIdeal.τ) (Cert.OutputSampleReferenceIdeal.main (F := Ideal))) ⟨m', fun _ => 0, g'⟩ (fun r => ∀ c : Dev Cert.OutputSampleReferenceIdeal.nD,
          r.2.mem ((c.tc : Thread Cert.OutputSampleReferenceIdeal.nD Cert.OutputSampleReferenceIdeal.τ).loc Cert.OutputSampleReferenceIdeal.main_v32) = v0 c
          ∧ r.2.mem ((c.tc : Thread Cert.OutputSampleReferenceIdeal.nD Cert.OutputSampleReferenceIdeal.τ).loc Cert.OutputSampleReferenceIdeal.main_arg0) = m' ((c.tc : Thread Cert.OutputSampleReferenceIdeal.nD Cert.OutputSampleReferenceIdeal.τ).loc Cert.OutputSampleReferenceIdeal.main_arg0)
          ∧ r.2.mem ((c.tc : Thread Cert.OutputSampleReferenceIdeal.nD Cert.OutputSampleReferenceIdeal.τ).loc Cert.OutputSampleReferenceIdeal.main_arg1) = m' ((c.tc : Thread Cert.OutputSampleReferenceIdeal.nD Cert.OutputSampleReferenceIdeal.τ).loc Cert.OutputSampleReferenceIdeal.main_arg1)
          ∧ r.2.mem ((c.tc : Thread Cert.OutputSampleReferenceIdeal.nD Cert.OutputSampleReferenceIdeal.τ).loc Cert.OutputSampleReferenceIdeal.main_arg2) = m' ((c.tc : Thread Cert.OutputSampleReferenceIdeal.nD Cert.OutputSampleReferenceIdeal.τ).loc Cert.OutputSampleReferenceIdeal.main_arg2)
          ∧ r.2.mem ((c.tc : Thread Cert.OutputSampleReferenceIdeal.nD Cert.OutputSampleReferenceIdeal.τ).loc Cert.OutputSampleReferenceIdeal.main_arg3) = m' ((c.tc : Thread Cert.OutputSampleReferenceIdeal.nD Cert.OutputSampleReferenceIdeal.τ).loc Cert.OutputSampleReferenceIdeal.main_arg3)
          ∧ r.2.mem ((c.tc : Thread Cert.OutputSampleReferenceIdeal.nD Cert.OutputSampleReferenceIdeal.τ).loc Cert.OutputSampleReferenceIdeal.main_arg4) = m' ((c.tc : Thread Cert.OutputSampleReferenceIdeal.nD Cert.OutputSampleReferenceIdeal.τ).loc Cert.OutputSampleReferenceIdeal.main_arg4)
          ∧ r.2.mem ((c.tc : Thread Cert.OutputSampleReferenceIdeal.nD Cert.OutputSampleReferenceIdeal.τ).loc Cert.OutputSampleReferenceIdeal.main_arg5) = m' ((c.tc : Thread Cert.OutputSampleReferenceIdeal.nD Cert.OutputSampleReferenceIdeal.τ).loc Cert.OutputSampleReferenceIdeal.main_arg5))

def preserves_Decode_DecodeIdeal : Prop :=
  True

def algebraic_DecodeIdeal_DecodeReferenceIdeal [hDecodeIdeal : Cert.DecodeIdeal.Facts] [hDecodeReferenceIdeal : Cert.DecodeReferenceIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeReferenceIdeal.nD Cert.DecodeReferenceIdeal.τ Cert.DecodeReferenceIdeal.sig) → Buf (Elt Ideal) ℓ) (g' : Dev Cert.DecodeReferenceIdeal.nD → PrngReg), Pre_DecodeIdeal m →
    (∀ c : Dev Cert.DecodeIdeal.nD,
      m' ((c.tc : Thread Cert.DecodeReferenceIdeal.nD Cert.DecodeReferenceIdeal.τ).loc Cert.DecodeReferenceIdeal.main_arg0) = m ((c.tc : Thread Cert.DecodeIdeal.nD Cert.DecodeIdeal.τ).loc Cert.DecodeIdeal.main_arg0)
      ∧ m' ((c.tc : Thread Cert.DecodeReferenceIdeal.nD Cert.DecodeReferenceIdeal.τ).loc Cert.DecodeReferenceIdeal.main_arg1) = m ((c.tc : Thread Cert.DecodeIdeal.nD Cert.DecodeIdeal.τ).loc Cert.DecodeIdeal.main_arg1)
      ∧ m' ((c.tc : Thread Cert.DecodeReferenceIdeal.nD Cert.DecodeReferenceIdeal.τ).loc Cert.DecodeReferenceIdeal.main_arg2) = m ((c.tc : Thread Cert.DecodeIdeal.nD Cert.DecodeIdeal.τ).loc Cert.DecodeIdeal.main_arg2)
      ∧ m' ((c.tc : Thread Cert.DecodeReferenceIdeal.nD Cert.DecodeReferenceIdeal.τ).loc Cert.DecodeReferenceIdeal.main_arg3) = m ((c.tc : Thread Cert.DecodeIdeal.nD Cert.DecodeIdeal.τ).loc Cert.DecodeIdeal.main_arg3)
      ∧ m' ((c.tc : Thread Cert.DecodeReferenceIdeal.nD Cert.DecodeReferenceIdeal.τ).loc Cert.DecodeReferenceIdeal.main_arg4) = m ((c.tc : Thread Cert.DecodeIdeal.nD Cert.DecodeIdeal.τ).loc Cert.DecodeIdeal.main_arg4)
      ∧ m' ((c.tc : Thread Cert.DecodeReferenceIdeal.nD Cert.DecodeReferenceIdeal.τ).loc Cert.DecodeReferenceIdeal.main_arg5) = m ((c.tc : Thread Cert.DecodeIdeal.nD Cert.DecodeIdeal.τ).loc Cert.DecodeIdeal.main_arg5)) →
    ∃ (v0 : (c : Dev Cert.DecodeIdeal.nD) → Buf (Elt Ideal) ((c.tc : Thread Cert.DecodeIdeal.nD Cert.DecodeIdeal.τ).loc Cert.DecodeIdeal.main_v0)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v0) = v0 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
          ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
          ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5))
      ∧ θ_run (Cert.DecodeReferenceIdeal.defs (F := Ideal)) (onTc (τ := Cert.DecodeReferenceIdeal.τ) (Cert.DecodeReferenceIdeal.main (F := Ideal))) ⟨m', fun _ => 0, g'⟩ (fun r => ∀ c : Dev Cert.DecodeReferenceIdeal.nD,
          r.2.mem ((c.tc : Thread Cert.DecodeReferenceIdeal.nD Cert.DecodeReferenceIdeal.τ).loc Cert.DecodeReferenceIdeal.main_v37) = v0 c
          ∧ r.2.mem ((c.tc : Thread Cert.DecodeReferenceIdeal.nD Cert.DecodeReferenceIdeal.τ).loc Cert.DecodeReferenceIdeal.main_arg0) = m' ((c.tc : Thread Cert.DecodeReferenceIdeal.nD Cert.DecodeReferenceIdeal.τ).loc Cert.DecodeReferenceIdeal.main_arg0)
          ∧ r.2.mem ((c.tc : Thread Cert.DecodeReferenceIdeal.nD Cert.DecodeReferenceIdeal.τ).loc Cert.DecodeReferenceIdeal.main_arg1) = m' ((c.tc : Thread Cert.DecodeReferenceIdeal.nD Cert.DecodeReferenceIdeal.τ).loc Cert.DecodeReferenceIdeal.main_arg1)
          ∧ r.2.mem ((c.tc : Thread Cert.DecodeReferenceIdeal.nD Cert.DecodeReferenceIdeal.τ).loc Cert.DecodeReferenceIdeal.main_arg2) = m' ((c.tc : Thread Cert.DecodeReferenceIdeal.nD Cert.DecodeReferenceIdeal.τ).loc Cert.DecodeReferenceIdeal.main_arg2)
          ∧ r.2.mem ((c.tc : Thread Cert.DecodeReferenceIdeal.nD Cert.DecodeReferenceIdeal.τ).loc Cert.DecodeReferenceIdeal.main_arg3) = m' ((c.tc : Thread Cert.DecodeReferenceIdeal.nD Cert.DecodeReferenceIdeal.τ).loc Cert.DecodeReferenceIdeal.main_arg3)
          ∧ r.2.mem ((c.tc : Thread Cert.DecodeReferenceIdeal.nD Cert.DecodeReferenceIdeal.τ).loc Cert.DecodeReferenceIdeal.main_arg4) = m' ((c.tc : Thread Cert.DecodeReferenceIdeal.nD Cert.DecodeReferenceIdeal.τ).loc Cert.DecodeReferenceIdeal.main_arg4)
          ∧ r.2.mem ((c.tc : Thread Cert.DecodeReferenceIdeal.nD Cert.DecodeReferenceIdeal.τ).loc Cert.DecodeReferenceIdeal.main_arg5) = m' ((c.tc : Thread Cert.DecodeReferenceIdeal.nD Cert.DecodeReferenceIdeal.τ).loc Cert.DecodeReferenceIdeal.main_arg5))

def preserves_RecurrenceSample_RecurrenceSampleIdeal : Prop :=
  True

def algebraic_RecurrenceSampleIdeal_RecurrenceSampleReferenceIdeal_pre_finite_logits [hRecurrenceSampleIdeal : Cert.RecurrenceSampleIdeal.Facts] [hRecurrenceSampleReferenceIdeal : Cert.RecurrenceSampleReferenceIdeal.Facts] [hPre_finite_logits : Cert.Pre_finite_logits.Facts] : Prop :=
  ∀ (m : (ℓ : Loc Cert.RecurrenceSampleIdeal.nD Cert.RecurrenceSampleIdeal.τ Cert.RecurrenceSampleIdeal.sig) → Buf (Elt Ideal) ℓ) (g : Dev Cert.RecurrenceSampleIdeal.nD → PrngReg)
    (m' : (ℓ : Loc Cert.RecurrenceSampleReferenceIdeal.nD Cert.RecurrenceSampleReferenceIdeal.τ Cert.RecurrenceSampleReferenceIdeal.sig) → Buf (Elt Ideal) ℓ) (g' : Dev Cert.RecurrenceSampleReferenceIdeal.nD → PrngReg), Pre_RecurrenceSampleIdeal_finite_logits m →
    (∀ c : Dev Cert.RecurrenceSampleIdeal.nD,
      m' ((c.tc : Thread Cert.RecurrenceSampleReferenceIdeal.nD Cert.RecurrenceSampleReferenceIdeal.τ).loc Cert.RecurrenceSampleReferenceIdeal.main_arg0) = m ((c.tc : Thread Cert.RecurrenceSampleIdeal.nD Cert.RecurrenceSampleIdeal.τ).loc Cert.RecurrenceSampleIdeal.main_arg0)
      ∧ m' ((c.tc : Thread Cert.RecurrenceSampleReferenceIdeal.nD Cert.RecurrenceSampleReferenceIdeal.τ).loc Cert.RecurrenceSampleReferenceIdeal.main_arg1) = m ((c.tc : Thread Cert.RecurrenceSampleIdeal.nD Cert.RecurrenceSampleIdeal.τ).loc Cert.RecurrenceSampleIdeal.main_arg1)
      ∧ m' ((c.tc : Thread Cert.RecurrenceSampleReferenceIdeal.nD Cert.RecurrenceSampleReferenceIdeal.τ).loc Cert.RecurrenceSampleReferenceIdeal.main_arg2) = m ((c.tc : Thread Cert.RecurrenceSampleIdeal.nD Cert.RecurrenceSampleIdeal.τ).loc Cert.RecurrenceSampleIdeal.main_arg2)
      ∧ m' ((c.tc : Thread Cert.RecurrenceSampleReferenceIdeal.nD Cert.RecurrenceSampleReferenceIdeal.τ).loc Cert.RecurrenceSampleReferenceIdeal.main_arg3) = m ((c.tc : Thread Cert.RecurrenceSampleIdeal.nD Cert.RecurrenceSampleIdeal.τ).loc Cert.RecurrenceSampleIdeal.main_arg3)
      ∧ m' ((c.tc : Thread Cert.RecurrenceSampleReferenceIdeal.nD Cert.RecurrenceSampleReferenceIdeal.τ).loc Cert.RecurrenceSampleReferenceIdeal.main_arg4) = m ((c.tc : Thread Cert.RecurrenceSampleIdeal.nD Cert.RecurrenceSampleIdeal.τ).loc Cert.RecurrenceSampleIdeal.main_arg4)
      ∧ m' ((c.tc : Thread Cert.RecurrenceSampleReferenceIdeal.nD Cert.RecurrenceSampleReferenceIdeal.τ).loc Cert.RecurrenceSampleReferenceIdeal.main_arg5) = m ((c.tc : Thread Cert.RecurrenceSampleIdeal.nD Cert.RecurrenceSampleIdeal.τ).loc Cert.RecurrenceSampleIdeal.main_arg5)
      ∧ m' ((c.tc : Thread Cert.RecurrenceSampleReferenceIdeal.nD Cert.RecurrenceSampleReferenceIdeal.τ).loc Cert.RecurrenceSampleReferenceIdeal.main_arg6) = m ((c.tc : Thread Cert.RecurrenceSampleIdeal.nD Cert.RecurrenceSampleIdeal.τ).loc Cert.RecurrenceSampleIdeal.main_arg6)) →
    ∃ (v0 : (c : Dev Cert.RecurrenceSampleIdeal.nD) → Buf (Elt Ideal) ((c.tc : Thread Cert.RecurrenceSampleIdeal.nD Cert.RecurrenceSampleIdeal.τ).loc Cert.RecurrenceSampleIdeal.main_v2_0)) (v1 : (c : Dev Cert.RecurrenceSampleIdeal.nD) → Buf (Elt Ideal) ((c.tc : Thread Cert.RecurrenceSampleIdeal.nD Cert.RecurrenceSampleIdeal.τ).loc Cert.RecurrenceSampleIdeal.main_v2_1)),
      θ_run (Cert.RecurrenceSampleIdeal.defs (F := Ideal)) (onTc (τ := Cert.RecurrenceSampleIdeal.τ) (Cert.RecurrenceSampleIdeal.main (F := Ideal))) ⟨m, fun _ => 0, g⟩ (fun r => ∀ c : Dev Cert.RecurrenceSampleIdeal.nD,
          r.2.mem ((c.tc : Thread Cert.RecurrenceSampleIdeal.nD Cert.RecurrenceSampleIdeal.τ).loc Cert.RecurrenceSampleIdeal.main_v2_0) = v0 c
          ∧ r.2.mem ((c.tc : Thread Cert.RecurrenceSampleIdeal.nD Cert.RecurrenceSampleIdeal.τ).loc Cert.RecurrenceSampleIdeal.main_v2_1) = v1 c
          ∧ r.2.mem ((c.tc : Thread Cert.RecurrenceSampleIdeal.nD Cert.RecurrenceSampleIdeal.τ).loc Cert.RecurrenceSampleIdeal.main_arg0) = m ((c.tc : Thread Cert.RecurrenceSampleIdeal.nD Cert.RecurrenceSampleIdeal.τ).loc Cert.RecurrenceSampleIdeal.main_arg0)
          ∧ r.2.mem ((c.tc : Thread Cert.RecurrenceSampleIdeal.nD Cert.RecurrenceSampleIdeal.τ).loc Cert.RecurrenceSampleIdeal.main_arg1) = m ((c.tc : Thread Cert.RecurrenceSampleIdeal.nD Cert.RecurrenceSampleIdeal.τ).loc Cert.RecurrenceSampleIdeal.main_arg1)
          ∧ r.2.mem ((c.tc : Thread Cert.RecurrenceSampleIdeal.nD Cert.RecurrenceSampleIdeal.τ).loc Cert.RecurrenceSampleIdeal.main_arg2) = m ((c.tc : Thread Cert.RecurrenceSampleIdeal.nD Cert.RecurrenceSampleIdeal.τ).loc Cert.RecurrenceSampleIdeal.main_arg2)
          ∧ r.2.mem ((c.tc : Thread Cert.RecurrenceSampleIdeal.nD Cert.RecurrenceSampleIdeal.τ).loc Cert.RecurrenceSampleIdeal.main_arg3) = m ((c.tc : Thread Cert.RecurrenceSampleIdeal.nD Cert.RecurrenceSampleIdeal.τ).loc Cert.RecurrenceSampleIdeal.main_arg3)
          ∧ r.2.mem ((c.tc : Thread Cert.RecurrenceSampleIdeal.nD Cert.RecurrenceSampleIdeal.τ).loc Cert.RecurrenceSampleIdeal.main_arg4) = m ((c.tc : Thread Cert.RecurrenceSampleIdeal.nD Cert.RecurrenceSampleIdeal.τ).loc Cert.RecurrenceSampleIdeal.main_arg4)
          ∧ r.2.mem ((c.tc : Thread Cert.RecurrenceSampleIdeal.nD Cert.RecurrenceSampleIdeal.τ).loc Cert.RecurrenceSampleIdeal.main_arg5) = m ((c.tc : Thread Cert.RecurrenceSampleIdeal.nD Cert.RecurrenceSampleIdeal.τ).loc Cert.RecurrenceSampleIdeal.main_arg5)
          ∧ r.2.mem ((c.tc : Thread Cert.RecurrenceSampleIdeal.nD Cert.RecurrenceSampleIdeal.τ).loc Cert.RecurrenceSampleIdeal.main_arg6) = m ((c.tc : Thread Cert.RecurrenceSampleIdeal.nD Cert.RecurrenceSampleIdeal.τ).loc Cert.RecurrenceSampleIdeal.main_arg6))
      ∧ θ_run (Cert.RecurrenceSampleReferenceIdeal.defs (F := Ideal)) (onTc (τ := Cert.RecurrenceSampleReferenceIdeal.τ) (Cert.RecurrenceSampleReferenceIdeal.main (F := Ideal))) ⟨m', fun _ => 0, g'⟩ (fun r => ∀ c : Dev Cert.RecurrenceSampleReferenceIdeal.nD,
          r.2.mem ((c.tc : Thread Cert.RecurrenceSampleReferenceIdeal.nD Cert.RecurrenceSampleReferenceIdeal.τ).loc Cert.RecurrenceSampleReferenceIdeal.main_v99) = v0 c
          ∧ r.2.mem ((c.tc : Thread Cert.RecurrenceSampleReferenceIdeal.nD Cert.RecurrenceSampleReferenceIdeal.τ).loc Cert.RecurrenceSampleReferenceIdeal.main_v100) = v1 c
          ∧ r.2.mem ((c.tc : Thread Cert.RecurrenceSampleReferenceIdeal.nD Cert.RecurrenceSampleReferenceIdeal.τ).loc Cert.RecurrenceSampleReferenceIdeal.main_arg0) = m' ((c.tc : Thread Cert.RecurrenceSampleReferenceIdeal.nD Cert.RecurrenceSampleReferenceIdeal.τ).loc Cert.RecurrenceSampleReferenceIdeal.main_arg0)
          ∧ r.2.mem ((c.tc : Thread Cert.RecurrenceSampleReferenceIdeal.nD Cert.RecurrenceSampleReferenceIdeal.τ).loc Cert.RecurrenceSampleReferenceIdeal.main_arg1) = m' ((c.tc : Thread Cert.RecurrenceSampleReferenceIdeal.nD Cert.RecurrenceSampleReferenceIdeal.τ).loc Cert.RecurrenceSampleReferenceIdeal.main_arg1)
          ∧ r.2.mem ((c.tc : Thread Cert.RecurrenceSampleReferenceIdeal.nD Cert.RecurrenceSampleReferenceIdeal.τ).loc Cert.RecurrenceSampleReferenceIdeal.main_arg2) = m' ((c.tc : Thread Cert.RecurrenceSampleReferenceIdeal.nD Cert.RecurrenceSampleReferenceIdeal.τ).loc Cert.RecurrenceSampleReferenceIdeal.main_arg2)
          ∧ r.2.mem ((c.tc : Thread Cert.RecurrenceSampleReferenceIdeal.nD Cert.RecurrenceSampleReferenceIdeal.τ).loc Cert.RecurrenceSampleReferenceIdeal.main_arg3) = m' ((c.tc : Thread Cert.RecurrenceSampleReferenceIdeal.nD Cert.RecurrenceSampleReferenceIdeal.τ).loc Cert.RecurrenceSampleReferenceIdeal.main_arg3)
          ∧ r.2.mem ((c.tc : Thread Cert.RecurrenceSampleReferenceIdeal.nD Cert.RecurrenceSampleReferenceIdeal.τ).loc Cert.RecurrenceSampleReferenceIdeal.main_arg4) = m' ((c.tc : Thread Cert.RecurrenceSampleReferenceIdeal.nD Cert.RecurrenceSampleReferenceIdeal.τ).loc Cert.RecurrenceSampleReferenceIdeal.main_arg4)
          ∧ r.2.mem ((c.tc : Thread Cert.RecurrenceSampleReferenceIdeal.nD Cert.RecurrenceSampleReferenceIdeal.τ).loc Cert.RecurrenceSampleReferenceIdeal.main_arg5) = m' ((c.tc : Thread Cert.RecurrenceSampleReferenceIdeal.nD Cert.RecurrenceSampleReferenceIdeal.τ).loc Cert.RecurrenceSampleReferenceIdeal.main_arg5)
          ∧ r.2.mem ((c.tc : Thread Cert.RecurrenceSampleReferenceIdeal.nD Cert.RecurrenceSampleReferenceIdeal.τ).loc Cert.RecurrenceSampleReferenceIdeal.main_arg6) = m' ((c.tc : Thread Cert.RecurrenceSampleReferenceIdeal.nD Cert.RecurrenceSampleReferenceIdeal.τ).loc Cert.RecurrenceSampleReferenceIdeal.main_arg6))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hOutput : Cert.Output.Facts) (hOutputIdeal : Cert.OutputIdeal.Facts) (hOutputReferenceIdeal : Cert.OutputReferenceIdeal.Facts) (hProjectionSample : Cert.ProjectionSample.Facts) (hProjectionSampleIdeal : Cert.ProjectionSampleIdeal.Facts) (hProjectionSampleReferenceIdeal : Cert.ProjectionSampleReferenceIdeal.Facts) (hOutputSample : Cert.OutputSample.Facts) (hOutputSampleIdeal : Cert.OutputSampleIdeal.Facts) (hOutputSampleReferenceIdeal : Cert.OutputSampleReferenceIdeal.Facts) (hDecode : Cert.Decode.Facts) (hDecodeIdeal : Cert.DecodeIdeal.Facts) (hDecodeReferenceIdeal : Cert.DecodeReferenceIdeal.Facts) (hRecurrenceSample : Cert.RecurrenceSample.Facts) (hRecurrenceSampleIdeal : Cert.RecurrenceSampleIdeal.Facts) (hRecurrenceSampleReferenceIdeal : Cert.RecurrenceSampleReferenceIdeal.Facts) (hPre_finite_logits : Cert.Pre_finite_logits.Facts),
    quiescent_Kernel (hKernel := hKernel)
    ∧ quiescent_KernelIdeal (hKernelIdeal := hKernelIdeal)
    ∧ quiescent_ReferenceIdeal (hReferenceIdeal := hReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ quiescent_ProjectionSample (hProjectionSample := hProjectionSample)
    ∧ quiescent_ProjectionSampleIdeal (hProjectionSampleIdeal := hProjectionSampleIdeal)
    ∧ quiescent_ProjectionSampleReferenceIdeal (hProjectionSampleReferenceIdeal := hProjectionSampleReferenceIdeal)
    ∧ quiescent_OutputSample (hOutputSample := hOutputSample)
    ∧ quiescent_OutputSampleIdeal (hOutputSampleIdeal := hOutputSampleIdeal)
    ∧ quiescent_OutputSampleReferenceIdeal (hOutputSampleReferenceIdeal := hOutputSampleReferenceIdeal)
    ∧ quiescent_Decode (hDecode := hDecode)
    ∧ quiescent_DecodeIdeal (hDecodeIdeal := hDecodeIdeal)
    ∧ quiescent_DecodeReferenceIdeal (hDecodeReferenceIdeal := hDecodeReferenceIdeal)
    ∧ quiescent_RecurrenceSample (hRecurrenceSample := hRecurrenceSample)
    ∧ quiescent_RecurrenceSampleIdeal (hRecurrenceSampleIdeal := hRecurrenceSampleIdeal)
    ∧ quiescent_RecurrenceSampleIdeal_pre_finite_logits (hRecurrenceSampleIdeal := hRecurrenceSampleIdeal) (hPre_finite_logits := hPre_finite_logits)
    ∧ quiescent_RecurrenceSampleReferenceIdeal (hRecurrenceSampleReferenceIdeal := hRecurrenceSampleReferenceIdeal)
    ∧ quiescent_RecurrenceSampleReferenceIdeal_pre_finite_logits (hRecurrenceSampleReferenceIdeal := hRecurrenceSampleReferenceIdeal) (hPre_finite_logits := hPre_finite_logits)
    ∧ preserves_Kernel_KernelIdeal
    ∧ algebraic_KernelIdeal_ReferenceIdeal (hKernelIdeal := hKernelIdeal) (hReferenceIdeal := hReferenceIdeal)
    ∧ preserves_Projection_ProjectionIdeal
    ∧ algebraic_ProjectionIdeal_ProjectionReferenceIdeal (hProjectionIdeal := hProjectionIdeal) (hProjectionReferenceIdeal := hProjectionReferenceIdeal)
    ∧ preserves_Output_OutputIdeal
    ∧ algebraic_OutputIdeal_OutputReferenceIdeal (hOutputIdeal := hOutputIdeal) (hOutputReferenceIdeal := hOutputReferenceIdeal)
    ∧ preserves_ProjectionSample_ProjectionSampleIdeal
    ∧ algebraic_ProjectionSampleIdeal_ProjectionSampleReferenceIdeal (hProjectionSampleIdeal := hProjectionSampleIdeal) (hProjectionSampleReferenceIdeal := hProjectionSampleReferenceIdeal)
    ∧ preserves_OutputSample_OutputSampleIdeal
    ∧ algebraic_OutputSampleIdeal_OutputSampleReferenceIdeal (hOutputSampleIdeal := hOutputSampleIdeal) (hOutputSampleReferenceIdeal := hOutputSampleReferenceIdeal)
    ∧ preserves_Decode_DecodeIdeal
    ∧ algebraic_DecodeIdeal_DecodeReferenceIdeal (hDecodeIdeal := hDecodeIdeal) (hDecodeReferenceIdeal := hDecodeReferenceIdeal)
    ∧ preserves_RecurrenceSample_RecurrenceSampleIdeal
    ∧ algebraic_RecurrenceSampleIdeal_RecurrenceSampleReferenceIdeal_pre_finite_logits (hRecurrenceSampleIdeal := hRecurrenceSampleIdeal) (hRecurrenceSampleReferenceIdeal := hRecurrenceSampleReferenceIdeal) (hPre_finite_logits := hPre_finite_logits)
-- ==== Pre_finite_logits.lean ====
abbrev S8x16x512 : Shape := ⟨3, ![8, 16, 512]⟩
abbrev S2x512 : Shape := ⟨2, ![2, 512]⟩
abbrev S1x512 : Shape := ⟨2, ![1, 512]⟩
abbrev S1x8x4x128x128 : Shape := ⟨5, ![1, 8, 4, 128, 128]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S8x16x512 .bf16) (main_arg1 : FVec F S8x16x512 .f32) (main_arg2 : FVec F S8x16x512 .bf16) (main_arg3 : FVec F S8x16x512 .bf16) (main_arg4 : FVec F S2x512 .f32) (main_arg5 : FVec F S1x512 .f32) (main_arg6 : FVec F S1x8x4x128x128 .f32) : IVec S2x512 1 :=
  let main_v0 : FVec F S2x512 .f32 := Host.absf main_arg4
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  main_v2
-- ==== Kernel.lean ====
abbrev S8x2048x512 : Shape := ⟨3, ![8, 2048, 512]⟩
abbrev S8x8x512x256 : Shape := ⟨4, ![8, 8, 512, 256]⟩
abbrev S8x8x256x512 : Shape := ⟨4, ![8, 8, 256, 512]⟩
abbrev S1x256x128 : Shape := ⟨3, ![1, 256, 128]⟩
abbrev S1x8x128x256 : Shape := ⟨4, ![1, 8, 128, 256]⟩
abbrev S1x8x256x128 : Shape := ⟨4, ![1, 8, 256, 128]⟩
abbrev S256x256 : Shape := ⟨2, ![256, 256]⟩
abbrev S1x256x64 : Shape := ⟨3, ![1, 256, 64]⟩
abbrev S256x64 : Shape := ⟨2, ![256, 64]⟩
abbrev S256x1 : Shape := ⟨2, ![256, 1]⟩
abbrev S1x1x64x256 : Shape := ⟨4, ![1, 1, 64, 256]⟩
abbrev S64x256 : Shape := ⟨2, ![64, 256]⟩
abbrev S1x1x256x64 : Shape := ⟨4, ![1, 1, 256, 64]⟩
abbrev S256x128 : Shape := ⟨2, ![256, 128]⟩

abbrev nBuf : Space → Nat
  | .hbm => 6
  | .vmem => 10
  | .smem => 0
  | _ => 0

abbrev bufTy : (tb : Table) → Fin (tcTables nBuf tb) → BufTy
  | .hbm, ⟨0, _⟩ => ⟨S8x2048x512, .bf16⟩
  | .hbm, ⟨1, _⟩ => ⟨S8x8x512x256, .bf16⟩
  | .hbm, ⟨2, _⟩ => ⟨S8x2048x512, .bf16⟩
  | .hbm, ⟨3, _⟩ => ⟨S8x2048x512, .bf16⟩
  | .hbm, ⟨4, _⟩ => ⟨S8x8x256x512, .bf16⟩
  | .hbm, ⟨5, _⟩ => ⟨S8x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8x128x256, .bf16⟩
  | .local _ .vmem, ⟨3, _⟩ => ⟨S1x8x128x256, .bf16⟩
  | .local _ .vmem, ⟨4, _⟩ => ⟨S1x8x256x128, .bf16⟩
  | .local _ .vmem, ⟨5, _⟩ => ⟨S1x8x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 4 → Nat :=
  let c0_5 : Index := 0#32
  let arg2 : BitVec 32 := BitVec.ofNat 32 (i 2).val
  let v14 : Index := Scalar.indexCast arg2
  let c0_6 : Index := 0#32
  let c0_7 : Index := 0#32
  ![0, v14.toNat, 0, 0]
def k0_off2 (i : grid0.Coords) : Fin 4 → Nat :=
  let c0_9 : Index := 0#32
  let arg2 : BitVec 32 := BitVec.ofNat 32 (i 2).val
  let v18 : Index := Scalar.indexCast arg2
  let c0_10 : Index := 0#32
  let c0_11 : Index := 0#32
  ![0, v18.toNat, 0, 0]
@[reducible] def k0_t1_loop (i : grid0.Coords) : Scf.Loop 32 :=
  let c0_i32 : BitVec 32 := 0#32
  let arg2 : BitVec 32 := BitVec.ofNat 32 (i 2).val
  let v53 : BitVec 32 := Scalar.subi arg2 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_21 : BitVec 32 := 1#32
  ⟨c0_i32, v57, c1_i32_21⟩
def k0_off3 (i : grid0.Coords) (k0_t1 : Fin (k0_t1_loop i).trips) : Fin 4 → Nat :=
  let c0_54 : Index := 0#32
  let arg2 : BitVec 32 := BitVec.ofNat 32 (i 2).val
  let c1_i32_53 : BitVec 32 := 1#32
  let v119 : BitVec 32 := Scalar.subi arg2 c1_i32_53
  let c0_i32 : BitVec 32 := 0#32
  let c1_i32_21 : BitVec 32 := 1#32
  let arg8 : BitVec 32 := Scf.iv c0_i32 c1_i32_21 k0_t1
  let v120 : BitVec 32 := Scalar.subi v119 arg8
  let v121 : Index := Scalar.indexCast v120
  let c0_55 : Index := 0#32
  let c0_56 : Index := 0#32
  ![0, v121.toNat, 0, 0]
def k0_off4 (i : grid0.Coords) (k0_t1 : Fin (k0_t1_loop i).trips) : Fin 4 → Nat :=
  let c0_58 : Index := 0#32
  let arg2 : BitVec 32 := BitVec.ofNat 32 (i 2).val
  let c1_i32_53 : BitVec 32 := 1#32
  let v119 : BitVec 32 := Scalar.subi arg2 c1_i32_53
  let c0_i32 : BitVec 32 := 0#32
  let c1_i32_21 : BitVec 32 := 1#32
  let arg8 : BitVec 32 := Scf.iv c0_i32 c1_i32_21 k0_t1
  let v120 : BitVec 32 := Scalar.subi v119 arg8
  let v125 : Index := Scalar.indexCast v120
  let c0_59 : Index := 0#32
  let c0_60 : Index := 0#32
  ![0, v125.toNat, 0, 0]
@[reducible] def k0_t2_loop (i : grid0.Coords) : Scf.Loop 32 :=
  let c0_i32 : BitVec 32 := 0#32
  let arg2 : BitVec 32 := BitVec.ofNat 32 (i 2).val
  let v53 : BitVec 32 := Scalar.subi arg2 c0_i32
  let c1_i32 : BitVec 32 := 1#32
  let v55 : BitVec 32 := Scalar.divsi v53 c1_i32
  let v56 : BitVec 32 := Scalar.muli v55 c1_i32
  let v57 : BitVec 32 := Scalar.addi c0_i32 v56
  let v54 : BitVec 32 := Scalar.addi c0_i32 v53
  let c1_i32_22 : BitVec 32 := 1#32
  ⟨v57, v54, c1_i32_22⟩
def k0_off5 (i : grid0.Coords) (k0_t2 : Fin (k0_t2_loop i).trips) : Fin 4 → Nat :=
  let c0_54 : Index := 0#32
  let arg2 : BitVec 32 := BitVec.ofNat 32 (i 2).val
  let c1_i32_53 : BitVec 32 := 1#32
  let v119 : BitVec 32 := Scalar.subi arg2 c1_i32_53
  let c0_i32 : BitVec 32 := 0#32
  let v53 : BitVec 32 := Scalar.subi arg2 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_22 : BitVec 32 := 1#32
  let arg8 : BitVec 32 := Scf.iv v57 c1_i32_22 k0_t2
  let v120 : BitVec 32 := Scalar.subi v119 arg8
  let v121 : Index := Scalar.indexCast v120
  let c0_55 : Index := 0#32
  let c0_56 : Index := 0#32
  ![0, v121.toNat, 0, 0]
def k0_off6 (i : grid0.Coords) (k0_t2 : Fin (k0_t2_loop i).trips) : Fin 4 → Nat :=
  let c0_58 : Index := 0#32
  let arg2 : BitVec 32 := BitVec.ofNat 32 (i 2).val
  let c1_i32_53 : BitVec 32 := 1#32
  let v119 : BitVec 32 := Scalar.subi arg2 c1_i32_53
  let c0_i32 : BitVec 32 := 0#32
  let v53 : BitVec 32 := Scalar.subi arg2 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_22 : BitVec 32 := 1#32
  let arg8 : BitVec 32 := Scf.iv v57 c1_i32_22 k0_t2
  let v120 : BitVec 32 := Scalar.subi v119 arg8
  let v125 : Index := Scalar.indexCast v120
  let c0_59 : Index := 0#32
  let c0_60 : Index := 0#32
  ![0, v125.toNat, 0, 0]
def k0_off7 (i : grid0.Coords) : Fin 4 → Nat :=
  let c0_27 : Index := 0#32
  let arg2 : BitVec 32 := BitVec.ofNat 32 (i 2).val
  let v64 : Index := Scalar.indexCast arg2
  let c64_28 : Index := 64#32
  let c0_29 : Index := 0#32
  ![0, v64.toNat, 64, 0]
def k0_off8 (i : grid0.Coords) : Fin 4 → Nat :=
  let c0_31 : Index := 0#32
  let arg2 : BitVec 32 := BitVec.ofNat 32 (i 2).val
  let v68 : Index := Scalar.indexCast arg2
  let c0_32 : Index := 0#32
  let c64_33 : Index := 64#32
  ![0, v68.toNat, 0, 64]
@[reducible] def k0_t3_loop (i : grid0.Coords) : Scf.Loop 32 :=
  let c0_i32_43 : BitVec 32 := 0#32
  let arg2 : BitVec 32 := BitVec.ofNat 32 (i 2).val
  let v103 : BitVec 32 := Scalar.subi arg2 c0_i32_43
  let c1_i32_44 : BitVec 32 := 1#32
  let v105 : BitVec 32 := Scalar.divsi v103 c1_i32_44
  let v106 : BitVec 32 := Scalar.muli v105 c1_i32_44
  let v107 : BitVec 32 := Scalar.addi c0_i32_43 v106
  let c1_i32_45 : BitVec 32 := 1#32
  ⟨c0_i32_43, v107, c1_i32_45⟩
def k0_off9 (i : grid0.Coords) (k0_t3 : Fin (k0_t3_loop i).trips) : Fin 4 → Nat :=
  let c0_54 : Index := 0#32
  let arg2 : BitVec 32 := BitVec.ofNat 32 (i 2).val
  let c1_i32_53 : BitVec 32 := 1#32
  let v119 : BitVec 32 := Scalar.subi arg2 c1_i32_53
  let c0_i32_43 : BitVec 32 := 0#32
  let c1_i32_45 : BitVec 32 := 1#32
  let arg8 : BitVec 32 := Scf.iv c0_i32_43 c1_i32_45 k0_t3
  let v120 : BitVec 32 := Scalar.subi v119 arg8
  let v121 : Index := Scalar.indexCast v120
  let c64_55 : Index := 64#32
  let c0_56 : Index := 0#32
  ![0, v121.toNat, 64, 0]
def k0_off10 (i : grid0.Coords) (k0_t3 : Fin (k0_t3_loop i).trips) : Fin 4 → Nat :=
  let c0_58 : Index := 0#32
  let arg2 : BitVec 32 := BitVec.ofNat 32 (i 2).val
  let c1_i32_53 : BitVec 32 := 1#32
  let v119 : BitVec 32 := Scalar.subi arg2 c1_i32_53
  let c0_i32_43 : BitVec 32 := 0#32
  let c1_i32_45 : BitVec 32 := 1#32
  let arg8 : BitVec 32 := Scf.iv c0_i32_43 c1_i32_45 k0_t3
  let v120 : BitVec 32 := Scalar.subi v119 arg8
  let v125 : Index := Scalar.indexCast v120
  let c0_59 : Index := 0#32
  let c64_60 : Index := 64#32
  ![0, v125.toNat, 0, 64]
@[reducible] def k0_t4_loop (i : grid0.Coords) : Scf.Loop 32 :=
  let c0_i32_43 : BitVec 32 := 0#32
  let arg2 : BitVec 32 := BitVec.ofNat 32 (i 2).val
  let v103 : BitVec 32 := Scalar.subi arg2 c0_i32_43
  let c1_i32_44 : BitVec 32 := 1#32
  let v105 : BitVec 32 := Scalar.divsi v103 c1_i32_44
  let v106 : BitVec 32 := Scalar.muli v105 c1_i32_44
  let v107 : BitVec 32 := Scalar.addi c0_i32_43 v106
  let v104 : BitVec 32 := Scalar.addi c0_i32_43 v103
  let c1_i32_46 : BitVec 32 := 1#32
  ⟨v107, v104, c1_i32_46⟩
def k0_off11 (i : grid0.Coords) (k0_t4 : Fin (k0_t4_loop i).trips) : Fin 4 → Nat :=
  let c0_54 : Index := 0#32
  let arg2 : BitVec 32 := BitVec.ofNat 32 (i 2).val
  let c1_i32_53 : BitVec 32 := 1#32
  let v119 : BitVec 32 := Scalar.subi arg2 c1_i32_53
  let c0_i32_43 : BitVec 32 := 0#32
  let v103 : BitVec 32 := Scalar.subi arg2 c0_i32_43
  let c1_i32_44 : BitVec 32 := 1#32
  let v105 : BitVec 32 := Scalar.divsi v103 c1_i32_44
  let v106 : BitVec 32 := Scalar.muli v105 c1_i32_44
  let v107 : BitVec 32 := Scalar.addi c0_i32_43 v106
  let c1_i32_46 : BitVec 32 := 1#32
  let arg8 : BitVec 32 := Scf.iv v107 c1_i32_46 k0_t4
  let v120 : BitVec 32 := Scalar.subi v119 arg8
  let v121 : Index := Scalar.indexCast v120
  let c64_55 : Index := 64#32
  let c0_56 : Index := 0#32
  ![0, v121.toNat, 64, 0]
def k0_off12 (i : grid0.Coords) (k0_t4 : Fin (k0_t4_loop i).trips) : Fin 4 → Nat :=
  let c0_58 : Index := 0#32
  let arg2 : BitVec 32 := BitVec.ofNat 32 (i 2).val
  let c1_i32_53 : BitVec 32 := 1#32
  let v119 : BitVec 32 := Scalar.subi arg2 c1_i32_53
  let c0_i32_43 : BitVec 32 := 0#32
  let v103 : BitVec 32 := Scalar.subi arg2 c0_i32_43
  let c1_i32_44 : BitVec 32 := 1#32
  let v105 : BitVec 32 := Scalar.divsi v103 c1_i32_44
  let v106 : BitVec 32 := Scalar.muli v105 c1_i32_44
  let v107 : BitVec 32 := Scalar.addi c0_i32_43 v106
  let c1_i32_46 : BitVec 32 := 1#32
  let arg8 : BitVec 32 := Scf.iv v107 c1_i32_46 k0_t4
  let v120 : BitVec 32 := Scalar.subi v119 arg8
  let v125 : Index := Scalar.indexCast v120
  let c0_59 : Index := 0#32
  let c64_60 : Index := 64#32
  ![0, v125.toNat, 0, 64]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x2048x512 : Shape := ⟨3, ![8, 2048, 512]⟩
abbrev S8x8x512x256 : Shape := ⟨4, ![8, 8, 512, 256]⟩
abbrev S8x2048x8x64 : Shape := ⟨4, ![8, 2048, 8, 64]⟩
abbrev S8x8x2048x64 : Shape := ⟨4, ![8, 8, 2048, 64]⟩
abbrev S8x8x256x512 : Shape := ⟨4, ![8, 8, 256, 512]⟩
abbrev S2048 : Shape := ⟨1, ![2048]⟩
abbrev S8x8x2048x2048 : Shape := ⟨4, ![8, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x8x512x256, .bf16⟩
  | .hbm, ⟨2, _⟩ => ⟨S8x2048x512, .bf16⟩
  | .hbm, ⟨3, _⟩ => ⟨S8x2048x512, .bf16⟩
  | .hbm, ⟨4, _⟩ => ⟨S8x2048x512, .f32⟩
  | .hbm, ⟨5, _⟩ => ⟨S8x2048x8x64, .f32⟩
  | .hbm, ⟨6, _⟩ => ⟨S8x8x2048x64, .f32⟩
  | .hbm, ⟨7, _⟩ => ⟨S8x8x512x256, .f32⟩
  | .hbm, ⟨8, _⟩ => ⟨S8x8x256x512, .f32⟩
  | .hbm, ⟨9, _⟩ => ⟨S8x2048x512, .f32⟩
  | .hbm, ⟨10, _⟩ => ⟨S8x2048x8x64, .f32⟩
  | .hbm, ⟨11, _⟩ => ⟨S8x8x2048x64, .f32⟩
  | .hbm, ⟨12, _⟩ => ⟨S8x2048x512, .f32⟩
  | .hbm, ⟨13, _⟩ => ⟨S8x2048x8x64, .f32⟩
  | .hbm, ⟨14, _⟩ => ⟨S8x8x2048x64, .f32⟩
  | .hbm, ⟨15, _⟩ => ⟨S2048, .i32⟩
  | .hbm, ⟨16, _⟩ => ⟨S8x8x2048x2048, .f32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S8x8x2048x2048, .f32⟩
  | .hbm, ⟨23, _⟩ => ⟨S8x8x2048x2048, .f32⟩
  | .hbm, ⟨24, _⟩ => ⟨S_, .f32⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .i1⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S8x8x2048x2048, .f32⟩
  | .hbm, ⟨39, _⟩ => ⟨S_, .f32⟩
  | .hbm, ⟨40, _⟩ => ⟨S_, .f32⟩
  | .hbm, ⟨41, _⟩ => ⟨S8x8x2048x2048, .i1⟩
  | .hbm, ⟨42, _⟩ => ⟨S8x8x2048x2048, .f32⟩
  | .hbm, ⟨43, _⟩ => ⟨S8x8x2048x2048, .f32⟩
  | .hbm, ⟨44, _⟩ => ⟨S_, .f32⟩
  | .hbm, ⟨45, _⟩ => ⟨S_, .f32⟩
  | .hbm, ⟨46, _⟩ => ⟨S8x8x2048x2048, .f32⟩
  | .hbm, ⟨47, _⟩ => ⟨S8x8x2048x2048, .f32⟩
  | .hbm, ⟨48, _⟩ => ⟨S8x8x2048x2048, .f32⟩
  | .hbm, ⟨49, _⟩ => ⟨S_, .f32⟩
  | .hbm, ⟨50, _⟩ => ⟨S8x8x2048x2048, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .i1⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x2048x2048, .f32⟩
  | .hbm, ⟨65, _⟩ => ⟨S8x8x2048x2048, .f32⟩
  | .hbm, ⟨66, _⟩ => ⟨S_, .f32⟩
  | .hbm, ⟨67, _⟩ => ⟨S_, .f32⟩
  | .hbm, ⟨68, _⟩ => ⟨S8x8x2048x2048, .i1⟩
  | .hbm, ⟨69, _⟩ => ⟨S8x8x2048x2048, .f32⟩
  | .hbm, ⟨70, _⟩ => ⟨S8x8x2048x2048, .f32⟩
  | .hbm, ⟨71, _⟩ => ⟨S8x8x2048x64, .f32⟩
  | .hbm, ⟨72, _⟩ => ⟨S8x2048x8x64, .f32⟩
  | .hbm, ⟨73, _⟩ => ⟨S8x2048x512, .f32⟩
  | .hbm, ⟨74, _⟩ => ⟨S8x2048x512, .f32⟩
  | .hbm, ⟨75, _⟩ => ⟨S8x2048x512, .f32⟩
  | .hbm, ⟨76, _⟩ => ⟨S8x2048x512, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_call2_cst : Ref sig .tc := ⟨.hbm, 44, rfl⟩
abbrev main_call2_v0 : Ref sig .tc := ⟨.hbm, 45, rfl⟩
abbrev main_v21 : Ref sig .tc := ⟨.hbm, 46, rfl⟩
abbrev main_v22 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_0 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩

abbrev nD : Nat := 1
abbrev τ : Topo := Topo.v7x

variable {F : FTy → Type} [FloatOps F]
-- ==== Projection.lean ====
abbrev S8x2048x1024 : Shape := ⟨3, ![8, 2048, 1024]⟩
abbrev S1x1024x4096 : Shape := ⟨3, ![1, 1024, 4096]⟩
abbrev S1024x4096 : Shape := ⟨2, ![1024, 4096]⟩
abbrev S8x2048x512 : Shape := ⟨3, ![8, 2048, 512]⟩
abbrev S8x8x512x256 : Shape := ⟨4, ![8, 8, 512, 256]⟩
abbrev S1x8x8x2048x64 : Shape := ⟨5, ![1, 8, 8, 2048, 64]⟩
abbrev S1x512x1024 : Shape := ⟨3, ![1, 512, 1024]⟩
abbrev S1x512x512 : Shape := ⟨3, ![1, 512, 512]⟩
abbrev S1x2x512x256 : Shape := ⟨4, ![1, 2, 512, 256]⟩
abbrev S1x1x8x512x64 : Shape := ⟨5, ![1, 1, 8, 512, 64]⟩
abbrev S512x1024 : Shape := ⟨2, ![512, 1024]⟩
abbrev S1024x512 : Shape := ⟨2, ![1024, 512]⟩
abbrev S512x512 : Shape := ⟨2, ![512, 512]⟩
abbrev S512x64 : Shape := ⟨2, ![512, 64]⟩
abbrev S1x1x1x512x64 : Shape := ⟨5, ![1, 1, 1, 512, 64]⟩
abbrev S512x256 : Shape := ⟨2, ![512, 256]⟩
abbrev S1x1x512x256 : Shape := ⟨4, ![1, 1, 512, 256]⟩

abbrev nBuf : Space → Nat
  | .hbm => 14
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S1x1024x4096, .f32⟩
  | .hbm, ⟨2, _⟩ => ⟨S1024x4096, .f32⟩
  | .hbm, ⟨3, _⟩ => ⟨S1024x4096, .bf16⟩
  | .hbm, ⟨4, _⟩ => ⟨S8x2048x512, .bf16⟩
  | .hbm, ⟨5, _⟩ => ⟨S8x8x512x256, .bf16⟩
  | .hbm, ⟨6, _⟩ => ⟨S8x2048x512, .bf16⟩
  | .hbm, ⟨7, _⟩ => ⟨S8x2048x512, .bf16⟩
  | .hbm, ⟨8, _⟩ => ⟨S8x2048x512, .bf16⟩
  | .hbm, ⟨9, _⟩ => ⟨S8x2048x512, .f32⟩
  | .hbm, ⟨10, _⟩ => ⟨S8x2048x512, .bf16⟩
  | .hbm, ⟨11, _⟩ => ⟨S8x2048x512, .bf16⟩
  | .hbm, ⟨12, _⟩ => ⟨S1x8x8x2048x64, .f32⟩
  | .hbm, ⟨13, _⟩ => ⟨S1x8x8x2048x64, .f32⟩
  | .local _ .vmem, ⟨0, _⟩ => ⟨S1x512x1024, .f32⟩
  | .local _ .vmem, ⟨1, _⟩ => ⟨S1x512x1024, .f32⟩
  | .local _ .vmem, ⟨2, _⟩ => ⟨S1024x4096, .bf16⟩
  | .local _ .vmem, ⟨3, _⟩ => ⟨S1x512x512, .bf16⟩
  | .local _ .vmem, ⟨4, _⟩ => ⟨S1x512x512, .bf16⟩
  | .local _ .vmem, ⟨5, _⟩ => ⟨S1x2x512x256, .bf16⟩
  | .local _ .vmem, ⟨6, _⟩ => ⟨S1x2x512x256, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .f32⟩
  | .local _ .vmem, ⟨14, _⟩ => ⟨S1x512x512, .f32⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x1x8x512x64, .f32⟩
  | .local _ .vmem, ⟨20, _⟩ => ⟨S1x1x8x512x64, .f32⟩
  | .local _ .vmem, ⟨21, _⟩ => ⟨S1x1x8x512x64, .f32⟩
  | .local _ .vmem, ⟨22, _⟩ => ⟨S1x1x8x512x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v2_6 : Ref sig .tc := ⟨.hbm, 10, rfl⟩
abbrev main_v2_7 : Ref sig .tc := ⟨.hbm, 11, rfl⟩
abbrev main_v2_8 : Ref sig .tc := ⟨.hbm, 12, rfl⟩
abbrev main_v2_9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjectionReferenceIdeal.lean ====
abbrev S8x2048x1024 : Shape := ⟨3, ![8, 2048, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S8x2048x512 : Shape := ⟨3, ![8, 2048, 512]⟩
abbrev S8x8x256x512 : Shape := ⟨4, ![8, 8, 256, 512]⟩
abbrev S8x8x512x256 : Shape := ⟨4, ![8, 8, 512, 256]⟩
abbrev S_ : Shape := ⟨0, ![]⟩
abbrev S8x2048x8x64 : Shape := ⟨4, ![8, 2048, 8, 64]⟩
abbrev S8x8x2048x64 : Shape := ⟨4, ![8, 8, 2048, 64]⟩
abbrev S1x8x8x2048x64 : Shape := ⟨5, ![1, 8, 8, 2048, 64]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x4096, .f32⟩
  | .hbm, ⟨2, _⟩ => ⟨S1024x4096, .f32⟩
  | .hbm, ⟨3, _⟩ => ⟨S8x2048x4096, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S8x2048x512, .f32⟩
  | .hbm, ⟨8, _⟩ => ⟨S8x2048x512, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S8x8x256x512, .f32⟩
  | .hbm, ⟨13, _⟩ => ⟨S8x8x512x256, .f32⟩
  | .hbm, ⟨14, _⟩ => ⟨S_, .f32⟩
  | .hbm, ⟨15, _⟩ => ⟨S8x2048x512, .f32⟩
  | .hbm, ⟨16, _⟩ => ⟨S8x2048x512, .f32⟩
  | .hbm, ⟨17, _⟩ => ⟨S8x2048x512, .bf16⟩
  | .hbm, ⟨18, _⟩ => ⟨S8x8x512x256, .bf16⟩
  | .hbm, ⟨19, _⟩ => ⟨S8x2048x512, .bf16⟩
  | .hbm, ⟨20, _⟩ => ⟨S8x2048x512, .f32⟩
  | .hbm, ⟨21, _⟩ => ⟨S8x2048x512, .f32⟩
  | .hbm, ⟨22, _⟩ => ⟨S_, .f32⟩
  | .hbm, ⟨23, _⟩ => ⟨S8x2048x512, .f32⟩
  | .hbm, ⟨24, _⟩ => ⟨S8x2048x512, .f32⟩
  | .hbm, ⟨25, _⟩ => ⟨S_, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S8x2048x512, .bf16⟩
  | .hbm, ⟨30, _⟩ => ⟨S8x2048x512, .bf16⟩
  | .hbm, ⟨31, _⟩ => ⟨S8x2048x512, .bf16⟩
  | .hbm, ⟨32, _⟩ => ⟨S8x2048x512, .bf16⟩
  | .hbm, ⟨33, _⟩ => ⟨S8x2048x8x64, .f32⟩
  | .hbm, ⟨34, _⟩ => ⟨S8x8x2048x64, .f32⟩
  | .hbm, ⟨35, _⟩ => ⟨S1x8x8x2048x64, .f32⟩
  | .hbm, ⟨36, _⟩ => ⟨S8x2048x8x64, .f32⟩
  | .hbm, ⟨37, _⟩ => ⟨S8x8x2048x64, .f32⟩
  | .hbm, ⟨38, _⟩ => ⟨S1x8x8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Output.lean ====
abbrev S8x2048x512 : Shape := ⟨3, ![8, 2048, 512]⟩
abbrev S8x2048x1024 : Shape := ⟨3, ![8, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S16384x512 : Shape := ⟨2, ![16384, 512]⟩
abbrev S16384x1024 : Shape := ⟨2, ![16384, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024, .f32⟩
  | .hbm, ⟨9, _⟩ => ⟨S1024, .f32⟩
  | .hbm, ⟨10, _⟩ => ⟨S16384x512, .bf16⟩
  | .hbm, ⟨11, _⟩ => ⟨S16384x512, .bf16⟩
  | .hbm, ⟨12, _⟩ => ⟨S16384x1024, .f32⟩
  | .hbm, ⟨13, _⟩ => ⟨S1x1024, .f32⟩
  | .hbm, ⟨14, _⟩ => ⟨S1x1024, .f32⟩
  | .hbm, ⟨15, _⟩ => ⟨S16384x1024, .f32⟩
  | .hbm, ⟨16, _⟩ => ⟨S8x2048x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutputReferenceIdeal.lean ====
abbrev S8x2048x512 : Shape := ⟨3, ![8, 2048, 512]⟩
abbrev S8x2048x1024 : Shape := ⟨3, ![8, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S8x2048x1024, .bf16⟩
  | .hbm, ⟨7, _⟩ => ⟨S8x2048x1024, .f32⟩
  | .hbm, ⟨8, _⟩ => ⟨S1024x1024, .f32⟩
  | .hbm, ⟨9, _⟩ => ⟨S8x2048x1024, .f32⟩
  | .hbm, ⟨10, _⟩ => ⟨S_, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== ProjectionSample.lean ====
abbrev S8x16x1024 : Shape := ⟨3, ![8, 16, 1024]⟩
abbrev S1x1024x4096 : Shape := ⟨3, ![1, 1024, 4096]⟩
abbrev S1024x4096 : Shape := ⟨2, ![1024, 4096]⟩
abbrev S8x16x512 : Shape := ⟨3, ![8, 16, 512]⟩
abbrev S1x8x8x16x64 : Shape := ⟨5, ![1, 8, 8, 16, 64]⟩
abbrev S128x1024 : Shape := ⟨2, ![128, 1024]⟩
abbrev S1024x512 : Shape := ⟨2, ![1024, 512]⟩
abbrev S128x512 : Shape := ⟨2, ![128, 512]⟩
abbrev S16x64 : Shape := ⟨2, ![16, 64]⟩
abbrev S1x1x1x16x64 : Shape := ⟨5, ![1, 1, 1, 16, 64]⟩

abbrev nBuf : Space → Nat
  | .hbm => 14
  | .vmem => 12
  | .smem => 0
  | _ => 0

abbrev bufTy : (tb : Table) → Fin (tcTables nBuf tb) → BufTy
  | .hbm, ⟨0, _⟩ => ⟨S8x16x1024, .f32⟩
  | .hbm, ⟨1, _⟩ => ⟨S1x1024x4096, .f32⟩
  | .hbm, ⟨2, _⟩ => ⟨S1024x4096, .f32⟩
  | .hbm, ⟨3, _⟩ => ⟨S1024x4096, .bf16⟩
  | .hbm, ⟨4, _⟩ => ⟨S8x16x512, .bf16⟩
  | .hbm, ⟨5, _⟩ => ⟨S8x16x512, .bf16⟩
  | .hbm, ⟨6, _⟩ => ⟨S8x16x512, .bf16⟩
  | .hbm, ⟨7, _⟩ => ⟨S8x16x512, .bf16⟩
  | .hbm, ⟨8, _⟩ => ⟨S8x16x512, .bf16⟩
  | .hbm, ⟨9, _⟩ => ⟨S8x16x512, .f32⟩
  | .hbm, ⟨10, _⟩ => ⟨S8x16x512, .bf16⟩
  | .hbm, ⟨11, _⟩ => ⟨S8x16x512, .bf16⟩
  | .hbm, ⟨12, _⟩ => ⟨S1x8x8x16x64, .f32⟩
  | .hbm, ⟨13, _⟩ => ⟨S1x8x8x16x64, .f32⟩
  | .local _ .vmem, ⟨0, _⟩ => ⟨S8x16x1024, .f32⟩
  | .local _ .vmem, ⟨1, _⟩ => ⟨S1024x4096, .bf16⟩
  | .local _ .vmem, ⟨2, _⟩ => ⟨S8x16x512, .bf16⟩
  | .local _ .vmem, ⟨3, _⟩ => ⟨S8x16x512, .bf16⟩
  | .local _ .vmem, ⟨4, _⟩ => ⟨S8x16x512, .bf16⟩
  | .local _ .vmem, ⟨5, _⟩ => ⟨S8x16x512, .bf16⟩
  | .local _ .vmem, ⟨6, _⟩ => ⟨S8x16x512, .bf16⟩
  | .local _ .vmem, ⟨7, _⟩ => ⟨S8x16x512, .f32⟩
  | .local _ .vmem, ⟨8, _⟩ => ⟨S8x16x512, .bf16⟩
  | .local _ .vmem, ⟨9, _⟩ => ⟨S8x16x512, .bf16⟩
  | .local _ .vmem, ⟨10, _⟩ => ⟨S1x8x8x16x64, .f32⟩
  | .local _ .vmem, ⟨11, _⟩ => ⟨S1x8x8x16x64, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v2_6 : Ref sig .tc := ⟨.hbm, 10, rfl⟩
abbrev main_v2_7 : Ref sig .tc := ⟨.hbm, 11, rfl⟩
abbrev main_v2_8 : Ref sig .tc := ⟨.hbm, 12, rfl⟩
abbrev main_v2_9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x16x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x16x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S8x16x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S8x16x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S8x16x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S8x16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S8x16x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S8x16x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x8x8x16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x8x8x16x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== ProjectionSampleReferenceIdeal.lean ====
abbrev S8x16x1024 : Shape := ⟨3, ![8, 16, 1024]⟩
abbrev S1x1024x4096 : Shape := ⟨3, ![1, 1024, 4096]⟩
abbrev S1024x4096 : Shape := ⟨2, ![1024, 4096]⟩
abbrev S8x16x4096 : Shape := ⟨3, ![8, 16, 4096]⟩
abbrev S8x16x512 : Shape := ⟨3, ![8, 16, 512]⟩
abbrev S_ : Shape := ⟨0, ![]⟩
abbrev S8x16x8x64 : Shape := ⟨4, ![8, 16, 8, 64]⟩
abbrev S8x8x16x64 : Shape := ⟨4, ![8, 8, 16, 64]⟩
abbrev S1x8x8x16x64 : Shape := ⟨5, ![1, 8, 8, 16, 64]⟩

abbrev nBuf : Space → Nat
  | .hbm => 37
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1x1024x4096, .f32⟩
  | .hbm, ⟨2, _⟩ => ⟨S1024x4096, .f32⟩
  | .hbm, ⟨3, _⟩ => ⟨S8x16x4096, .f32⟩
  | .hbm, ⟨4, _⟩ => ⟨S8x16x512, .f32⟩
  | .hbm, ⟨5, _⟩ => ⟨S8x16x512, .f32⟩
  | .hbm, ⟨6, _⟩ => ⟨S8x16x512, .f32⟩
  | .hbm, ⟨7, _⟩ => ⟨S8x16x512, .f32⟩
  | .hbm, ⟨8, _⟩ => ⟨S8x16x512, .f32⟩
  | .hbm, ⟨9, _⟩ => ⟨S8x16x512, .f32⟩
  | .hbm, ⟨10, _⟩ => ⟨S8x16x512, .f32⟩
  | .hbm, ⟨11, _⟩ => ⟨S8x16x512, .f32⟩
  | .hbm, ⟨12, _⟩ => ⟨S_, .f32⟩
  | .hbm, ⟨13, _⟩ => ⟨S8x16x512, .f32⟩
  | .hbm, ⟨14, _⟩ => ⟨S8x16x512, .f32⟩
  | .hbm, ⟨15, _⟩ => ⟨S8x16x512, .bf16⟩
  | .hbm, ⟨16, _⟩ => ⟨S8x16x512, .bf16⟩
  | .hbm, ⟨17, _⟩ => ⟨S8x16x512, .bf16⟩
  | .hbm, ⟨18, _⟩ => ⟨S8x16x512, .f32⟩
  | .hbm, ⟨19, _⟩ => ⟨S8x16x512, .f32⟩
  | .hbm, ⟨20, _⟩ => ⟨S_, .f32⟩
  | .hbm, ⟨21, _⟩ => ⟨S8x16x512, .f32⟩
  | .hbm, ⟨22, _⟩ => ⟨S8x16x512, .f32⟩
  | .hbm, ⟨23, _⟩ => ⟨S_, .f32⟩
  | .hbm, ⟨24, _⟩ => ⟨S8x16x512, .f32⟩
  | .hbm, ⟨25, _⟩ => ⟨S8x16x512, .f32⟩
  | .hbm, ⟨26, _⟩ => ⟨S8x16x512, .f32⟩
  | .hbm, ⟨27, _⟩ => ⟨S8x16x512, .bf16⟩
  | .hbm, ⟨28, _⟩ => ⟨S8x16x512, .bf16⟩
  | .hbm, ⟨29, _⟩ => ⟨S8x16x512, .bf16⟩
  | .hbm, ⟨30, _⟩ => ⟨S8x16x512, .bf16⟩
  | .hbm, ⟨31, _⟩ => ⟨S8x16x8x64, .f32⟩
  | .hbm, ⟨32, _⟩ => ⟨S8x8x16x64, .f32⟩
  | .hbm, ⟨33, _⟩ => ⟨S1x8x8x16x64, .f32⟩
  | .hbm, ⟨34, _⟩ => ⟨S8x16x8x64, .f32⟩
  | .hbm, ⟨35, _⟩ => ⟨S8x8x16x64, .f32⟩
  | .hbm, ⟨36, _⟩ => ⟨S1x8x8x16x64, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== OutputSample.lean ====
abbrev S8x16x512 : Shape := ⟨3, ![8, 16, 512]⟩
abbrev S8x16x1024 : Shape := ⟨3, ![8, 16, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S128x512 : Shape := ⟨2, ![128, 512]⟩
abbrev S128x1024 : Shape := ⟨2, ![128, 1024]⟩
abbrev S512x1024 : Shape := ⟨2, ![512, 1024]⟩
abbrev S128 : Shape := ⟨1, ![128]⟩
abbrev S128x1 : Shape := ⟨2, ![128, 1]⟩

abbrev nBuf : Space → Nat
  | .hbm => 17
  | .vmem => 7
  | .smem => 0
  | _ => 0

abbrev bufTy : (tb : Table) → Fin (tcTables nBuf tb) → BufTy
  | .hbm, ⟨0, _⟩ => ⟨S8x16x512, .bf16⟩
  | .hbm, ⟨1, _⟩ => ⟨S8x16x512, .bf16⟩
  | .hbm, ⟨2, _⟩ => ⟨S8x16x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024, .f32⟩
  | .hbm, ⟨9, _⟩ => ⟨S1024, .f32⟩
  | .hbm, ⟨10, _⟩ => ⟨S128x512, .bf16⟩
  | .hbm, ⟨11, _⟩ => ⟨S128x512, .bf16⟩
  | .hbm, ⟨12, _⟩ => ⟨S128x1024, .f32⟩
  | .hbm, ⟨13, _⟩ => ⟨S1x1024, .f32⟩
  | .hbm, ⟨14, _⟩ => ⟨S1x1024, .f32⟩
  | .hbm, ⟨15, _⟩ => ⟨S128x1024, .f32⟩
  | .hbm, ⟨16, _⟩ => ⟨S8x16x1024, .f32⟩
  | .local _ .vmem, ⟨0, _⟩ => ⟨S128x512, .bf16⟩
  | .local _ .vmem, ⟨1, _⟩ => ⟨S128x512, .bf16⟩
  | .local _ .vmem, ⟨2, _⟩ => ⟨S128x1024, .f32⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S128x1024, .f32⟩
  | _, _ => ⟨S8x16x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OutputSampleReferenceIdeal.lean ====
abbrev S8x16x512 : Shape := ⟨3, ![8, 16, 512]⟩
abbrev S8x16x1024 : Shape := ⟨3, ![8, 16, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S8x16 : Shape := ⟨2, ![8, 16]⟩
abbrev S8x16x1 : Shape := ⟨3, ![8, 16, 1]⟩
abbrev S1024 : Shape := ⟨1, ![1024]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x16x512, .bf16⟩
  | .hbm, ⟨1, _⟩ => ⟨S8x16x512, .bf16⟩
  | .hbm, ⟨2, _⟩ => ⟨S8x16x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S8x16x1024, .bf16⟩
  | .hbm, ⟨7, _⟩ => ⟨S8x16x1024, .f32⟩
  | .hbm, ⟨8, _⟩ => ⟨S1024x1024, .f32⟩
  | .hbm, ⟨9, _⟩ => ⟨S8x16x1024, .f32⟩
  | .hbm, ⟨10, _⟩ => ⟨S_, .f32⟩
  | .hbm, ⟨11, _⟩ => ⟨S8x16x1024, .f32⟩
  | .hbm, ⟨12, _⟩ => ⟨S8x16x1024, .f32⟩
  | .hbm, ⟨13, _⟩ => ⟨S8x16x1024, .f32⟩
  | .hbm, ⟨14, _⟩ => ⟨S_, .f32⟩
  | .hbm, ⟨15, _⟩ => ⟨S8x16, .f32⟩
  | .hbm, ⟨16, _⟩ => ⟨S8x16x1, .f32⟩
  | .hbm, ⟨17, _⟩ => ⟨S_, .f32⟩
  | .hbm, ⟨18, _⟩ => ⟨S8x16x1, .f32⟩
  | .hbm, ⟨19, _⟩ => ⟨S8x16x1, .f32⟩
  | .hbm, ⟨20, _⟩ => ⟨S8x16x1024, .f32⟩
  | .hbm, ⟨21, _⟩ => ⟨S8x16x1024, .f32⟩
  | .hbm, ⟨22, _⟩ => ⟨S8x16x1024, .f32⟩
  | .hbm, ⟨23, _⟩ => ⟨S_, .f32⟩
  | .hbm, ⟨24, _⟩ => ⟨S8x16, .f32⟩
  | .hbm, ⟨25, _⟩ => ⟨S8x16x1, .f32⟩
  | .hbm, ⟨26, _⟩ => ⟨S_, .f32⟩
  | .hbm, ⟨27, _⟩ => ⟨S8x16x1, .f32⟩
  | .hbm, ⟨28, _⟩ => ⟨S8x16x1, .f32⟩
  | .hbm, ⟨29, _⟩ => ⟨S8x16x1024, .f32⟩
  | .hbm, ⟨30, _⟩ => ⟨S8x16x1024, .f32⟩
  | .hbm, ⟨31, _⟩ => ⟨S_, .f32⟩
  | .hbm, ⟨32, _⟩ => ⟨S8x16x1, .f32⟩
  | .hbm, ⟨33, _⟩ => ⟨S8x16x1, .f32⟩
  | .hbm, ⟨34, _⟩ => ⟨S8x16x1, .f32⟩
  | .hbm, ⟨35, _⟩ => ⟨S8x16x1024, .f32⟩
  | .hbm, ⟨36, _⟩ => ⟨S8x16x1024, .f32⟩
  | .hbm, ⟨37, _⟩ => ⟨S1024, .f32⟩
  | .hbm, ⟨38, _⟩ => ⟨S1x1x1024, .f32⟩
  | .hbm, ⟨39, _⟩ => ⟨S8x16x1024, .f32⟩
  | .hbm, ⟨40, _⟩ => ⟨S8x16x1024, .f32⟩
  | .hbm, ⟨41, _⟩ => ⟨S1024, .f32⟩
  | .hbm, ⟨42, _⟩ => ⟨S1x1x1024, .f32⟩
  | .hbm, ⟨43, _⟩ => ⟨S8x16x1024, .f32⟩
  | .hbm, ⟨44, _⟩ => ⟨S8x16x1024, .f32⟩
  | _, _ => ⟨S8x16x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Decode.lean ====
abbrev S8x16x512 : Shape := ⟨3, ![8, 16, 512]⟩
abbrev S1x8x8x1024x64 : Shape := ⟨5, ![1, 8, 8, 1024, 64]⟩
abbrev S1x16x128 : Shape := ⟨3, ![1, 16, 128]⟩
abbrev S1x1x2x1024x64 : Shape := ⟨5, ![1, 1, 2, 1024, 64]⟩
abbrev S256x256 : Shape := ⟨2, ![256, 256]⟩
abbrev S16x16 : Shape := ⟨2, ![16, 16]⟩
abbrev S1x16x64 : Shape := ⟨3, ![1, 16, 64]⟩
abbrev S16x64 : Shape := ⟨2, ![16, 64]⟩
abbrev S16x1 : Shape := ⟨2, ![16, 1]⟩
abbrev S1x1x1x256x64 : Shape := ⟨5, ![1, 1, 1, 256, 64]⟩
abbrev S256x64 : Shape := ⟨2, ![256, 64]⟩
abbrev S16x256 : Shape := ⟨2, ![16, 256]⟩
abbrev S16x128 : Shape := ⟨2, ![16, 128]⟩

abbrev nBuf : Space → Nat
  | .hbm => 7
  | .vmem => 14
  | .smem => 0
  | _ => 0

abbrev bufTy : (tb : Table) → Fin (tcTables nBuf tb) → BufTy
  | .hbm, ⟨0, _⟩ => ⟨S8x16x512, .bf16⟩
  | .hbm, ⟨1, _⟩ => ⟨S8x16x512, .bf16⟩
  | .hbm, ⟨2, _⟩ => ⟨S8x16x512, .bf16⟩
  | .hbm, ⟨3, _⟩ => ⟨S1x8x8x1024x64, .f32⟩
  | .hbm, ⟨4, _⟩ => ⟨S1x8x8x1024x64, .f32⟩
  | .hbm, ⟨5, _⟩ => ⟨S8x16x512, .bf16⟩
  | .hbm, ⟨6, _⟩ => ⟨S8x16x512, .bf16⟩
  | .local _ .vmem, ⟨0, _⟩ => ⟨S1x16x128, .bf16⟩
  | .local _ .vmem, ⟨1, _⟩ => ⟨S1x16x128, .bf16⟩
  | .local _ .vmem, ⟨2, _⟩ => ⟨S1x16x128, .bf16⟩
  | .local _ .vmem, ⟨3, _⟩ => ⟨S1x16x128, .bf16⟩
  | .local _ .vmem, ⟨4, _⟩ => ⟨S1x16x128, .bf16⟩
  | .local _ .vmem, ⟨5, _⟩ => ⟨S1x16x128, .bf16⟩
  | .local _ .vmem, ⟨6, _⟩ => ⟨S1x1x2x1024x64, .f32⟩
  | .local _ .vmem, ⟨7, _⟩ => ⟨S1x1x2x1024x64, .f32⟩
  | .local _ .vmem, ⟨8, _⟩ => ⟨S1x1x2x1024x64, .f32⟩
  | .local _ .vmem, ⟨9, _⟩ => ⟨S1x1x2x1024x64, .f32⟩
  | .local _ .vmem, ⟨10, _⟩ => ⟨S1x16x128, .bf16⟩
  | .local _ .vmem, ⟨11, _⟩ => ⟨S1x16x128, .bf16⟩
  | .local _ .vmem, ⟨12, _⟩ => ⟨S1x16x128, .bf16⟩
  | .local _ .vmem, ⟨13, _⟩ => ⟨S1x16x128, .bf16⟩
  | _, _ => ⟨S8x16x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DecodeReferenceIdeal.lean ====
abbrev S8x16x512 : Shape := ⟨3, ![8, 16, 512]⟩
abbrev S1x8x8x1024x64 : Shape := ⟨5, ![1, 8, 8, 1024, 64]⟩
abbrev S8x16x8x64 : Shape := ⟨4, ![8, 16, 8, 64]⟩
abbrev S8x8x16x64 : Shape := ⟨4, ![8, 8, 16, 64]⟩
abbrev S8x8x1024x64 : Shape := ⟨4, ![8, 8, 1024, 64]⟩
abbrev S8x8x1040x64 : Shape := ⟨4, ![8, 8, 1040, 64]⟩
abbrev S8x8x16x1040 : Shape := ⟨4, ![8, 8, 16, 1040]⟩
abbrev S1040 : Shape := ⟨1, ![1040]⟩
abbrev S1x1040 : Shape := ⟨2, ![1, 1040]⟩
abbrev S16 : Shape := ⟨1, ![16]⟩
abbrev S16x1 : Shape := ⟨2, ![16, 1]⟩
abbrev S_ : Shape := ⟨0, ![]⟩
abbrev S16x1040 : Shape := ⟨2, ![16, 1040]⟩

abbrev nBuf : Space → Nat
  | .hbm => 85
  | .vmem => 0
  | .smem => 0
  | _ => 0

abbrev bufTy : (tb : Table) → Fin (tcTables nBuf tb) → BufTy
  | .hbm, ⟨0, _⟩ => ⟨S8x16x512, .bf16⟩
  | .hbm, ⟨1, _⟩ => ⟨S8x16x512, .bf16⟩
  | .hbm, ⟨2, _⟩ => ⟨S8x16x512, .bf16⟩
  | .hbm, ⟨3, _⟩ => ⟨S1x8x8x1024x64, .f32⟩
  | .hbm, ⟨4, _⟩ => ⟨S1x8x8x1024x64, .f32⟩
  | .hbm, ⟨5, _⟩ => ⟨S8x16x512, .bf16⟩
  | .hbm, ⟨6, _⟩ => ⟨S8x16x512, .f32⟩
  | .hbm, ⟨7, _⟩ => ⟨S8x16x8x64, .f32⟩
  | .hbm, ⟨8, _⟩ => ⟨S8x8x16x64, .f32⟩
  | .hbm, ⟨9, _⟩ => ⟨S8x8x1024x64, .f32⟩
  | .hbm, ⟨10, _⟩ => ⟨S8x16x512, .f32⟩
  | .hbm, ⟨11, _⟩ => ⟨S8x16x8x64, .f32⟩
  | .hbm, ⟨12, _⟩ => ⟨S8x8x16x64, .f32⟩
  | .hbm, ⟨13, _⟩ => ⟨S8x8x1040x64, .f32⟩
  | .hbm, ⟨14, _⟩ => ⟨S8x8x1024x64, .f32⟩
  | .hbm, ⟨15, _⟩ => ⟨S8x16x512, .f32⟩
  | .hbm, ⟨16, _⟩ => ⟨S8x16x8x64, .f32⟩
  | .hbm, ⟨17, _⟩ => ⟨S8x8x16x64, .f32⟩
  | .hbm, ⟨18, _⟩ => ⟨S8x8x1040x64, .f32⟩
  | .hbm, ⟨19, _⟩ => ⟨S8x8x16x1040, .f32⟩
  | .hbm, ⟨20, _⟩ => ⟨S1040, .i32⟩
  | .hbm, ⟨21, _⟩ => ⟨S1x1040, .i32⟩
  | .hbm, ⟨22, _⟩ => ⟨S16, .i32⟩
  | .hbm, ⟨23, _⟩ => ⟨S16x1, .i32⟩
  | .hbm, ⟨24, _⟩ => ⟨S_, .i32⟩
  | .hbm, ⟨25, _⟩ => ⟨S16x1, .i32⟩
  | .hbm, ⟨26, _⟩ => ⟨S16x1, .i32⟩
  | .hbm, ⟨27, _⟩ => ⟨S16x1040, .i32⟩
  | .hbm, ⟨28, _⟩ => ⟨S16x1040, .i32⟩
  | .hbm, ⟨29, _⟩ => ⟨S16x1040, .i1⟩
  | .hbm, ⟨30, _⟩ => ⟨S8x8x16x1040, .f32⟩
  | .hbm, ⟨31, _⟩ => ⟨S8x8x16x1040, .f32⟩
  | .hbm, ⟨32, _⟩ => ⟨S_, .f32⟩
  | .hbm, ⟨33, _⟩ => ⟨S8x8x16x1040, .f32⟩
  | .hbm, ⟨34, _⟩ => ⟨S8x8x16x1040, .f32⟩
  | .hbm, ⟨35, _⟩ => ⟨S8x8x16x1040, .f32⟩
  | .hbm, ⟨36, _⟩ => ⟨S8x8x16x1040, .f32⟩
  | .hbm, ⟨37, _⟩ => ⟨S8x8x16x1040, .i1⟩
  | .hbm, ⟨38, _⟩ => ⟨S8x8x16x1040, .f32⟩
  | .hbm, ⟨39, _⟩ => ⟨S8x8x16x1040, .f32⟩
  | .hbm, ⟨40, _⟩ => ⟨S8x8x16x1040, .f32⟩
  | .hbm, ⟨41, _⟩ => ⟨S8x8x16x1040, .f32⟩
  | .hbm, ⟨42, _⟩ => ⟨S8x8x16x1040, .f32⟩
  | .hbm, ⟨43, _⟩ => ⟨S8x8x16x1040, .f32⟩
  | .hbm, ⟨44, _⟩ => ⟨S8x8x16x1040, .f32⟩
  | .hbm, ⟨45, _⟩ => ⟨S8x8x16x1040, .f32⟩
  | .hbm, ⟨46, _⟩ => ⟨S8x8x16x1040, .f32⟩
  | .hbm, ⟨47, _⟩ => ⟨S_, .f32⟩
  | .hbm, ⟨48, _⟩ => ⟨S_, .f32⟩
  | .hbm, ⟨49, _⟩ => ⟨S8x8x16x1040, .i1⟩
  | .hbm, ⟨50, _⟩ => ⟨S8x8x16x1040, .f32⟩
  | .hbm, ⟨51, _⟩ => ⟨S8x8x16x1040, .f32⟩
  | .hbm, ⟨52, _⟩ => ⟨S_, .f32⟩
  | .hbm, ⟨53, _⟩ => ⟨S_, .f32⟩
  | .hbm, ⟨54, _⟩ => ⟨S8x8x16x1040, .f32⟩
  | .hbm, ⟨55, _⟩ => ⟨S8x8x16x1040, .f32⟩
  | .hbm, ⟨56, _⟩ => ⟨S8x8x16x1040, .f32⟩
  | .hbm, ⟨57, _⟩ => ⟨S_, .f32⟩
  | .hbm, ⟨58, _⟩ => ⟨S8x8x16x1040, .f32⟩
  | .hbm, ⟨59, _⟩ => ⟨S8x8x16x1040, .f32⟩
  | .hbm, ⟨60, _⟩ => ⟨S8x8x16x1040, .f32⟩
  | .hbm, ⟨61, _⟩ => ⟨S8x8x16x1040, .f32⟩
  | .hbm, ⟨62, _⟩ => ⟨S8x8x16x1040, .i1⟩
  | .hbm, ⟨63, _⟩ => ⟨S8x8x16x1040, .f32⟩
  | .hbm, ⟨64, _⟩ => ⟨S8x8x16x1040, .f32⟩
  | .hbm, ⟨65, _⟩ => ⟨S8x8x16x1040, .f32⟩
  | .hbm, ⟨66, _⟩ => ⟨S8x8x16x1040, .f32⟩
  | .hbm, ⟨67, _⟩ => ⟨S8x8x16x1040, .f32⟩
  | .hbm, ⟨68, _⟩ => ⟨S8x8x16x1040, .f32⟩
  | .hbm, ⟨69, _⟩ => ⟨S8x8x16x1040, .f32⟩
  | .hbm, ⟨70, _⟩ => ⟨S8x8x16x1040, .f32⟩
  | .hbm, ⟨71, _⟩ => ⟨S8x8x16x1040, .f32⟩
  | .hbm, ⟨72, _⟩ => ⟨S8x8x16x1040, .f32⟩
  | .hbm, ⟨73, _⟩ => ⟨S8x8x16x1040, .f32⟩
  | .hbm, ⟨74, _⟩ => ⟨S_, .f32⟩
  | .hbm, ⟨75, _⟩ => ⟨S_, .f32⟩
  | .hbm, ⟨76, _⟩ => ⟨S8x8x16x1040, .i1⟩
  | .hbm, ⟨77, _⟩ => ⟨S8x8x16x1040, .f32⟩
  | .hbm, ⟨78, _⟩ => ⟨S8x8x16x1040, .f32⟩
  | .hbm, ⟨79, _⟩ => ⟨S8x8x16x64, .f32⟩
  | .hbm, ⟨80, _⟩ => ⟨S8x16x8x64, .f32⟩
  | .hbm, ⟨81, _⟩ => ⟨S8x16x512, .f32⟩
  | .hbm, ⟨82, _⟩ => ⟨S8x16x512, .f32⟩
  | .hbm, ⟨83, _⟩ => ⟨S8x16x512, .f32⟩
  | .hbm, ⟨84, _⟩ => ⟨S8x16x512, .bf16⟩
  | _, _ => ⟨S8x16x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v24 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_call2_cst : Ref sig .tc := ⟨.hbm, 52, rfl⟩
abbrev main_call2_v0 : Ref sig .tc := ⟨.hbm, 53, rfl⟩
abbrev main_v26 : Ref sig .tc := ⟨.hbm, 54, rfl⟩
abbrev main_v27 : Ref sig .tc := ⟨.hbm, 55, rfl⟩
abbrev main_call3_v0 : Ref sig .tc := ⟨.hbm, 56, rfl⟩
abbrev main_call3_call0_cst : Ref sig .tc := ⟨.hbm, 57, rfl⟩
abbrev main_call3_call0_v0 : Ref sig .tc := ⟨.hbm, 58, rfl⟩
abbrev main_call3_call0_v1 : Ref sig .tc := ⟨.hbm, 59, rfl⟩
abbrev main_call3_call0_v2 : Ref sig .tc := ⟨.hbm, 60, rfl⟩
abbrev main_call3_call0_v3 : Ref sig .tc := ⟨.hbm, 61, rfl⟩
abbrev main_call3_call0_v4 : Ref sig .tc := ⟨.hbm, 62, rfl⟩
abbrev main_call3_call0_v5 : Ref sig .tc := ⟨.hbm, 63, rfl⟩
abbrev main_call3_call0_v6 : Ref sig .tc := ⟨.hbm, 64, rfl⟩
abbrev main_call3_call0_v7 : Ref sig .tc := ⟨.hbm, 65, rfl⟩
abbrev main_call3_call0_v8 : Ref sig .tc := ⟨.hbm, 66, rfl⟩
abbrev main_call3_call0_v9 : Ref sig .tc := ⟨.hbm, 67, rfl⟩
abbrev main_call3_call0_v10 : Ref sig .tc := ⟨.hbm, 68, rfl⟩
abbrev main_call3_call0_v11 : Ref sig .tc := ⟨.hbm, 69, rfl⟩
abbrev main_call3_v1 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_0 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩

abbrev nD : Nat := 1
abbrev τ : Topo := Topo.v7x

variable {F : FTy → Type} [FloatOps F]
-- ==== RecurrenceSample.lean ====
abbrev S8x16x512 : Shape := ⟨3, ![8, 16, 512]⟩
abbrev S2x512 : Shape := ⟨2, ![2, 512]⟩
abbrev S1x512 : Shape := ⟨2, ![1, 512]⟩
abbrev S1x8x4x128x128 : Shape := ⟨5, ![1, 8, 4, 128, 128]⟩
abbrev S96x16 : Shape := ⟨2, ![96, 16]⟩
abbrev S16x16 : Shape := ⟨2, ![16, 16]⟩
abbrev S512 : Shape := ⟨1, ![512]⟩
abbrev S1x16x512 : Shape := ⟨3, ![1, 16, 512]⟩
abbrev S1x1x4x128x128 : Shape := ⟨5, ![1, 1, 4, 128, 128]⟩
abbrev S4x128x128 : Shape := ⟨3, ![4, 128, 128]⟩
abbrev S1x1x1x128x128 : Shape := ⟨5, ![1, 1, 1, 128, 128]⟩
abbrev S128x128 : Shape := ⟨2, ![128, 128]⟩
abbrev S1x128x128 : Shape := ⟨3, ![1, 128, 128]⟩
abbrev S16x512 : Shape := ⟨2, ![16, 512]⟩
abbrev S16x1536 : Shape := ⟨2, ![16, 1536]⟩
abbrev S16x128 : Shape := ⟨2, ![16, 128]⟩
abbrev S1x128 : Shape := ⟨2, ![1, 128]⟩
abbrev S16 : Shape := ⟨1, ![16]⟩
abbrev S16x1 : Shape := ⟨2, ![16, 1]⟩

abbrev nBuf : Space → Nat
  | .hbm => 13
  | .vmem => 19
  | .smem => 0
  | _ => 0

abbrev bufTy : (tb : Table) → Fin (tcTables nBuf tb) → BufTy
  | .hbm, ⟨0, _⟩ => ⟨S8x16x512, .bf16⟩
  | .hbm, ⟨1, _⟩ => ⟨S8x16x512, .f32⟩
  | .hbm, ⟨2, _⟩ => ⟨S8x16x512, .bf16⟩
  | .hbm, ⟨3, _⟩ => ⟨S8x16x512, .bf16⟩
  | .hbm, ⟨4, _⟩ => ⟨S2x512, .f32⟩
  | .hbm, ⟨5, _⟩ => ⟨S1x512, .f32⟩
  | .hbm, ⟨6, _⟩ => ⟨S1x8x4x128x128, .f32⟩
  | .hbm, ⟨7, _⟩ => ⟨S96x16, .bf16⟩
  | .hbm, ⟨8, _⟩ => ⟨S16x16, .i32⟩
  | .hbm, ⟨9, _⟩ => ⟨S512, .f32⟩
  | .hbm, ⟨10, _⟩ => ⟨S1x512, .f32⟩
  | .hbm, ⟨11, _⟩ => ⟨S8x16x512, .bf16⟩
  | .hbm, ⟨12, _⟩ => ⟨S1x8x4x128x128, .f32⟩
  | .local _ .vmem, ⟨0, _⟩ => ⟨S1x16x512, .bf16⟩
  | .local _ .vmem, ⟨1, _⟩ => ⟨S1x16x512, .bf16⟩
  | .local _ .vmem, ⟨2, _⟩ => ⟨S1x16x512, .f32⟩
  | .local _ .vmem, ⟨3, _⟩ => ⟨S1x16x512, .f32⟩
  | .local _ .vmem, ⟨4, _⟩ => ⟨S1x16x512, .bf16⟩
  | .local _ .vmem, ⟨5, _⟩ => ⟨S1x16x512, .bf16⟩
  | .local _ .vmem, ⟨6, _⟩ => ⟨S1x16x512, .bf16⟩
  | .local _ .vmem, ⟨7, _⟩ => ⟨S1x16x512, .bf16⟩
  | .local _ .vmem, ⟨8, _⟩ => ⟨S96x16, .bf16⟩
  | .local _ .vmem, ⟨9, _⟩ => ⟨S16x16, .i32⟩
  | .local _ .vmem, ⟨10, _⟩ => ⟨S2x512, .f32⟩
  | .local _ .vmem, ⟨11, _⟩ => ⟨S1x512, .f32⟩
  | .local _ .vmem, ⟨12, _⟩ => ⟨S1x1x4x128x128, .f32⟩
  | .local _ .vmem, ⟨13, _⟩ => ⟨S1x1x4x128x128, .f32⟩
  | .local _ .vmem, ⟨14, _⟩ => ⟨S1x16x512, .bf16⟩
  | .local _ .vmem, ⟨15, _⟩ => ⟨S1x16x512, .bf16⟩
  | .local _ .vmem, ⟨16, _⟩ => ⟨S1x1x4x128x128, .f32⟩
  | .local _ .vmem, ⟨17, _⟩ => ⟨S1x1x4x128x128, .f32⟩
  | .local _ .vmem, ⟨18, _⟩ => ⟨S4x128x128, .f32⟩
  | _, _ => ⟨S8x16x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_132 : BitVec 32 := 0#32
  let v388 : BitVec 1 := Scalar.cmpi .eq arg1 c0_i32_132
  let v389 : BitVec 32 := Scalar.extui v388
  let c0_i32_133 : BitVec 32 := 0#32
  let v390 : BitVec 1 := Scalar.cmpi .ne v389 c0_i32_133
  v390

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S96x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== RecurrenceSampleReferenceIdeal.lean ====
abbrev S8x16x512 : Shape := ⟨3, ![8, 16, 512]⟩
abbrev S2x512 : Shape := ⟨2, ![2, 512]⟩
abbrev S1x512 : Shape := ⟨2, ![1, 512]⟩
abbrev S1x8x4x128x128 : Shape := ⟨5, ![1, 8, 4, 128, 128]⟩
abbrev S_ : Shape := ⟨0, ![]⟩
abbrev S512 : Shape := ⟨1, ![512]⟩
abbrev S1x1x512 : Shape := ⟨3, ![1, 1, 512]⟩
abbrev S8x16x4x128 : Shape := ⟨4, ![8, 16, 4, 128]⟩
abbrev S8x4x16x128 : Shape := ⟨4, ![8, 4, 16, 128]⟩
abbrev S8x4x128x128 : Shape := ⟨4, ![8, 4, 128, 128]⟩
abbrev S16x16 : Shape := ⟨2, ![16, 16]⟩
abbrev S16x16x1 : Shape := ⟨3, ![16, 16, 1]⟩
abbrev S8x4x16x1x128 : Shape := ⟨5, ![8, 4, 16, 1, 128]⟩
abbrev S8x4x1x16x128 : Shape := ⟨5, ![8, 4, 1, 16, 128]⟩
abbrev S8x4x16x16x128 : Shape := ⟨5, ![8, 4, 16, 16, 128]⟩
abbrev S8x4x16x16 : Shape := ⟨4, ![8, 4, 16, 16]⟩
abbrev S8x4x1x128 : Shape := ⟨4, ![8, 4, 1, 128]⟩
abbrev S8x4x128 : Shape := ⟨3, ![8, 4, 128]⟩
abbrev S8x4x128x1 : Shape := ⟨4, ![8, 4, 128, 1]⟩
abbrev S8x4x16 : Shape := ⟨3, ![8, 4, 16]⟩
abbrev S8x4x16x1 : Shape := ⟨4, ![8, 4, 16, 1]⟩

abbrev nBuf : Space → Nat
  | .hbm => 153
  | .vmem => 0
  | .smem => 0
  | _ => 0

abbrev hbmTy0_0 (i : Nat) : BufTy := match i % 128 with
  | 0 => ⟨S8x16x512, .bf16⟩
  | 1 => ⟨S8x16x512, .f32⟩
  | 2 => ⟨S8x16x512, .bf16⟩
  | 3 => ⟨S8x16x512, .bf16⟩
  | 4 => ⟨S2x512, .f32⟩
  | 5 => ⟨S1x512, .f32⟩
  | 6 => ⟨S1x8x4x128x128, .f32⟩
  | 7 => ⟨S_, .f32⟩
  | 8 => ⟨S512, .f32⟩
  | 9 => ⟨S_, .f32⟩
  | 10 => ⟨S512, .f32⟩
  | 11 => ⟨S512, .f32⟩
  | 12 => ⟨S1x512, .f32⟩
  | 13 => ⟨S2x512, .f32⟩
  | 14 => ⟨S2x512, .f32⟩
  | 15 => ⟨S2x512, .f32⟩
  | 16 => ⟨S_, .f32⟩
  | 17 => ⟨S512, .f32⟩
  | 18 => ⟨S1x512, .f32⟩
  | 19 => ⟨S2x512, .f32⟩
  | 20 => ⟨S2x512, .f32⟩
  | 21 => ⟨S_, .f32⟩
  | 22 => ⟨S_, .f32⟩
  | 23 => ⟨S2x512, .f32⟩
  | 24 => ⟨S1x512, .f32⟩
  | 25 => ⟨S512, .f32⟩
  | 26 => ⟨S_, .f32⟩
  | 27 => ⟨S512, .f32⟩
  | 28 => ⟨S512, .f32⟩
  | 29 => ⟨S8x16x512, .f32⟩
  | 30 => ⟨S8x16x512, .f32⟩
  | 31 => ⟨S_, .f32⟩
  | 32 => ⟨S8x16x512, .f32⟩
  | 33 => ⟨S8x16x512, .f32⟩
  | 34 => ⟨S_, .f32⟩
  | 35 => ⟨S8x16x512, .f32⟩
  | 36 => ⟨S8x16x512, .f32⟩
  | 37 => ⟨S1x1x512, .f32⟩
  | 38 => ⟨S8x16x512, .f32⟩
  | 39 => ⟨S8x16x512, .f32⟩
  | 40 => ⟨S1x1x512, .f32⟩
  | 41 => ⟨S8x16x512, .f32⟩
  | 42 => ⟨S8x16x512, .f32⟩
  | 43 => ⟨S8x16x512, .f32⟩
  | 44 => ⟨S8x16x512, .f32⟩
  | 45 => ⟨S8x16x512, .f32⟩
  | 46 => ⟨S_, .f32⟩
  | 47 => ⟨S8x16x512, .f32⟩
  | 48 => ⟨S8x16x512, .f32⟩
  | 49 => ⟨S_, .f32⟩
  | 50 => ⟨S8x16x512, .f32⟩
  | 51 => ⟨S8x16x512, .f32⟩
  | 52 => ⟨S8x16x512, .f32⟩
  | 53 => ⟨S8x16x4x128, .f32⟩
  | 54 => ⟨S8x4x16x128, .f32⟩
  | 55 => ⟨S_, .f32⟩
  | 56 => ⟨S8x16x512, .f32⟩
  | 57 => ⟨S8x16x512, .f32⟩
  | 58 => ⟨S8x16x4x128, .f32⟩
  | 59 => ⟨S8x4x16x128, .f32⟩
  | 60 => ⟨S8x16x512, .f32⟩
  | 61 => ⟨S8x16x4x128, .f32⟩
  | 62 => ⟨S8x4x16x128, .f32⟩
  | 63 => ⟨S8x16x512, .f32⟩
  | 64 => ⟨S8x16x4x128, .f32⟩
  | 65 => ⟨S8x4x16x128, .f32⟩
  | 66 => ⟨S8x4x128x128, .f32⟩
  | 67 => ⟨S_, .i1⟩
  | 68 => ⟨S16x16, .i1⟩
  | 69 => ⟨S16x16, .i32⟩
  | 70 => ⟨S_, .i32⟩
  | 71 => ⟨S16x16, .i32⟩
  | 72 => ⟨S16x16, .i32⟩
  | 73 => ⟨S16x16, .i32⟩
  | 74 => ⟨S16x16, .i1⟩
  | 75 => ⟨S_, .i1⟩
  | 76 => ⟨S16x16, .i1⟩
  | 77 => ⟨S16x16, .i1⟩
  | 78 => ⟨S16x16x1, .i1⟩
  | 79 => ⟨S_, .f32⟩
  | 80 => ⟨S_, .f32⟩
  | 81 => ⟨S8x4x16x128, .f32⟩
  | 82 => ⟨S8x4x16x1x128, .f32⟩
  | 83 => ⟨S8x4x1x16x128, .f32⟩
  | 84 => ⟨S8x4x16x16x128, .f32⟩
  | 85 => ⟨S8x4x16x16x128, .f32⟩
  | 86 => ⟨S8x4x16x16x128, .f32⟩
  | 87 => ⟨S_, .f32⟩
  | 88 => ⟨S8x4x16x16x128, .f32⟩
  | 89 => ⟨S8x4x16x16x128, .f32⟩
  | 90 => ⟨S8x4x16x16x128, .f32⟩
  | 91 => ⟨S_, .f32⟩
  | 92 => ⟨S_, .f32⟩
  | 93 => ⟨S8x4x16x16x128, .i1⟩
  | 94 => ⟨S8x4x16x16x128, .f32⟩
  | 95 => ⟨S8x4x16x16x128, .f32⟩
  | 96 => ⟨S8x4x16x1x128, .f32⟩
  | 97 => ⟨S8x4x1x16x128, .f32⟩
  | 98 => ⟨S8x4x16x16x128, .f32⟩
  | 99 => ⟨S8x4x16x16x128, .f32⟩
  | 100 => ⟨S8x4x16x16x128, .f32⟩
  | 101 => ⟨S8x4x16x16x128, .f32⟩
  | 102 => ⟨S_, .f32⟩
  | 103 => ⟨S8x4x16x16, .f32⟩
  | 104 => ⟨S8x4x16x128, .f32⟩
  | 105 => ⟨S8x4x16x128, .f32⟩
  | 106 => ⟨S8x4x16x128, .f32⟩
  | 107 => ⟨S8x4x16x128, .f32⟩
  | 108 => ⟨S8x4x16x128, .f32⟩
  | 109 => ⟨S8x4x1x128, .f32⟩
  | 110 => ⟨S8x4x1x128, .f32⟩
  | 111 => ⟨S8x4x128, .f32⟩
  | 112 => ⟨S8x4x128x1, .f32⟩
  | 113 => ⟨S8x4x128x128, .f32⟩
  | 114 => ⟨S8x4x128x128, .f32⟩
  | 115 => ⟨S8x4x16x128, .f32⟩
  | 116 => ⟨S8x4x16x128, .f32⟩
  | 117 => ⟨S8x4x16x128, .f32⟩
  | 118 => ⟨S8x4x16x128, .f32⟩
  | 119 => ⟨S8x4x128x128, .f32⟩
  | 120 => ⟨S8x4x128x128, .f32⟩
  | 121 => ⟨S8x4x16x128, .f32⟩
  | 122 => ⟨S_, .f32⟩
  | 123 => ⟨S8x4x16, .f32⟩
  | 124 => ⟨S8x4x16x1, .f32⟩
  | 125 => ⟨S_, .f32⟩
  | 126 => ⟨S8x4x16x1, .f32⟩
  | 127 => ⟨S8x4x16x1, .f32⟩
  | _ => ⟨S8x16x512, .bf16⟩

abbrev hbmTy0_1 (i : Nat) : BufTy := match i % 128 with
  | 0 => ⟨S_, .f32⟩
  | 1 => ⟨S8x4x16x1, .f32⟩
  | 2 => ⟨S8x4x16x1, .f32⟩
  | 3 => ⟨S8x4x16x1, .f32⟩
  | 4 => ⟨S8x4x16x128, .f32⟩
  | 5 => ⟨S8x4x16x128, .f32⟩
  | 6 => ⟨S8x16x4x128, .f32⟩
  | 7 => ⟨S8x16x512, .f32⟩
  | 8 => ⟨S512, .f32⟩
  | 9 => ⟨S1x1x512, .f32⟩
  | 10 => ⟨S8x16x512, .f32⟩
  | 11 => ⟨S8x16x512, .f32⟩
  | 12 => ⟨S8x16x512, .f32⟩
  | 13 => ⟨S8x16x512, .f32⟩
  | 14 => ⟨S8x16x512, .f32⟩
  | 15 => ⟨S_, .f32⟩
  | 16 => ⟨S8x16x512, .f32⟩
  | 17 => ⟨S8x16x512, .f32⟩
  | 18 => ⟨S_, .f32⟩
  | 19 => ⟨S8x16x512, .f32⟩
  | 20 => ⟨S8x16x512, .f32⟩
  | 21 => ⟨S8x16x512, .f32⟩
  | 22 => ⟨S8x16x512, .f32⟩
  | 23 => ⟨S8x16x512, .bf16⟩
  | 24 => ⟨S1x8x4x128x128, .f32⟩
  | _ => ⟨S8x16x512, .bf16⟩

abbrev hbmTy (i : Nat) : BufTy := match i / 128 with
  | 0 => hbmTy0_0 i
  | 1 => hbmTy0_1 i
  | _ => ⟨S8x16x512, .bf16⟩

abbrev bufTy : (tb : Table) → Fin (tcTables nBuf tb) → BufTy
  | .hbm, ⟨i, _⟩ => hbmTy i
  | _, _ => ⟨S8x16x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_call0_cst : Ref sig .tc := ⟨.hbm, 21, rfl⟩
abbrev main_call0_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c : Ref sig .tc := ⟨.hbm, 67, rfl⟩
abbrev main_v43 : Ref sig .tc := ⟨.hbm, 68, rfl⟩
abbrev main_call2_v0 : Ref sig .tc := ⟨.hbm, 69, rfl⟩
abbrev main_call2_c : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_c_0 : Ref sig .tc := ⟨.hbm, 75, rfl⟩
abbrev main_call2_v5 : Ref sig .tc := ⟨.hbm, 76, rfl⟩
abbrev main_v44 : Ref sig .tc := ⟨.hbm, 77, rfl⟩
abbrev main_v45 : Ref sig .tc := ⟨.hbm, 78, rfl⟩
abbrev main_call3_call0_cst : Ref sig .tc := ⟨.hbm, 79, rfl⟩
abbrev main_call3_call0_v0 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_6 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_7 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_8 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_9 : Ref sig .tc := ⟨.hbm, 122, rfl⟩
abbrev main_v81 : Ref sig .tc := ⟨.hbm, 123, rfl⟩
abbrev main_v82 : Ref sig .tc := ⟨.hbm, 124, rfl⟩
abbrev main_cst_10 : Ref sig .tc := ⟨.hbm, 125, rfl⟩
abbrev main_v83 : Ref sig .tc := ⟨.hbm, 126, rfl⟩
abbrev main_v84 : Ref sig .tc := ⟨.hbm, 127, rfl⟩
abbrev main_cst_11 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_call5_v0 : Ref sig .tc := ⟨.hbm, 141, rfl⟩
abbrev main_call5_v1 : Ref sig .tc := ⟨.hbm, 142, rfl⟩
abbrev main_call5_cst : Ref sig .tc := ⟨.hbm, 143, rfl⟩
abbrev main_call5_v2 : Ref sig .tc := ⟨.hbm, 144, rfl⟩
abbrev main_call5_v3 : Ref sig .tc := ⟨.hbm, 145, rfl⟩
abbrev main_call5_cst_0 : Ref sig .tc := ⟨.hbm, 146, rfl⟩
abbrev main_call5_v4 : Ref sig .tc := ⟨.hbm, 147, rfl⟩
abbrev main_call5_v5 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩

abbrev nD : Nat := 1
abbrev τ : Topo := Topo.v7x

variable {F : FTy → Type} [FloatOps F]
-- ==== Proof.Stick.lean ====
/-
  Stick-breaking weights over the extended reals: one query row, its scores `z s`, and the two ways of writing the
  weight of a key. The textbook way is `exp (log σ(z) + Σ later log (1 − σ))`; the tiled way is `exp (z + Σ inclusive)`,
  with the sums taken tile by tile from the last key back to the first. Both agree at every extended-real score.
-/
module

public import Idealize.ShloMosaic.PureOps.Ideal

@[expose] public section

noncomputable section

namespace Cert.Proof.Stick

open Idealize.ShloMosaic
open scoped BigOperators

/-- The logarithm of `1 − σ(z)`, as `−(max z 0 + log (1 + exp (−|z|)))`. -/
def keep (z : EReal) : EReal := 0 - (max z 0 + Ideal.log (1 + Ideal.exp (0 - max z (-z))))

/-- The logarithm of `σ(z)`. -/
def logSig (z : EReal) : EReal := keep (-z)

theorem keep_coe (r : ℝ) : keep (r : EReal) = ((-(max r 0 + Real.log (1 + Real.exp (-|r|))) : ℝ) : EReal) := by
  have h1 : (0 : EReal) - max (r : EReal) (-(r : EReal)) = ((-|r| : ℝ) : EReal) := by
    rw [← EReal.coe_neg, ← EReal.coe_strictMono.monotone.map_max, zero_sub, EReal.coe_neg]; rfl
  have hpos : ¬ (1 + Real.exp (-|r|) ≤ 0) := by have := Real.exp_pos (-|r|); linarith
  have h2 : Ideal.log (1 + Ideal.exp ((-|r| : ℝ) : EReal)) = ((Real.log (1 + Real.exp (-|r|)) : ℝ) : EReal) := by
    rw [Ideal.exp_coe, ← EReal.coe_one, ← EReal.coe_add, Ideal.log_coe, if_neg hpos]
  have h3 : max (r : EReal) 0 = ((max r 0 : ℝ) : EReal) := by
    rw [← EReal.coe_zero]; exact (EReal.coe_strictMono.monotone.map_max).symm
  unfold keep
  rw [h1, h2, h3, ← EReal.coe_add, zero_sub, ← EReal.coe_neg]

theorem log_one : Ideal.log 1 = 0 := by
  rw [← EReal.coe_one, Ideal.log_coe, if_neg (by norm_num), Real.log_one, EReal.coe_zero]

theorem keep_top : keep ⊤ = ⊥ := by
  simp [keep, log_one]

theorem keep_bot : keep ⊥ = 0 := by
  simp [keep, log_one]

theorem keep_ne_top (z : EReal) : keep z ≠ ⊤ := by
  induction z using EReal.rec with
  | bot => simp [keep_bot]
  | top => simp [keep_top]
  | coe r => rw [keep_coe]; exact EReal.coe_ne_top _

theorem logSig_bot : logSig ⊥ = ⊥ := by simp [logSig, keep_top]

theorem logSig_coe (r : ℝ) : logSig (r : EReal) = (r : EReal) + keep (r : EReal) := by
  unfold logSig
  rw [← EReal.coe_neg, keep_coe, keep_coe, ← EReal.coe_add, abs_neg]
  congr 1
  rcases le_total r 0 with h | h
  · rw [max_eq_left (by linarith), max_eq_right h]; ring
  · rw [max_eq_right (by linarith), max_eq_left h]; ring

/-- The two ways of writing a weight's exponent give the same weight, whatever follows (`A`) and whatever the score. -/
theorem weight_eq (z A R : EReal) :
    Ideal.exp (z + (keep z + A) + R) = Ideal.exp (logSig z + ((keep z + (A + R)) - keep z)) := by
  induction z using EReal.rec with
  | bot => simp [logSig_bot]
  | top => simp [keep_top]
  | coe r =>
    rw [logSig_coe]
    obtain ⟨l, hl⟩ : ∃ l : ℝ, keep (r : EReal) = (l : EReal) := ⟨_, keep_coe r⟩
    rw [hl]
    congr 1
    have : ((l : EReal) + (A + R)) - (l : EReal) = A + R := by
      rw [add_comm, EReal.add_sub_cancel_right]
    rw [this, add_assoc, add_assoc, add_assoc]

/-! ### The row's sums -/

/-- The keys of a row. -/
abbrev N : ℕ := 2048

/-- The masked logarithm at key `s` of query row `t`. -/
def K (z : ℕ → EReal) (t s : ℕ) : EReal := if s < t then keep (z s) else 0

/-- The sum of the masked logarithms from key `a` on. -/
def runAt (z : ℕ → EReal) (t a : ℕ) : EReal := ∑ s ∈ Finset.Ico a N, K z t s

/-- The weight of key `s` in row `t`. -/
def wt (z : ℕ → EReal) (t s : ℕ) : EReal :=
  if s < t then Ideal.exp (logSig (z s) + (runAt z t s - K z t s)) else 0

/-- The weighted sum of the values from key `a` on. -/
def accAt (z : ℕ → EReal) (t : ℕ) (V : ℕ → EReal) (a : ℕ) : EReal := ∑ s ∈ Finset.Ico a N, wt z t s * V s

/-- The row's result. -/
def out (z : ℕ → EReal) (t : ℕ) (V : ℕ → EReal) : EReal := accAt z t V 0

theorem K_ne_top (z : ℕ → EReal) (t s : ℕ) : K z t s ≠ ⊤ := by
  unfold K; split
  · exact keep_ne_top _
  · exact EReal.zero_ne_top

/-- A value, split into itself and what is left, adds up to itself unless it is `⊤`. -/
theorem add_sub_self_of_ne_top (x : EReal) (h : x ≠ ⊤) : x + (x - x) = x := by
  induction x using EReal.rec with
  | bot => simp
  | top => exact absurd rfl h
  | coe r => rw [← EReal.coe_sub, ← EReal.coe_add]; congr 1; ring

/-- A sum over the places of a tile is a sum over a range of keys. -/
theorem sum_tile {w : ℕ} (f : ℕ → EReal) (a : ℕ) : ∑ k : Fin w, f (a + k) = ∑ s ∈ Finset.Ico a (a + w), f s := by
  rw [Fin.sum_univ_eq_sum_range (fun k => f (a + k)) w, Finset.sum_Ico_eq_sum_range]
  simp

/-- The same, from place `c` on. -/
theorem sum_tile_from {w : ℕ} (f : ℕ → EReal) (a c : ℕ) (hc : c < w) :
    ∑ k : Fin w, (if c ≤ (k : ℕ) then f (a + k) else 0) = ∑ s ∈ Finset.Ico (a + c) (a + w), f s := by
  have h := sum_tile (w := w) (fun s => if a + c ≤ s then f s else 0) a
  simp only [Nat.add_le_add_iff_left] at h
  rw [h, ← Finset.sum_filter]
  refine Finset.sum_congr ?_ fun _ _ => rfl
  ext s; simp only [Finset.mem_filter, Finset.mem_Ico]; omega

/-- The triangle of ones applied to a split row leaves the inclusive suffix sums. -/
theorem split_suffix {w : ℕ} (x : Fin w → EReal) (S : Fin w → EReal) (c : Fin w) (hx : ∀ k, x k ≠ ⊤)
    (hS : ∀ k, S k = if (c : ℕ) ≤ (k : ℕ) then 1 else 0) :
    ∑ k, x k * S k + ∑ k, (x k - x k) * S k = ∑ k : Fin w, if (c : ℕ) ≤ (k : ℕ) then x k else 0 := by
  rw [← Finset.sum_add_distrib]
  refine Finset.sum_congr rfl fun k _ => ?_
  rw [hS]
  split
  · rw [mul_one, mul_one, add_sub_self_of_ne_top _ (hx k)]
  · rw [mul_zero, mul_zero, add_zero]

/-- ONE TILE: from the sums over the keys after the tile to the sums over the keys from the tile's start. -/
theorem tile {w : ℕ} [NeZero w] (z : ℕ → EReal) (t : ℕ) (V : ℕ → EReal) (a : ℕ) (ha : a + w ≤ N) (run acc : EReal)
    (hrun : run = runAt z t (a + w)) (hacc : acc = accAt z t V (a + w))
    (incl p v : Fin w → EReal)
    (hincl : ∀ c : Fin w, incl c = ∑ k : Fin w, if (c : ℕ) ≤ (k : ℕ) then K z t (a + k) else 0)
    (hp : ∀ k : Fin w, p k = if a + (k : ℕ) < t then Ideal.exp (z (a + k) + incl k + run) else 0)
    (hv : ∀ k : Fin w, v k = V (a + k)) :
    run + incl 0 = runAt z t a ∧ acc + ∑ k, p k * v k = accAt z t V a := by
  have hi : ∀ c : Fin w, incl c = ∑ s ∈ Finset.Ico (a + c) (a + w), K z t s := fun c => by
    rw [hincl, sum_tile_from (K z t) a c c.isLt]
  have hsuf : ∀ c : Fin w, incl c + run = runAt z t (a + c) := fun c => by
    rw [hi, hrun]; unfold runAt
    exact Finset.sum_Ico_consecutive _ (by have := c.isLt; omega) ha
  refine ⟨?_, ?_⟩
  · rw [add_comm, hsuf, Fin.val_zero, add_zero]
  · have hp' : ∀ k : Fin w, p k * v k = wt z t (a + k) * V (a + k) := fun k => by
      rw [hp, hv]; unfold wt
      split
      · rename_i hlt
        congr 1
        have hk : incl k = keep (z (a + k)) + ∑ s ∈ Finset.Ico (a + k + 1) (a + w), K z t s := by
          rw [hi, Finset.sum_eq_sum_Ico_succ_bot (by omega)]
          congr 1
          exact if_pos hlt
        rw [← hsuf, hk, weight_eq, add_assoc]
        have hK : K z t (a + k) = keep (z (a + k)) := if_pos hlt
        rw [hK, add_assoc]
      · rfl
    rw [Finset.sum_congr rfl fun k _ => hp' k, sum_tile (w := w) (fun s => wt z t s * V s) a, hacc]
    unfold accAt
    rw [add_comm]
    exact Finset.sum_Ico_consecutive _ (by omega) ha

/-- Past the row's own key nothing is left to add. -/
theorem runAt_of_le (z : ℕ → EReal) (t a : ℕ) (h : t ≤ a) : runAt z t a = 0 :=
  Finset.sum_eq_zero fun s hs => if_neg (by have := (Finset.mem_Ico.mp hs).1; omega)

theorem accAt_of_le (z : ℕ → EReal) (t : ℕ) (V : ℕ → EReal) (a : ℕ) (h : t ≤ a) : accAt z t V a = 0 :=
  Finset.sum_eq_zero fun s hs => by
    have : wt z t s = 0 := if_neg (by have := (Finset.mem_Ico.mp hs).1; omega)
    rw [this, zero_mul]

end Cert.Proof.Stick

end
-- ==== Proof.Suffix.lean ====
/-
  A running sum taken from the last column back, read at one place: what the window of a whole row, padded past the row's
  end, adds up is the row from that place on.
-/
module

public import proofs.«01_k».proof.Proof.Stick
public import proofs.«01_k».proof.ReferenceIdeal
public import Idealize.ShloMosaic.Lib.Pointwise

@[expose] public section

set_option maxRecDepth 16384

noncomputable section

namespace Cert.Proof.Suffix

open Idealize.ShloMosaic
open scoped BigOperators

theorem foldl_sum {ι : Type} (g : ι → EReal) : ∀ (l : List ι) (v : EReal),
    l.foldl (fun r n => r + g n) v = v + (l.map g).sum
  | [], v => by simp
  | n :: l, v => by simp [foldl_sum g l, add_assoc]

abbrev S4 : Shape := ⟨4, ![8, 8, 2048, 2048]⟩
abbrev W4 : Shape := ⟨4, ![1, 1, 1, 2048]⟩

/-- A window's positions are its columns. -/
def cols : Fin 2048 ≃ W4.Idx where
  toFun k := ix4 0 0 0 k
  invFun y := y 3
  left_inv k := rfl
  right_inv y := by
    funext a
    match a with
    | ⟨0, _⟩ => exact Fin.ext (by have := (y 0).isLt; change (y 0).val < 1 at this; show 0 = (y 0).val; omega)
    | ⟨1, _⟩ => exact Fin.ext (by have := (y 1).isLt; change (y 1).val < 1 at this; show 0 = (y 1).val; omega)
    | ⟨2, _⟩ => exact Fin.ext (by have := (y 2).isLt; change (y 2).val < 1 at this; show 0 = (y 2).val; omega)
    | ⟨3, _⟩ => rfl

/-- The columns from `s` on, counted from `s`. -/
theorem sum_from (f : ℕ → EReal) (s : ℕ) (hs : s < 2048) :
    ∑ k : Fin 2048, (if s + (k : ℕ) < 2048 then f (s + k) else 0) = ∑ j ∈ Finset.Ico s 2048, f j := by
  rw [Fin.sum_univ_eq_sum_range (fun k => if s + k < 2048 then f (s + k) else 0) 2048, Finset.sum_Ico_eq_sum_range,
    ← Finset.sum_filter]
  refine Finset.sum_congr ?_ fun _ _ => rfl
  ext k
  simp only [Finset.mem_filter, Finset.mem_range]
  omega

/-- A windowed sum at a place: the starting value and what stands at each of the window's positions. -/
theorem window_apply {s t u : Shape} (window strides lo hi : Fin s.rank → ℕ) (X : FVec Ideal s .f32) (init : FVec Ideal u .f32)
    (hw : s.ReduceWindows window strides lo hi t) (hu : 0 < u.numel) (j : t.Idx) :
    Host.reduceWindowAdd (F := Ideal) window strides lo hi X init hw hu j
      = (init (Shape.Idx.first hu) + ∑ y : (⟨s.rank, window⟩ : Shape).Idx,
          (if hin : ∀ a, lo a ≤ (j (a.cast hw.1.symm)).val * strides a + (y a).val
              ∧ (j (a.cast hw.1.symm)).val * strides a + (y a).val - lo a < s.size a
            then X (fun a => ⟨(j (a.cast hw.1.symm)).val * strides a + (y a).val - lo a, (hin a).2⟩)
            else init (Shape.Idx.first hu) : EReal) : EReal) := by
  refine (foldl_sum _ _ _).trans ?_
  refine congrArg (_ + ·) ((Fin.sum_univ_def _).symm.trans ?_)
  refine (Finset.sum_congr rfl fun n _ => ?_).trans (Equiv.sum_comp (⟨s.rank, window⟩ : Shape).rowMajor.symm (fun y => (if hin : ∀ a, lo a ≤ (j (a.cast hw.1.symm)).val * strides a + (y a).val
              ∧ (j (a.cast hw.1.symm)).val * strides a + (y a).val - lo a < s.size a
            then X (fun a => ⟨(j (a.cast hw.1.symm)).val * strides a + (y a).val - lo a, (hin a).2⟩)
            else init (Shape.Idx.first hu) : EReal)))
  dsimp only
  congr

theorem suffix_apply (X : FVec Ideal S4 .f32) (init : FVec Ideal ⟨0, ![]⟩ .f32) (f : ℕ → EReal) (b h : Fin 8) (t s : Fin 2048)
    (hX : ∀ j : Fin 2048, X (ix4 b h t j) = f j) (hinit : ∀ i, init i = 0)
    (hw : S4.ReduceWindows ![1, 1, 1, 2048] ![1, 1, 1, 1] ![0, 0, 0, 0] ![0, 0, 0, 2047] S4) (hu : 0 < (⟨0, ![]⟩ : Shape).numel) :
    Host.reduceWindowAdd (F := Ideal) ![1, 1, 1, 2048] ![1, 1, 1, 1] ![0, 0, 0, 0] ![0, 0, 0, 2047] X init hw hu (ix4 b h t s)
      = (∑ j ∈ Finset.Ico (s : ℕ) 2048, f j : EReal) := by
  rw [window_apply, hinit, zero_add]
  refine Eq.trans ?_ (sum_from f s s.isLt)
  refine (Equiv.sum_comp cols _).symm.trans ?_
  refine Finset.sum_congr rfl fun k _ => ?_
  by_cases hc : (s : ℕ) + k < 2048
  · rw [if_pos hc, dif_pos]
    · rw [← hX ⟨_, hc⟩]
      congr 1
      funext a
      apply Fin.ext
      match a with
      | ⟨0, _⟩ => show (b : ℕ) * 1 + 0 - 0 = b; omega
      | ⟨1, _⟩ => show (h : ℕ) * 1 + 0 - 0 = h; omega
      | ⟨2, _⟩ => show (t : ℕ) * 1 + 0 - 0 = t; omega
      | ⟨3, _⟩ => show (s : ℕ) * 1 + k - 0 = s + k; omega
    · intro a
      match a with
      | ⟨0, _⟩ => show 0 ≤ (b : ℕ) * 1 + 0 ∧ (b : ℕ) * 1 + 0 - 0 < 8; omega
      | ⟨1, _⟩ => show 0 ≤ (h : ℕ) * 1 + 0 ∧ (h : ℕ) * 1 + 0 - 0 < 8; omega
      | ⟨2, _⟩ => show 0 ≤ (t : ℕ) * 1 + 0 ∧ (t : ℕ) * 1 + 0 - 0 < 2048; omega
      | ⟨3, _⟩ => show 0 ≤ (s : ℕ) * 1 + k ∧ (s : ℕ) * 1 + k - 0 < 2048; omega
  · rw [if_neg hc, dif_neg]
    intro hin
    have := (hin (3 : Fin 4)).2
    change (s : ℕ) * 1 + k - 0 < 2048 at this
    omega

end Cert.Proof.Suffix

end
-- ==== Proof.Tile.lean ====
/-
  One tile of the attention kernel, read at an index: from the running sums over the keys after the tile to the sums over
  the keys from the tile's first on, for a tile that lies wholly before the query rows and for the tile on the diagonal.
-/
module

public import proofs.«01_k».proof.Proof.Gen.KernelIdeal.Value
public import proofs.«01_k».proof.Proof.Stick
public import Idealize.ShloMosaic.Lib.Pointwise

@[expose] public section

noncomputable section

namespace Cert.Proof.Tile

open Idealize.ShloMosaic Cert.KernelIdeal Cert.KernelIdeal.Gen Cert.Proof.Stick
open scoped BigOperators

/-- Signed comparison of two small naturals, as 32-bit words. -/
theorem slt_word (a b : ℕ) (ha : a < 2 ^ 31) (hb : b < 2 ^ 31) :
    IntOp.cmpi CmpIPredicate.slt (BitVec.ofNat 32 a) (BitVec.ofNat 32 b) = if a < b then 1#1 else 0#1 := by
  have : BitVec.slt (BitVec.ofNat 32 a) (BitVec.ofNat 32 b) = decide (a < b) := by
    rw [BitVec.slt, BitVec.toInt_eq_toNat_cond, BitVec.toInt_eq_toNat_cond]
    simp only [BitVec.toNat_ofNat]
    rw [Nat.mod_eq_of_lt (by omega), Nat.mod_eq_of_lt (by omega), if_pos (by omega), if_pos (by omega)]
    simp
  simp only [IntOp.cmpi, this]
  split <;> rename_i h <;> simp [h]

theorem sge_word (a b : ℕ) (ha : a < 2 ^ 31) (hb : b < 2 ^ 31) :
    IntOp.cmpi CmpIPredicate.sge (BitVec.ofNat 32 a) (BitVec.ofNat 32 b) = if b ≤ a then 1#1 else 0#1 := by
  have : BitVec.sle (BitVec.ofNat 32 b) (BitVec.ofNat 32 a) = decide (b ≤ a) := by
    rw [BitVec.sle, BitVec.toInt_eq_toNat_cond, BitVec.toInt_eq_toNat_cond]
    simp only [BitVec.toNat_ofNat]
    rw [Nat.mod_eq_of_lt (by omega), Nat.mod_eq_of_lt (by omega), if_pos (by omega), if_pos (by omega)]
    simp
  simp only [IntOp.cmpi, this]
  split <;> rename_i h <;> simp [h]

/-- A mask's selection. -/
theorem select_ite (p : Prop) [Decidable p] (x y : EReal) :
    Scalar.select (if p then 1#1 else 0#1) x y = if p then x else y := by
  split <;> simp [Scalar.select]

/-- The triangle of ones. -/
theorem suffix_apply (r c : Fin 256) :
    k0_pay1 (F := Ideal) (ix2 r c) = if (c : ℕ) ≤ (r : ℕ) then 1 else 0 := by
  pointwise [k0_pay1]
  rw [sge_word _ _ (by omega) (by omega), select_ite]

/-- The diagonal tile's mask. -/
theorem mask_apply (r c : Fin 256) : k0_pay2 (ix2 r c) = if (c : ℕ) < (r : ℕ) then 1#1 else 0#1 := by
  pointwise [k0_pay2]
  rw [slt_word _ _ (by omega) (by omega)]

/-- The inclusive sums of a whole tile. -/
theorem incl_apply (v11 : FVec Ideal S256x64 .bf16) (v122 : Vec Ideal S1x1x64x256 .bf16) (r c : Fin 256) :
    k0_pay15 (F := Ideal) k0_pay1 v11 v122 (ix2 r c)
      = ∑ k : Fin 256, if (c : ℕ) ≤ (k : ℕ) then keep (k0_pay14 (F := Ideal) v11 v122 (ix2 r k)) else 0 := by
  rw [← split_suffix (fun k => keep (k0_pay14 (F := Ideal) v11 v122 (ix2 r k))) (fun k => k0_pay1 (F := Ideal) (ix2 k c)) c
    (fun k => keep_ne_top _) (fun k => suffix_apply k c)]
  pointwise [k0_pay15]
  rfl

/-- The masked logarithms of the diagonal tile. -/
theorem logs_apply (v10 : Vec Ideal S1x256x64 .bf16) (v15 : Vec Ideal S1x1x64x256 .bf16) (r c : Fin 256) :
    k0_pay8 (F := Ideal) v10 v15 (ix2 r c)
      = if (c : ℕ) < (r : ℕ) then keep (k0_pay6 (F := Ideal) v10 v15 (ix2 r c)) else 0 := by
  pointwise [k0_pay8]
  rw [mask_apply, select_ite]
  rfl

/-- The inclusive sums of the diagonal tile. -/
theorem inclDiag_apply (v10 : Vec Ideal S1x256x64 .bf16) (v15 : Vec Ideal S1x1x64x256 .bf16) (r c : Fin 256) :
    k0_pay11 (F := Ideal) k0_pay1 (k0_pay9 v10 v15) (k0_pay10 v10 v15) (ix2 r c)
      = ∑ k : Fin 256, if (c : ℕ) ≤ (k : ℕ) then k0_pay8 (F := Ideal) v10 v15 (ix2 r k) else 0 := by
  rw [← split_suffix (fun k => k0_pay8 (F := Ideal) v10 v15 (ix2 r k)) (fun k => k0_pay1 (F := Ideal) (ix2 k c)) c
    (fun k => by
      rw [logs_apply]
      split
      · exact keep_ne_top _
      · exact EReal.zero_ne_top) (fun k => suffix_apply k c)]
  pointwise [k0_pay11, k0_pay9, k0_pay10]

/-- A tile's scores, -/
theorem score_apply (v11 : FVec Ideal S256x64 .bf16) (v122 : Vec Ideal S1x1x64x256 .bf16) (r c : Fin 256) :
    k0_pay14 (F := Ideal) v11 v122 (ix2 r c) = ∑ d : Fin 64, v11 (ix2 r d) * v122 (ix4 0 0 d c) := by
  pointwise [k0_pay14]

/-- the diagonal tile's, -/
theorem scoreDiag_apply (v10 : Vec Ideal S1x256x64 .bf16) (v15 : Vec Ideal S1x1x64x256 .bf16) (r c : Fin 256) :
    k0_pay6 (F := Ideal) v10 v15 (ix2 r c) = ∑ d : Fin 64, v10 (ix3 0 r d) * v15 (ix4 0 0 d c) := by
  pointwise [k0_pay6, k0_pay3]

/-- the head's queries, -/
theorem query_apply (v10 : Vec Ideal S1x256x64 .bf16) (r : Fin 256) (d : Fin 64) :
    k0_pay3 (F := Ideal) v10 (ix2 r d) = v10 (ix3 0 r d) := by
  pointwise [k0_pay3]

/-- and the two heads side by side, times the gate. -/
theorem gate_apply (A B : FVec Ideal S256x64 .f32) (g : Vec Ideal S1x256x128 .bf16) (r : Fin 256) (l : Fin 128) :
    k0_pay40 (F := Ideal) A B g (ix3 0 r l)
      = (if h : (l : ℕ) < 64 then A (ix2 r ⟨l, h⟩) else B (ix2 r ⟨l - 64, by omega⟩)) * g (ix3 0 r l) := by
  pointwise [k0_pay40]

variable (z : Fin 256 → ℕ → EReal) (V : Fin 64 → ℕ → EReal) (t : Fin 256 → ℕ) (a : ℕ)

/-- A WHOLE TILE: every key of it comes before every query row. -/
theorem whole (ha : a + 256 ≤ N) (ht : ∀ r, a + 256 ≤ t r)
    (v11 : FVec Ideal S256x64 .bf16) (v122 : Vec Ideal S1x1x64x256 .bf16) (v126 : Vec Ideal S1x1x256x64 .bf16)
    (run : FVec Ideal S256x1 .f32) (acc : FVec Ideal S256x64 .f32)
    (hz : ∀ r c, k0_pay14 (F := Ideal) v11 v122 (ix2 r c) = z r (a + c))
    (hv : ∀ c d, v126 (ix4 0 0 c d) = V d (a + c))
    (hrun : ∀ r, run (ix2 r 0) = runAt (z r) (t r) (a + 256))
    (hacc : ∀ r d, acc (ix2 r d) = accAt (z r) (t r) (V d) (a + 256)) :
    (∀ r, k0_pay17 (F := Ideal) k0_pay1 v11 run v122 (ix2 r 0) = runAt (z r) (t r) a)
      ∧ ∀ r d, k0_pay16 (F := Ideal) k0_pay1 v11 run acc v122 v126 (ix2 r d) = accAt (z r) (t r) (V d) a := by
  have key : ∀ r d, _ := fun r d => tile (z r) (t r) (V d) a ha (run (ix2 r 0)) (acc (ix2 r d)) (hrun r) (hacc r d)
    (fun c => k0_pay15 (F := Ideal) k0_pay1 v11 v122 (ix2 r c))
    (fun k => Ideal.exp (k0_pay14 (F := Ideal) v11 v122 (ix2 r k) + k0_pay15 (F := Ideal) k0_pay1 v11 v122 (ix2 r k) + run (ix2 r 0)))
    (fun k => v126 (ix4 0 0 k d))
    (fun c => by
      rw [incl_apply]
      refine Finset.sum_congr rfl fun k _ => ?_
      rw [hz, K, if_pos (show a + (k : ℕ) < t r by have := ht r; omega)])
    (fun k => by rw [hz, if_pos (show a + (k : ℕ) < t r by have := ht r; omega)])
    (fun k => hv k d)
  refine ⟨fun r => ?_, fun r d => ?_⟩
  · rw [← (key r 0).1]
    pointwise [k0_pay17]
  · rw [← (key r d).2]
    pointwise [k0_pay16]

/-- THE DIAGONAL TILE: row `r` sees the keys before its own. -/
theorem diag (ha : a + 256 ≤ N) (ht : ∀ r : Fin 256, t r = a + r)
    (v10 : Vec Ideal S1x256x64 .bf16) (v15 : Vec Ideal S1x1x64x256 .bf16) (v19 : Vec Ideal S1x1x256x64 .bf16)
    (hz : ∀ r c, k0_pay6 (F := Ideal) v10 v15 (ix2 r c) = z r (a + c))
    (hv : ∀ c d, v19 (ix4 0 0 c d) = V d (a + c)) :
    (∀ r, k0_pay13 (F := Ideal) k0_pay1 k0_pay4 (k0_pay9 v10 v15) (k0_pay10 v10 v15) (ix2 r 0) = runAt (z r) (t r) a)
      ∧ ∀ r d, k0_pay12 (F := Ideal) k0_pay1 k0_pay2 k0_pay4 k0_pay5 (k0_pay6 v10 v15) (k0_pay7 v19) (k0_pay9 v10 v15)
          (k0_pay10 v10 v15) (ix2 r d) = accAt (z r) (t r) (V d) a := by
  have h0 : ∀ r : Fin 256, k0_pay4 (F := Ideal) (ix2 r 0) = 0 := fun r => by pointwise [k0_pay4]
  have h1 : ∀ (r : Fin 256) (d : Fin 64), k0_pay5 (F := Ideal) (ix2 r d) = 0 := fun r d => by pointwise [k0_pay5]
  have key : ∀ r d, _ := fun r d => tile (z r) (t r) (V d) a ha 0 0
    (runAt_of_le (z r) (t r) (a + 256) (by rw [ht]; omega)).symm (accAt_of_le (z r) (t r) (V d) (a + 256) (by rw [ht]; omega)).symm
    (fun c => k0_pay11 (F := Ideal) k0_pay1 (k0_pay9 v10 v15) (k0_pay10 v10 v15) (ix2 r c))
    (fun k => if (k : ℕ) < (r : ℕ) then Ideal.exp (k0_pay6 (F := Ideal) v10 v15 (ix2 r k)
      + k0_pay11 (F := Ideal) k0_pay1 (k0_pay9 v10 v15) (k0_pay10 v10 v15) (ix2 r k) + 0) else 0)
    (fun k => v19 (ix4 0 0 k d))
    (fun c => by
      rw [inclDiag_apply]
      refine Finset.sum_congr rfl fun k _ => ?_
      rw [logs_apply, hz, K, ht]
      simp only [Nat.add_lt_add_iff_left])
    (fun k => by rw [hz, ht]; simp only [Nat.add_lt_add_iff_left])
    (fun k => hv k d)
  refine ⟨fun r => ?_, fun r d => ?_⟩
  · rw [← (key r 0).1]
    pointwise [k0_pay13]
    rw [h0, zero_add]
  · rw [← (key r d).2]
    pointwise [k0_pay12, k0_pay7]
    rw [h1, zero_add]
    refine Finset.sum_congr rfl fun k _ => ?_
    rw [mask_apply, select_ite, h0, add_zero]
    split <;> simp

end Cert.Proof.Tile

end
-- ==== Proof.Ref.lean ====
/-
  THE REFERENCE'S ARRAY, read at an index: the attention written in one piece over whole arrays.
-/
module

public import proofs.«01_k».proof.Proof.Suffix
public import proofs.«01_k».proof.Proof.Tile
public import proofs.«01_k».proof.Proof.Gen.ReferenceIdeal.Run
public import Idealize.ShloMosaic.Lib.Pointwise

@[expose] public section

set_option maxRecDepth 16384

noncomputable section

namespace Cert.Proof.Ref

open Idealize.ShloMosaic Idealize.ShloMosaic.TcCoe
open Cert.ReferenceIdeal Cert.ReferenceIdeal.Gen
open scoped BigOperators

/-- A projection's rows cut into heads. -/
def heads (x : FVec Ideal S8x2048x512 .f32) : FVec Ideal S8x8x2048x64 .f32 :=
  transpose S8x8x2048x64 [0, 2, 1, 3] (shapeCast S8x2048x8x64 x shapeCasts_S8x2048x512_S8x2048x8x64)
    transposes_S8x2048x8x64_S8x8x2048x64_0_2_1_3

/-- The keys, stored lane by lane in tiles, as rows. -/
def keyRows (k : FVec Ideal S8x8x512x256 .bf16) : FVec Ideal S8x2048x512 .f32 :=
  shapeCast S8x2048x512 (transpose S8x8x256x512 [0, 1, 3, 2] (extf .f32 k bitsLt_bf16_f32)
    transposes_S8x8x512x256_S8x8x256x512_0_1_3_2) shapeCasts_S8x8x256x512_S8x2048x512

def scores (q : FVec Ideal S8x2048x512 .bf16) (k : FVec Ideal S8x8x512x256 .bf16) : FVec Ideal S8x8x2048x2048 .f32 :=
  Host.dotGeneral dot_S8x8x2048x64_S8x8x2048x64_S8x8x2048x2048_3_3_2_2_01_01 none (heads (extf .f32 q bitsLt_bf16_f32)) (heads (keyRows k))

def zeros : FVec Ideal S8x8x2048x2048 .f32 :=
  broadcastInDim S8x8x2048x2048 ![] bcast_S_S8x8x2048x2048 (constant S_ .f32 0x00000000#32)

/-- What stands at the keys not before the query. -/
def blank : FVec Ideal S8x8x2048x2048 .f32 :=
  broadcastInDim S8x8x2048x2048 ![] bcast_S_S8x8x2048x2048 (id (constant S_ .f32 0x00000000#32))

/-- The logarithm of the logistic function, written over `y = −x`. -/
def logistic (y : FVec Ideal S8x8x2048x2048 .f32) : FVec Ideal S8x8x2048x2048 .f32 :=
  Host.negf (select (cmpf .une (subf y zeros) (subf y zeros)) (addf y zeros)
    (addf (maximumf y zeros) (Host.log1p (Host.exp (Host.negf (Host.absf (subf y zeros)))))))

/-- A key before its query. -/
def before : IVec S8x8x2048x2048 1 :=
  broadcastInDim S8x8x2048x2048 ![2, 3] bcast_S2048x2048_S8x8x2048x2048_2_3 (cmpi .slt
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))

def kept (z : FVec Ideal S8x8x2048x2048 .f32) : FVec Ideal S8x8x2048x2048 .f32 :=
  select before (logistic (Host.negf (Host.negf z))) blank

def running (x : FVec Ideal S8x8x2048x2048 .f32) : FVec Ideal S8x8x2048x2048 .f32 :=
  Host.reduceWindowAdd ![1, 1, 1, 2048] ![1, 1, 1, 1] ![0, 0, 0, 0] ![0, 0, 0, 2047] x
    (broadcastInDim S_ ![] bcast_S_S_ (constant S_ .f32 0x00000000#32))
    reduceWindows_S8x8x2048x2048_S8x8x2048x2048_w1s1p0_0_w1s1p0_0_w1s1p0_0_w2048s1p0_2047 h_S_

def weights (z : FVec Ideal S8x8x2048x2048 .f32) : FVec Ideal S8x8x2048x2048 .f32 :=
  select before (Host.exp (addf (logistic (Host.negf z)) (subf (running (kept z)) (kept z)))) blank

def mixed (w : FVec Ideal S8x8x2048x2048 .f32) (v : FVec Ideal S8x2048x512 .bf16) : FVec Ideal S8x8x2048x64 .f32 :=
  Host.dotGeneral dot_S8x8x2048x2048_S8x8x2048x64_S8x8x2048x64_3_2_2_3_01_01 none w (heads (extf .f32 v bitsLt_bf16_f32))

/-- The heads side by side again, times the gate. -/
def gated (o : FVec Ideal S8x8x2048x64 .f32) (g : FVec Ideal S8x2048x512 .bf16) : FVec Ideal S8x2048x512 .bf16 :=
  truncf .bf16 (mulf (shapeCast S8x2048x512 (transpose S8x2048x8x64 [0, 2, 1, 3] o
    transposes_S8x8x2048x64_S8x2048x8x64_0_2_1_3) shapeCasts_S8x2048x8x64_S8x2048x512) (extf .f32 g bitsLt_bf16_f32)) bitsLt_bf16_f32

def whole (q : FVec Ideal S8x2048x512 .bf16) (k : FVec Ideal S8x8x512x256 .bf16) (v g : FVec Ideal S8x2048x512 .bf16) :
    FVec Ideal S8x2048x512 .bf16 := gated (mixed (weights (scores q k)) v) g

variable (m : (ℓ : Loc nD τ sig) → Buf (Elt Ideal) ℓ)

/-- What the reference leaves is this term of its arguments. -/
theorem result_eq (c : Dev nD) : Value.res_out0 m c = whole (m ((c.tc : Thread nD τ).loc main_arg0)) (m ((c.tc : Thread nD τ).loc main_arg1))
    (m ((c.tc : Thread nD τ).loc main_arg2)) (m ((c.tc : Thread nD τ).loc main_arg3)) := by
  unfold Value.res_out0 Value.res_main_v32 whole gated mixed weights running kept before logistic zeros blank scores keyRows heads
  rfl

theorem heads_apply (x : FVec Ideal S8x2048x512 .f32) (b h : Fin 8) (t : Fin 2048) (d : Fin 64) :
    heads x (ix4 b h t d) = x (ix3 b t ⟨64 * (h : ℕ) + d, by omega⟩) := by
  pointwise [heads]
  congr 2
  exact Fin.ext (by show (h : ℕ) * 64 + d = 64 * h + d; omega)

theorem keyRows_apply (x : FVec Ideal S8x8x512x256 .bf16) (b : Fin 8) (t : Fin 2048) (l : Fin 512) :
    keyRows x (ix3 b t l) = x (ix4 b ⟨(t : ℕ) / 256, by omega⟩ l ⟨(t : ℕ) % 256, by omega⟩) := by
  pointwise [keyRows]

theorem logistic_apply (y : FVec Ideal S8x8x2048x2048 .f32) (b h : Fin 8) (t s : Fin 2048) :
    logistic y (ix4 b h t s) = Stick.keep (y (ix4 b h t s)) := by
  pointwise [logistic, zeros]
  rw [if_neg (fun h => h rfl)]
  unfold Stick.keep Ideal.log1p
  rw [zero_sub, zero_sub]
  rfl

theorem before_apply (b h : Fin 8) (t s : Fin 2048) :
    before (ix4 b h t s) = if (s : ℕ) < t then 1#1 else 0#1 := by
  pointwise [before]
  exact Tile.slt_word s t (by omega) (by omega)

theorem scores_apply (q : FVec Ideal S8x2048x512 .bf16) (k : FVec Ideal S8x8x512x256 .bf16) (b h : Fin 8) (t s : Fin 2048) :
    scores q k (ix4 b h t s) = ∑ d : Fin 64, q (ix3 b t ⟨64 * (h : ℕ) + d, by omega⟩)
      * k (ix4 b ⟨(s : ℕ) / 256, by omega⟩ ⟨64 * (h : ℕ) + d, by omega⟩ ⟨(s : ℕ) % 256, by omega⟩) := by
  pointwise [scores]
  refine Finset.sum_congr rfl fun d _ => ?_
  rw [heads_apply, heads_apply, keyRows_apply]
  rfl

theorem mixed_apply (w : FVec Ideal S8x8x2048x2048 .f32) (v : FVec Ideal S8x2048x512 .bf16) (b h : Fin 8) (t : Fin 2048) (d : Fin 64) :
    mixed w v (ix4 b h t d) = ∑ s : Fin 2048, w (ix4 b h t s) * v (ix3 b s ⟨64 * (h : ℕ) + d, by omega⟩) := by
  pointwise [mixed]
  refine Finset.sum_congr rfl fun s _ => ?_
  rw [heads_apply]
  rfl

theorem gated_apply (o : FVec Ideal S8x8x2048x64 .f32) (g : FVec Ideal S8x2048x512 .bf16) (b : Fin 8) (t : Fin 2048) (l : Fin 512) :
    gated o g (ix3 b t l) = o (ix4 b ⟨(l : ℕ) / 64, by omega⟩ t ⟨(l : ℕ) % 64, by omega⟩) * g (ix3 b t l) := by
  pointwise [gated]

theorem zero_at : (id (constant S_ .f32 0#32 : FVec Ideal S_ .f32) : FVec Ideal S_ .f32) ix0 = (0 : EReal) := by
  show (constant S_ .f32 0#32 : FVec Ideal S_ .f32) ix0 = (0 : EReal)
  pointwise []

theorem kept_apply (z : FVec Ideal S8x8x2048x2048 .f32) (b h : Fin 8) (t s : Fin 2048) :
    kept z (ix4 b h t s) = if (s : ℕ) < t then Stick.keep (z (ix4 b h t s)) else 0 := by
  have e : kept z (ix4 b h t s) = if before (ix4 b h t s) = 1#1 then logistic (Host.negf (Host.negf z)) (ix4 b h t s) else 0 := by
    pointwise [kept, blank]
    exact congrArg (Scalar.select _ _) zero_at
  rw [e, before_apply, logistic_apply]
  have e2 : Host.negf (Host.negf z) (ix4 b h t s) = z (ix4 b h t s) := neg_neg (z (ix4 b h t s) : EReal)
  rw [e2]
  by_cases hc : (s : ℕ) < t <;> simp [hc]

theorem weights_apply (z : FVec Ideal S8x8x2048x2048 .f32) (b h : Fin 8) (t : Fin 2048) (f : ℕ → EReal)
    (hf : ∀ s : Fin 2048, z (ix4 b h t s) = f s) (s : Fin 2048) :
    weights z (ix4 b h t s) = Stick.wt f t s := by
  have e : weights z (ix4 b h t s) = if before (ix4 b h t s) = 1#1
      then Ideal.exp (logistic (Host.negf z) (ix4 b h t s) + (running (kept z) (ix4 b h t s) - kept z (ix4 b h t s))) else 0 := by
    pointwise [weights, blank]
    exact congrArg (Scalar.select _ _) zero_at
  have hk : ∀ j : Fin 2048, kept z (ix4 b h t j) = Stick.K f t j := fun j => by
    rw [kept_apply, hf]; rfl
  have hr : running (kept z) (ix4 b h t s) = Stick.runAt f t s :=
    Suffix.suffix_apply (kept z) _ (Stick.K f t) b h t s hk (fun i => by pointwise []) _ _
  have hl : logistic (Host.negf z) (ix4 b h t s) = Stick.logSig (f s) := by
    rw [logistic_apply, ← hf]; rfl
  rw [e, before_apply, hk, hr, hl]
  unfold Stick.wt
  by_cases hc : (s : ℕ) < t <;> simp [hc]

/-- THE REFERENCE AT AN INDEX: the row's attention, gated. -/
theorem whole_apply (q : FVec Ideal S8x2048x512 .bf16) (k : FVec Ideal S8x8x512x256 .bf16) (v g : FVec Ideal S8x2048x512 .bf16)
    (b : Fin 8) (t : Fin 2048) (l : Fin 512) (f V : ℕ → EReal)
    (hf : ∀ s : Fin 2048, f s = ∑ d : Fin 64, q (ix3 b t ⟨64 * ((l : ℕ) / 64) + d, by omega⟩)
      * k (ix4 b ⟨(s : ℕ) / 256, by omega⟩ ⟨64 * ((l : ℕ) / 64) + d, by omega⟩ ⟨(s : ℕ) % 256, by omega⟩))
    (hV : ∀ s : Fin 2048, V s = v (ix3 b s l)) :
    whole q k v g (ix3 b t l) = Stick.out f t V * g (ix3 b t l) := by
  unfold whole
  rw [gated_apply, mixed_apply]
  refine congrArg (· * g (ix3 b t l)) ?_
  unfold Stick.out Stick.accAt Stick.N
  rw [Nat.Ico_zero_eq_range, ← Fin.sum_univ_eq_sum_range (fun s => Stick.wt f t s * V s) 2048]
  refine Finset.sum_congr rfl fun s _ => ?_
  rw [weights_apply _ _ _ _ f (fun s => (scores_apply q k b _ t s).trans (hf s).symm), hV]
  congr 3
  exact Fin.ext (by show 64 * ((l : ℕ) / 64) + (l : ℕ) % 64 = l; omega)

end Cert.Proof.Ref

end
-- ==== Proof.Block.lean ====
/-
  The attention kernel's block: the two heads of a grid point, each the diagonal tile followed by a loop over the tiles
  before it (the second loop, for a remainder, makes no trip), and what the body leaves in its output block.
-/
module

public import proofs.«01_k».proof.Proof.Tile

@[expose] public section

noncomputable section

namespace Cert.Proof.Block

open Idealize.ShloMosaic Cert.KernelIdeal Cert.KernelIdeal.Gen Cert.Proof.Stick Cert.Proof.Tile
open scoped BigOperators

/-- Lane `d` of head `hh` of a pair. -/
def lane (hh : Fin 2) (d : Fin 64) : Fin 128 := ⟨64 * hh + d, by omega⟩

/-- The tile a key lies in, and its place there. -/
def tileOf (s : ℕ) : Fin 8 := ⟨s / 256 % 8, Nat.mod_lt _ (by norm_num)⟩
def placeOf (s : ℕ) : Fin 256 := ⟨s % 256, Nat.mod_lt _ (by norm_num)⟩

theorem tileOf_add (j : ℕ) (hj : j < 8) (c : Fin 256) : tileOf (256 * j + c) = ⟨j, hj⟩ := by
  apply Fin.ext; show (256 * j + c) / 256 % 8 = j; omega
theorem placeOf_add (j : ℕ) (c : Fin 256) : placeOf (256 * j + c) = c := by
  apply Fin.ext; show (256 * j + c) % 256 = c; omega

/-- A query row's scores against the staged keys of its batch, -/
def zrow (x0 : Vec Ideal S1x256x128 .bf16) (x1 : Vec Ideal S1x8x128x256 .bf16) (hh : Fin 2) (r : Fin 256) (s : ℕ) : EReal :=
  ∑ d : Fin 64, x0 (ix3 0 r (lane hh d)) * x1 (ix4 0 (tileOf s) (lane hh d) (placeOf s))
/-- the staged values of one lane, -/
def vcol (x2 : Vec Ideal S1x8x256x128 .bf16) (hh : Fin 2) (d : Fin 64) (s : ℕ) : EReal :=
  x2 (ix4 0 (tileOf s) (placeOf s) (lane hh d))
/-- and the position of a row of query tile `i`. -/
def qpos (i : ℕ) (r : Fin 256) : ℕ := 256 * i + r

/-- A load of one tile of a head's keys, -/
theorem ldKeys (x1 : Vec Ideal S1x8x128x256 .bf16) (off : Fin 4 → ℕ) (j : ℕ) (hj : j < 8) (hh : Fin 2)
    (hoff : off = ![0, j, 64 * (hh : ℕ), 0]) (h : ∀ a, off a + S1x1x64x256.size a ≤ S1x8x128x256.size a) (d : Fin 64) (c : Fin 256) :
    View.ld x1 (Rect.unit (s := S1x8x128x256) off S1x1x64x256.size h) (ix4 0 0 d c) = x1 (ix4 0 ⟨j, hj⟩ (lane hh d) c) := by
  subst hoff
  pointwise []
  congr 1

/-- and of its values. -/
theorem ldValues (x2 : Vec Ideal S1x8x256x128 .bf16) (off : Fin 4 → ℕ) (j : ℕ) (hj : j < 8) (hh : Fin 2)
    (hoff : off = ![0, j, 0, 64 * (hh : ℕ)]) (h : ∀ a, off a + S1x1x256x64.size a ≤ S1x8x256x128.size a) (c : Fin 256) (d : Fin 64) :
    View.ld x2 (Rect.unit (s := S1x8x256x128) off S1x1x256x64.size h) (ix4 0 0 c d) = x2 (ix4 0 ⟨j, hj⟩ c (lane hh d)) := by
  subst hoff
  pointwise []
  congr 1

/-! ### The loops' trips and offsets -/

theorem i2_lt (i : grid0.Coords) : (i 2).val < 8 := (i 2).isLt

theorem trips1 : ∀ i : grid0.Coords, (k0_t1_loop i).trips = (i 2).val := by decide +kernel
theorem trips2 : ∀ i : grid0.Coords, (k0_t2_loop i).trips = 0 := by decide +kernel
theorem trips3 : ∀ i : grid0.Coords, (k0_t3_loop i).trips = (i 2).val := by decide +kernel
theorem trips4 : ∀ i : grid0.Coords, (k0_t4_loop i).trips = 0 := by decide +kernel
theorem off3_eq : ∀ (i : grid0.Coords) (k : Fin (k0_t1_loop i).trips), k0_off3 i k = ![0, (i 2).val - 1 - k.val, 0, 0] := by decide +kernel
theorem off4_eq : ∀ (i : grid0.Coords) (k : Fin (k0_t1_loop i).trips), k0_off4 i k = ![0, (i 2).val - 1 - k.val, 0, 0] := by decide +kernel
theorem off9_eq : ∀ (i : grid0.Coords) (k : Fin (k0_t3_loop i).trips), k0_off9 i k = ![0, (i 2).val - 1 - k.val, 64, 0] := by decide +kernel
theorem off10_eq : ∀ (i : grid0.Coords) (k : Fin (k0_t3_loop i).trips), k0_off10 i k = ![0, (i 2).val - 1 - k.val, 0, 64] := by decide +kernel

section Loops

variable (𝒱 : Variants) (c : Dev nD) (bd : Option 𝒱.V) (i : grid0.Coords) (arg3 : Memref sig .tc .vmem S1x256x128 .bf16) (harg3 : arg3.IsWhole) (arg4 : Memref sig .tc .vmem S1x8x128x256 .bf16) (harg4 : arg4.IsWhole) (arg5 : Memref sig .tc .vmem S1x8x256x128 .bf16) (harg5 : arg5.IsWhole) (arg6 : Memref sig .tc .vmem S1x256x128 .bf16) (harg6 : arg6.IsWhole) (arg7 : Memref sig .tc .vmem S1x256x128 .bf16) (harg7 : arg7.IsWhole) (arg2 : BitVec 32)
variable (x0 : Vec Ideal S1x256x128 .bf16) (x1 : Vec Ideal S1x8x128x256 .bf16) (x2 : Vec Ideal S1x8x256x128 .bf16)

/-- What a head's state holds when the keys from `a` on have been visited. -/
def Holds (hh : Fin 2) (i : ℕ) (a : ℕ) (st : FVec Ideal S256x1 .f32 × FVec Ideal S256x64 .f32) : Prop :=
  (∀ r, st.1 (ix2 r 0) = runAt (zrow x0 x1 hh r) (qpos i r) a)
    ∧ ∀ r d, st.2 (ix2 r d) = accAt (zrow x0 x1 hh r) (qpos i r) (vcol x2 hh d) a

/-- The states of head 0's loop: before trip `n` the keys of the tiles from `i − n` on have been visited. -/
theorem loop0 (v9 : IVec S256x256 1) (v11 : FVec Ideal S256x64 .bf16) (v12 : FVec Ideal S256x1 .f32) (v13 : FVec Ideal S256x64 .f32) (v17 : FVec Ideal S256x256 .f32) (v20 : FVec Ideal S256x64 .bf16) (v35 : FVec Ideal S256x256 .bf16) (v37 : FVec Ideal S256x256 .f32)
    (hq : ∀ r d, v11 (ix2 r d) = x0 (ix3 0 r (lane 0 d)))
    (init : FVec Ideal S256x1 .f32 × FVec Ideal S256x64 .f32) (hinit : Holds x0 x1 x2 0 (i 2).val (256 * (i 2).val) init) :
    ∀ (n : ℕ) (h : n ≤ (i 2).val), Holds x0 x1 x2 0 (i 2).val (256 * ((i 2).val - n))
      (st_k0_t1 (F := Ideal) 𝒱 c bd i arg3 harg3 arg4 harg4 arg5 harg5 arg6 harg6 arg7 harg7 arg2 k0_pay1 v9 v11 v12 v13 v17 v20 v35 v37 (harg4.unread x1) (harg5.unread x2) init n) := by
  intro n
  induction n with
  | zero => intro _; exact hinit
  | succ n ih =>
    intro hn
    obtain ⟨ihr, iha⟩ := ih (by omega)
    have hi := i2_lt i
    have hlt : n < (k0_t1_loop i).trips := by rw [trips1]; omega
    rw [show n + 1 = (⟨n, hlt⟩ : Fin (k0_t1_loop i).trips).val + 1 from rfl, st_k0_t1_succ]
    unfold tripR_k0_t1 trip_k0_t1
    dsimp only
    simp only [View.readAt_eq_ld, harg4.read_unread, harg5.read_unread]
    have hj : (i 2).val - 1 - n < 8 := by omega
    have ea : 256 * ((i 2).val - (n + 1)) = 256 * ((i 2).val - 1 - n) := by omega
    have eb : 256 * ((i 2).val - n) = 256 * ((i 2).val - 1 - n) + 256 := by omega
    rw [ea]
    rw [eb] at ihr iha
    refine whole (zrow x0 x1 0) (vcol x2 0) (qpos (i 2).val) (256 * ((i 2).val - 1 - n)) (by show _ ≤ 2048; omega)
      (fun r => by unfold qpos; omega) v11 _ _ _ _ (fun r c => ?_) (fun c d => ?_) ihr iha
    · rw [score_apply]
      unfold zrow
      refine Finset.sum_congr rfl fun d _ => ?_
      rw [hq, tileOf_add _ hj, placeOf_add]
      congr 1
      exact ldKeys x1 _ _ hj 0 (off3_eq i ⟨n, hlt⟩) _ d c
    · unfold vcol
      rw [tileOf_add _ hj, placeOf_add]
      exact ldValues x2 _ _ hj 0 (off4_eq i ⟨n, hlt⟩) _ c d

/-- The states of head 1's loop: before trip `n` the keys of the tiles from `i − n` on have been visited. -/
theorem loop1 (v9 : IVec S256x256 1) (v59_1 : FVec Ideal S256x64 .f32) (v61 : FVec Ideal S256x64 .bf16) (v62 : FVec Ideal S256x1 .f32) (v63 : FVec Ideal S256x64 .f32) (v67 : FVec Ideal S256x256 .f32) (v70 : FVec Ideal S256x64 .bf16) (v72 : FVec Ideal S256x256 .f32) (v75 : FVec Ideal S256x256 .f32)
    (hq : ∀ r d, v61 (ix2 r d) = x0 (ix3 0 r (lane 1 d)))
    (init : FVec Ideal S256x1 .f32 × FVec Ideal S256x64 .f32) (hinit : Holds x0 x1 x2 1 (i 2).val (256 * (i 2).val) init) :
    ∀ (n : ℕ) (h : n ≤ (i 2).val), Holds x0 x1 x2 1 (i 2).val (256 * ((i 2).val - n))
      (st_k0_t3 (F := Ideal) 𝒱 c bd i arg3 harg3 arg4 harg4 arg5 harg5 arg6 harg6 arg7 harg7 arg2 k0_pay1 v9 v59_1 v61 v62 v63 v67 v70 v72 v75 (harg4.unread x1) (harg5.unread x2) init n) := by
  intro n
  induction n with
  | zero => intro _; exact hinit
  | succ n ih =>
    intro hn
    obtain ⟨ihr, iha⟩ := ih (by omega)
    have hi := i2_lt i
    have hlt : n < (k0_t3_loop i).trips := by rw [trips3]; omega
    rw [show n + 1 = (⟨n, hlt⟩ : Fin (k0_t3_loop i).trips).val + 1 from rfl, st_k0_t3_succ]
    unfold tripR_k0_t3 trip_k0_t3
    dsimp only
    simp only [View.readAt_eq_ld, harg4.read_unread, harg5.read_unread]
    have hj : (i 2).val - 1 - n < 8 := by omega
    have ea : 256 * ((i 2).val - (n + 1)) = 256 * ((i 2).val - 1 - n) := by omega
    have eb : 256 * ((i 2).val - n) = 256 * ((i 2).val - 1 - n) + 256 := by omega
    rw [ea]
    rw [eb] at ihr iha
    refine whole (zrow x0 x1 1) (vcol x2 1) (qpos (i 2).val) (256 * ((i 2).val - 1 - n)) (by show _ ≤ 2048; omega)
      (fun r => by unfold qpos; omega) v61 _ _ _ _ (fun r c => ?_) (fun c d => ?_) ihr iha
    · rw [score_apply]
      unfold zrow
      refine Finset.sum_congr rfl fun d _ => ?_
      rw [hq, tileOf_add _ hj, placeOf_add]
      congr 1
      exact ldKeys x1 _ _ hj 1 (off9_eq i ⟨n, hlt⟩) _ d c
    · unfold vcol
      rw [tileOf_add _ hj, placeOf_add]
      exact ldValues x2 _ _ hj 1 (off10_eq i ⟨n, hlt⟩) _ c d

end Loops

/-! ### The block -/

theorem hz3 : (![0, 0, 0] : Fin 3 → ℕ) = fun _ => 0 := by funext a; fin_cases a <;> rfl

/-- A load of a head's queries. -/
theorem ldQueries (x0 : Vec Ideal S1x256x128 .bf16) (off : Fin 3 → ℕ) (hh : Fin 2) (hoff : off = ![0, 0, 64 * (hh : ℕ)])
    (h : ∀ a, off a + S1x256x64.size a ≤ S1x256x128.size a) (r : Fin 256) (d : Fin 64) :
    View.ld x0 (Rect.unit (s := S1x256x128) off S1x256x64.size h) (ix3 0 r d) = x0 (ix3 0 r (lane hh d)) := by
  subst hoff
  pointwise []
  congr 1

theorem zero_trips2 (i : grid0.Coords) :
    Scf.trips (Scalar.addi (0#32) (Scalar.muli (Scalar.divsi (Scalar.subi (BitVec.ofNat 32 (i 2).val) 0#32) 1#32) 1#32))
      (Scalar.addi (0#32) (Scalar.subi (BitVec.ofNat 32 (i 2).val) 0#32)) 1#32 = 0 := trips2 i
theorem all_trips1 (i : grid0.Coords) :
    Scf.trips (0#32) (Scalar.addi (0#32) (Scalar.muli (Scalar.divsi (Scalar.subi (BitVec.ofNat 32 (i 2).val) 0#32) 1#32) 1#32))
      1#32 = (i 2).val := trips1 i

/-- The second head's diagonal tile is the first's, at its own lanes. -/
theorem diagRun1 (q : Vec Ideal S1x256x64 .bf16) (k : Vec Ideal S1x1x64x256 .bf16) :
    k0_pay31 (F := Ideal) k0_pay1 k0_pay2 k0_pay23 (k0_pay27 q k) (k0_pay28 q k)
      = k0_pay13 k0_pay1 k0_pay4 (k0_pay9 q k) (k0_pay10 q k) := rfl
theorem diagAcc1 (q : Vec Ideal S1x256x64 .bf16) (k : Vec Ideal S1x1x64x256 .bf16) (v : Vec Ideal S1x1x256x64 .bf16) :
    k0_pay30 (F := Ideal) k0_pay1 k0_pay2 k0_pay23 k0_pay24 (k0_pay25 q k) (k0_pay26 v) (k0_pay27 q k) (k0_pay28 q k)
      = k0_pay12 k0_pay1 k0_pay2 k0_pay4 k0_pay5 (k0_pay6 q k) (k0_pay7 v) (k0_pay9 q k) (k0_pay10 q k) := rfl

/-- A head's state after the diagonal tile. -/
theorem start (x0 : Vec Ideal S1x256x128 .bf16) (x1 : Vec Ideal S1x8x128x256 .bf16) (x2 : Vec Ideal S1x8x256x128 .bf16)
    (hh : Fin 2) (j : ℕ) (hj : j < 8) (oq : Fin 3 → ℕ) (ok ov : Fin 4 → ℕ) (hoq : oq = ![0, 0, 64 * (hh : ℕ)])
    (hok : ok = ![0, j, 64 * (hh : ℕ), 0]) (hov : ov = ![0, j, 0, 64 * (hh : ℕ)])
    (hq : ∀ a, oq a + S1x256x64.size a ≤ S1x256x128.size a) (hk : ∀ a, ok a + S1x1x64x256.size a ≤ S1x8x128x256.size a)
    (hv : ∀ a, ov a + S1x1x256x64.size a ≤ S1x8x256x128.size a) (q : Vec Ideal S1x256x64 .bf16)
    (k : Vec Ideal S1x1x64x256 .bf16) (v : Vec Ideal S1x1x256x64 .bf16)
    (eq : q = View.ld x0 (Rect.unit (s := S1x256x128) oq S1x256x64.size hq))
    (ek : k = View.ld x1 (Rect.unit (s := S1x8x128x256) ok S1x1x64x256.size hk))
    (ev : v = View.ld x2 (Rect.unit (s := S1x8x256x128) ov S1x1x256x64.size hv)) :
    Holds x0 x1 x2 hh j (256 * j) (k0_pay13 k0_pay1 k0_pay4 (k0_pay9 q k) (k0_pay10 q k),
      k0_pay12 k0_pay1 k0_pay2 k0_pay4 k0_pay5 (k0_pay6 q k) (k0_pay7 v) (k0_pay9 q k) (k0_pay10 q k)) := by
  refine diag (zrow x0 x1 hh) (vcol x2 hh) (qpos j) (256 * j) (by show _ ≤ 2048; omega) (fun r => rfl) q k v
    (fun r c => ?_) (fun c d => ?_)
  · rw [scoreDiag_apply]
    unfold zrow
    refine Finset.sum_congr rfl fun d _ => ?_
    rw [tileOf_add _ hj, placeOf_add, eq, ek, ldQueries x0 oq hh hoq, ldKeys x1 ok j hj hh hok]
  · unfold vcol
    rw [tileOf_add _ hj, placeOf_add, ev, ldValues x2 ov j hj hh hov]

/-- THE BLOCK: what the body leaves at row `r` and lane `d` of head `hh` is the row's attention times the gate. -/
theorem out_apply (c : Dev nD) (i : grid0.Coords) (arg3 : Memref sig .tc .vmem S1x256x128 .bf16) (harg3 : arg3.IsWhole) (arg4 : Memref sig .tc .vmem S1x8x128x256 .bf16) (harg4 : arg4.IsWhole) (arg5 : Memref sig .tc .vmem S1x8x256x128 .bf16) (harg5 : arg5.IsWhole) (arg6 : Memref sig .tc .vmem S1x256x128 .bf16) (harg6 : arg6.IsWhole) (arg7 : Memref sig .tc .vmem S1x256x128 .bf16) (harg7 : arg7.IsWhole)
    (x0 : Vec Ideal S1x256x128 .bf16) (x1 : Vec Ideal S1x8x128x256 .bf16) (x2 : Vec Ideal S1x8x256x128 .bf16) (x3 : Vec Ideal S1x256x128 .bf16) (r : Fin 256) (hh : Fin 2) (d : Fin 64) :
    out0_A_4 (F := Ideal) c i arg3 harg3 arg4 harg4 arg5 harg5 arg6 harg6 arg7 harg7 x0 x1 x2 x3 (ix3 0 r (lane hh d))
      = Stick.out (zrow x0 x1 hh r) (qpos (i 2).val r) (vcol x2 hh d) * x3 (ix3 0 r (lane hh d)) := by
  unfold out0_A_4
  rw [View.read_writes_eq_canon _ _ _ (cover0_A_4 c i arg3 harg3 arg4 harg4 arg5 harg5 arg6 harg6 arg7 harg7 x0 x1 x2 x3)]
  unfold kernelRun0_A
  dsimp only
  rw [View.canon_unit_zero hz3]
  sl_unfold_run_names
  simp only [View.readAt_eq_ld, harg3.read_unread, harg4.read_unread, harg5.read_unread, harg6.read_unread]
  rw [gate_apply, View.ld_unit_zero hz3]
  refine congrArg (· * x3 (ix3 0 r (lane hh d))) ?_
  simp only [zero_trips2, all_trips1, st_k0_t2_zero, st_k0_t4_zero]
  have hlast : 256 * ((i 2).val - (i 2).val) = 0 := by omega
  refine Eq.trans ?_ (congrArg (Stick.accAt (zrow x0 x1 hh r) (qpos (i 2).val r) (vcol x2 hh d)) hlast)
  obtain rfl | rfl : hh = 0 ∨ hh = 1 := by omega
  · have e : ((lane 0 d : Fin 128) : ℕ) < 64 := by show 64 * 0 + (d : ℕ) < 64; omega
    have ed : (⟨((lane 0 d : Fin 128) : ℕ), e⟩ : Fin 64) = d := Fin.ext (by show 64 * 0 + (d : ℕ) = d; omega)
    refine (dif_pos e).trans ?_
    rw [ed]
    refine (loop0 (x0 := x0) (x1 := x1) (x2 := x2) (hq := fun r d => ?_) (hinit := ?_) (n := (i 2).val) (h := le_rfl) ..).2 r d
    · rw [query_apply]
      exact ldQueries x0 _ 0 rfl _ r d
    · exact start x0 x1 x2 0 _ (i2_lt i) _ _ _ rfl (k0_off1_eq i) (k0_off2_eq i) _ _ _ _ _ _ rfl rfl rfl
  · have e : ¬ ((lane 1 d : Fin 128) : ℕ) < 64 := by show ¬ (64 * 1 + (d : ℕ) < 64); omega
    have ed : ∀ h, (⟨((lane 1 d : Fin 128) : ℕ) - 64, h⟩ : Fin 64) = d := fun h => Fin.ext (by show 64 * 1 + (d : ℕ) - 64 = d; omega)
    refine (dif_neg e).trans ?_
    rw [ed]
    refine (loop1 (x0 := x0) (x1 := x1) (x2 := x2) (hq := fun r d => ?_) (hinit := ?_) (n := (i 2).val) (h := le_rfl) ..).2 r d
    · exact (query_apply _ r d).trans (ldQueries x0 _ 1 rfl _ r d)
    · rw [diagRun1, diagAcc1]
      exact start x0 x1 x2 1 _ (i2_lt i) _ _ _ rfl (k0_off7_eq i) (k0_off8_eq i) _ _ _ _ _ _ rfl rfl rfl

end Cert.Proof.Block

end
-- ==== Proof.Array.lean ====
/-
  THE KERNEL'S ARRAY: the blocks of the launch put together. Every element of the result is the stick-breaking attention
  of its row and head, read from the four argument arrays, times the gate at the same place.
-/
module

public import proofs.«01_k».proof.Proof.Block
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Array

open Cert.KernelIdeal Cert.KernelIdeal.Gen Cert.Proof.Block

/-- The lane of dimension `d` in the head that lane `l` belongs to. -/
def mate (l : Fin 512) (d : Fin 64) : Fin 512 := ⟨64 * ((l : ℕ) / 64) + d, by omega⟩

/-- The array row of key `s`. -/
def keyRow (s : ℕ) : Fin 2048 := ⟨256 * (tileOf s : ℕ) + placeOf s, by omega⟩

/-- The score of query row `t` against key `s`, in batch `b` and the head of lane `l`. -/
def score (Q : FVec Ideal S8x2048x512 .bf16) (Kt : FVec Ideal S8x8x512x256 .bf16) (b : Fin 8) (t : Fin 2048) (l : Fin 512)
    (s : ℕ) : EReal :=
  ∑ d : Fin 64, Q (ix3 b t (mate l d)) * Kt (ix4 b (tileOf s) (mate l d) (placeOf s))

/-- The attention of row `t` at lane `l`, gated. -/
def attend (Q : FVec Ideal S8x2048x512 .bf16) (Kt : FVec Ideal S8x8x512x256 .bf16) (W : FVec Ideal S8x2048x512 .bf16)
    (g : FVec Ideal S8x2048x512 .bf16) (b : Fin 8) (t : Fin 2048) (l : Fin 512) : EReal :=
  Stick.out (score Q Kt b t l) t (fun s => W (ix3 b (keyRow s) l)) * g (ix3 b t l)

/-- The whole result array. -/
def result (Q : FVec Ideal S8x2048x512 .bf16) (Kt : FVec Ideal S8x8x512x256 .bf16) (W : FVec Ideal S8x2048x512 .bf16)
    (g : FVec Ideal S8x2048x512 .bf16) : FVec Ideal S8x2048x512 .bf16 := fun i => attend Q Kt W g (i 0) (i 1) (i 2)

variable (m : (ℓ : Loc nD τ sig) → Buf (Elt Ideal) ℓ)

/-- The blocks each point is given, in its three coordinates. -/
theorem idx : ∀ t : Fin cfg0.N,
    win0_0.index t = ![(grid0.coords t 0).val, (grid0.coords t 2).val, (grid0.coords t 1).val]
    ∧ win0_1.index t = ![(grid0.coords t 0).val, 0, (grid0.coords t 1).val, 0]
    ∧ win0_2.index t = ![(grid0.coords t 0).val, 0, 0, (grid0.coords t 1).val]
    ∧ win0_3.index t = ![(grid0.coords t 0).val, (grid0.coords t 2).val, (grid0.coords t 1).val]
    ∧ win0_4.index t = ![(grid0.coords t 0).val, (grid0.coords t 2).val, (grid0.coords t 1).val] :=
  (by decide +kernel : ∀ t : Fin grid0.N, _)

abbrev argQ (c : Dev nD) : FVec Ideal S8x2048x512 .bf16 := m ((c : Thread nD τ).loc main_arg0)
abbrev argK (c : Dev nD) : FVec Ideal S8x8x512x256 .bf16 := m ((c : Thread nD τ).loc main_arg1)
abbrev argV (c : Dev nD) : FVec Ideal S8x2048x512 .bf16 := m ((c : Thread nD τ).loc main_arg2)
abbrev argG (c : Dev nD) : FVec Ideal S8x2048x512 .bf16 := m ((c : Thread nD τ).loc main_arg3)

/-- The values as the launch is given them: the same array, its rows cut into tiles. -/
theorem entryV (c : Dev nD) (b : Fin 8) (j : Fin 8) (p : Fin 256) (l : Fin 512) :
    (V m c main_v0 : FVec Ideal S8x8x256x512 .bf16) (ix4 b j p l)
      = argV m c (ix3 b ⟨256 * (j : ℕ) + p, by omega⟩ l) := by
  entry_read
  pointwise []
  blk_ext []

theorem point (c : Dev nD) (t : Fin cfg0.N) (r : Fin 256) (hh : Fin 2) (d : Fin 64) (b : Fin 8) (u : Fin 2048) (l : Fin 512)
    (hb : (b : ℕ) = (grid0.coords t 0).val) (hu : (u : ℕ) = 256 * (grid0.coords t 2).val + r)
    (hl : (l : ℕ) = 128 * (grid0.coords t 1).val + 64 * (hh : ℕ) + d) :
    Stick.out (zrow (iblk m c 0 t) (iblk m c 1 t) hh r) (qpos (grid0.coords t 2).val r) (vcol (iblk m c 2 t) hh d)
        * (iblk m c 3 t : Vec Ideal S1x256x128 .bf16) (ix3 0 r (lane hh d))
      = attend (argQ m c) (argK m c) (argV m c) (argG m c) b u l := by
  have hz : zrow (iblk m c 0 t) (iblk m c 1 t) hh r = score (argQ m c) (argK m c) b u l := by
    funext s
    unfold zrow score
    refine Finset.sum_congr rfl fun e _ => ?_
    have hm : ((mate l e : Fin 512) : ℕ) = 128 * (grid0.coords t 1).val + 64 * (hh : ℕ) + e := by
      show 64 * ((l : ℕ) / 64) + (e : ℕ) = _; omega
    have hn : ((lane hh e : Fin 128) : ℕ) = 64 * (hh : ℕ) + e := rfl
    generalize tileOf s = j
    generalize placeOf s = p
    generalize mate l e = l' at hm ⊢
    generalize lane hh e = l'' at hn ⊢
    congr 1
    · blk_ext [iblk, V, idx t]
    · blk_ext [iblk, V, idx t]
  have hv : vcol (iblk m c 2 t) hh d = fun s => argV m c (ix3 b (keyRow s) l) := by
    funext s
    unfold vcol
    have hn : ((lane hh d : Fin 128) : ℕ) = 64 * (hh : ℕ) + d := rfl
    refine Eq.trans ?_ (entryV m c b (tileOf s) (placeOf s) l)
    generalize tileOf s = j
    generalize placeOf s = p
    generalize lane hh d = l'' at hn ⊢
    blk_ext [iblk, idx t]
  have hg : (iblk m c 3 t : Vec Ideal S1x256x128 .bf16) (ix3 0 r (lane hh d)) = argG m c (ix3 b u l) := by
    have hn : ((lane hh d : Fin 128) : ℕ) = 64 * (hh : ℕ) + d := rfl
    generalize lane hh d = l'' at hn ⊢
    blk_ext [iblk, V, idx t]
  have hq : qpos (grid0.coords t 2).val r = u := hu.symm
  unfold attend
  rw [hz, hv, hg, hq]

theorem final (c : Dev nD) : (dats m 0 c).arrAt 4 (cfgs 0).N
    = result (argQ m c) (argK m c) (argV m c) (argG m c) := by
  refine (dats m 0 c).arrAt_eq_of_covers 4 _ (by decide +kernel) fun t _ y => ?_
  blk_simp
  rw [after0_4]
  have e4 := congrFun (idx t).2.2.2.2
  have h0 : (y 0 : ℕ) < 1 := (y 0).isLt
  have h1 : (y 1 : ℕ) < 256 := (y 1).isLt
  have h2 : (y 2 : ℕ) < 128 := (y 2).isLt
  obtain ⟨r, hr⟩ : ∃ r : Fin 256, (r : ℕ) = y 1 := ⟨⟨_, h1⟩, rfl⟩
  obtain ⟨hh, d, hd⟩ : ∃ (hh : Fin 2) (d : Fin 64), 64 * (hh : ℕ) + d = y 2 :=
    ⟨⟨(y 2 : ℕ) / 64, by omega⟩, ⟨(y 2 : ℕ) % 64, by omega⟩, by show 64 * ((y 2 : ℕ) / 64) + (y 2 : ℕ) % 64 = _; omega⟩
  have hy : y = (ix3 0 r (lane hh d) : S1x256x128.Idx) := by
    funext a
    apply Fin.ext
    match a with
    | ⟨0, _⟩ => show (y 0 : ℕ) = 0; omega
    | ⟨1, _⟩ => exact hr.symm
    | ⟨2, _⟩ => exact hd.symm
  refine (congrArg (outsAt0 m c t) hy).trans ((out_apply c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) _ _ _).trans (point m c t r hh d _ _ _ ?_ ?_ ?_))
  · blk_simp [idx t]; (try omega)
  · blk_simp [idx t]; omega
  · blk_simp [idx t]; omega

end Cert.Proof.Array

end
-- ==== Proof.Equation.lean ====
module

public import proofs.«01_k».proof.Proof.Ref
public import proofs.«01_k».proof.Proof.Array

/-! Kernel and reference leave the same array. -/

public section

namespace Cert.Proof.Equation

open Idealize.ShloMosaic
open Cert.KernelIdeal

/-- The reference's term and the kernel's array, of the same queries, keys, values and gate. -/
theorem whole_eq (q : FVec Ideal Cert.ReferenceIdeal.S8x2048x512 .bf16) (k : FVec Ideal Cert.ReferenceIdeal.S8x8x512x256 .bf16)
    (v g : FVec Ideal Cert.ReferenceIdeal.S8x2048x512 .bf16) : Ref.whole q k v g = Array.result q k v g := by
  funext i
  obtain ⟨b, t, l, rfl⟩ : ∃ (b : Fin 8) (t : Fin 2048) (l : Fin 512), i = ix3 b t l :=
    ⟨i 0, i 1, i 2, funext fun a => by fin_cases a <;> rfl⟩
  refine Ref.whole_apply q k v g b t l (Array.score q k b t l) (fun s => v (ix3 b (Array.keyRow s) l)) (fun s => ?_) fun s => ?_
  · unfold Array.score
    refine Finset.sum_congr rfl fun d _ => ?_
    have h1 : Block.tileOf (s : ℕ) = ⟨(s : ℕ) / 256, by omega⟩ := Fin.ext (Nat.mod_eq_of_lt (show (s : ℕ) / 256 < 8 by omega))
    rw [h1]
    rfl
  · have h1 : Array.keyRow (s : ℕ) = s := Fin.ext (by show 256 * ((s : ℕ) / 256 % 8) + (s : ℕ) % 256 = (s : ℕ); omega)
    show v (ix3 b (Array.keyRow s) l) = _
    rw [h1]

end Cert.Proof.Equation

end
-- ==== Proof.ProjRef.lean ====
/-
  THE PROJECTION, WRITTEN PLAINLY: one product with the whole weight matrix, cut into eight parts of 512 columns.
-/
module

public import proofs.«01_k».proof.Proof.Gen.ProjectionReferenceIdeal.Run
public import Idealize.ShloMosaic.Lib.Pointwise

@[expose] public section

noncomputable section

open Idealize.ShloMosaic Idealize.ShloMosaic.TcCoe

namespace Cert.Proof.ProjRef

open Cert.ProjectionReferenceIdeal Cert.ProjectionReferenceIdeal.Gen

variable (X : FVec Ideal S8x2048x1024 .f32) (W : FVec Ideal S1x1024x4096 .f32)

/-- The product of every row with the weights. -/
def proj : FVec Ideal S8x2048x4096 .f32 :=
  Host.dotGeneral dot_S8x2048x1024_S1024x4096_S8x2048x4096_2_0_01_1_n_n none X
    (shapeCast S1024x4096 W shapeCasts_S1x1024x4096_S1024x4096)

/-- The scaled queries. -/
def queries : FVec Ideal S8x2048x512 .bf16 :=
  truncf .bf16 (mulf (extractStridedSlice S8x2048x512 ![0, 0, 0] (proj X W) slices_S8x2048x4096_S8x2048x512_0_0_0)
    (broadcastInDim S8x2048x512 ![] bcast_S_S8x2048x512 (constant S_ .f32 0x3E000000#32))) bitsLt_bf16_f32

/-- The keys. -/
def keys : FVec Ideal S8x2048x512 .f32 :=
  extractStridedSlice S8x2048x512 ![0, 0, 512] (proj X W) slices_S8x2048x4096_S8x2048x512_0_0_512

/-- The values. -/
def values : FVec Ideal S8x2048x512 .f32 :=
  extractStridedSlice S8x2048x512 ![0, 0, 1024] (proj X W) slices_S8x2048x4096_S8x2048x512_0_0_1024

/-- The keys in tiles of 256 rows, each tile turned. -/
def keyTiles : FVec Ideal S8x8x512x256 .bf16 :=
  truncf .bf16 (transpose S8x8x512x256 [0, 1, 3, 2] (shapeCast S8x8x256x512 (keys X W) shapeCasts_S8x2048x512_S8x8x256x512)
    transposes_S8x8x256x512_S8x8x512x256_0_1_3_2) bitsLt_bf16_f32

def valuesShort : FVec Ideal S8x2048x512 .bf16 := truncf .bf16 (values X W) bitsLt_bf16_f32

/-- The columns from which the gate is made. -/
def gateIn : FVec Ideal S8x2048x512 .f32 :=
  extractStridedSlice S8x2048x512 ![0, 0, 1536] (proj X W) slices_S8x2048x4096_S8x2048x512_0_0_1536

def ones : FVec Ideal S8x2048x512 .f32 := broadcastInDim S8x2048x512 ![] bcast_S_S8x2048x512 (constant S_ .f32 0x3F800000#32)

/-- The gate. -/
def gate : FVec Ideal S8x2048x512 .bf16 :=
  truncf .bf16 (mulf (gateIn X W) (Host.divf ones (addf ones (Host.exp (Host.negf (gateIn X W)))))) bitsLt_bf16_f32

def recQ : FVec Ideal S8x2048x512 .bf16 :=
  truncf .bf16 (extractStridedSlice S8x2048x512 ![0, 0, 2048] (proj X W) slices_S8x2048x4096_S8x2048x512_0_0_2048) bitsLt_bf16_f32
def recF : FVec Ideal S8x2048x512 .f32 :=
  extractStridedSlice S8x2048x512 ![0, 0, 2560] (proj X W) slices_S8x2048x4096_S8x2048x512_0_0_2560
def recI : FVec Ideal S8x2048x512 .bf16 :=
  truncf .bf16 (extractStridedSlice S8x2048x512 ![0, 0, 3072] (proj X W) slices_S8x2048x4096_S8x2048x512_0_0_3072) bitsLt_bf16_f32
def recG : FVec Ideal S8x2048x512 .bf16 :=
  truncf .bf16 (extractStridedSlice S8x2048x512 ![0, 0, 3584] (proj X W) slices_S8x2048x4096_S8x2048x512_0_0_3584) bitsLt_bf16_f32

/-- An array of 512 columns as eight heads of 64, under a leading axis of one layer. -/
def heads (a : FVec Ideal S8x2048x512 .f32) : FVec Ideal S1x8x8x2048x64 .f32 :=
  broadcastInDim S1x8x8x2048x64 ![1, 2, 3, 4] bcast_S8x8x2048x64_S1x8x8x2048x64_1_2_3_4
    (transpose S8x8x2048x64 [0, 2, 1, 3] (shapeCast S8x2048x8x64 a shapeCasts_S8x2048x512_S8x2048x8x64)
      transposes_S8x2048x8x64_S8x8x2048x64_0_2_1_3)

end Cert.Proof.ProjRef

end
-- ==== Proof.ProjIndex.lean ====
/-
  THE PROJECTION'S BLOCKS: which rows and columns each point of the launch is given.
-/
module

public import proofs.«01_k».proof.Proof.Gen.ProjectionIdeal.Value
public import proofs.«01_k».proof.Proof.ProjRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Proj

open Cert.ProjectionIdeal Cert.ProjectionIdeal.Gen

variable (m : (ℓ : Loc nD τ sig) → Buf (Elt Ideal) ℓ)

/-- The blocks each point is given, in its two coordinates. -/
theorem idx : ∀ t : Fin cfg0.N,
    win0_0.index t = ![(grid0.coords t 0).val, (grid0.coords t 1).val, 0]
    ∧ win0_1.index t = ![0, 0]
    ∧ win0_2.index t = ![(grid0.coords t 0).val, (grid0.coords t 1).val, 0]
    ∧ win0_3.index t = ![(grid0.coords t 0).val, (grid0.coords t 1).val, 0, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0]
    ∧ win0_10.index t = ![0, (grid0.coords t 0).val, 0, (grid0.coords t 1).val, 0]
    ∧ win0_11.index t = ![0, (grid0.coords t 0).val, 0, (grid0.coords t 1).val, 0] :=
  (by decide +kernel : ∀ t : Fin grid0.N, _)

/-- The rows to be projected. -/
abbrev argX (c : Dev nD) : FVec Ideal S8x2048x1024 .f32 := m ((c : Thread nD τ).loc main_arg0)

/-- The weights. -/
abbrev argW (c : Dev nD) : FVec Ideal S1x1024x4096 .f32 := m ((c : Thread nD τ).loc main_arg1)

end Cert.Proof.Proj

end
-- ==== Proof.ProjAttention.lean ====
/-
  THE PROJECTION'S ATTENTION PARTS: queries, key tiles, values and gate, as the launch leaves them.
-/
module

public import proofs.«01_k».proof.Proof.Gen.ProjectionIdeal.Value
public import proofs.«01_k».proof.Proof.ProjRef
public import Idealize.ShloMosaic.Lib.Pipeline.ValueKit
public import Idealize.ShloMosaic.Lib.Pointwise
public import proofs.«01_k».proof.Proof.ProjIndex

@[expose] public section

set_option maxRecDepth 16384

noncomputable section

open Idealize.ShloMosaic Idealize.ShloMosaic.TcCoe Idealize.SL.Sem
open Idealize.ShloMosaic.Pipeline (Dat)

namespace Cert.Proof.Proj

open Cert.ProjectionIdeal Cert.ProjectionIdeal.Gen

variable (m : (ℓ : Loc nD τ sig) → Buf (Elt Ideal) ℓ)

theorem final2 (c : Dev nD) : (dats m 0 c).arrAt 2 (cfgs 0).N = ProjRef.queries (argX m c) (argW m c) := by
  refine (dats m 0 c).arrAt_eq_of_covers 2 _ (by decide +kernel) fun t _ y => ?_
  blk_simp
  rw [after0_2]
  frame_out
  pointwise [k0_pay2, k0_pay1, ProjRef.queries, ProjRef.proj]
  blk_point [iblk, V, idx t]

theorem final3 (c : Dev nD) : (dats m 0 c).arrAt 3 (cfgs 0).N = ProjRef.keyTiles (argX m c) (argW m c) := by
  refine (dats m 0 c).arrAt_eq_of_covers 3 _ (by decide +kernel) fun t _ y => ?_
  blk_simp
  rw [after0_3]
  unfold_out out0_3
  rw [Value.canon3_eq]
  pointwise [Value.E3, k0_pay3, k0_pay1, ProjRef.keyTiles, ProjRef.keys, ProjRef.proj]
  blk_point [iblk, V, idx t]

theorem final4 (c : Dev nD) : (dats m 0 c).arrAt 4 (cfgs 0).N = ProjRef.valuesShort (argX m c) (argW m c) := by
  refine (dats m 0 c).arrAt_eq_of_covers 4 _ (by decide +kernel) fun t _ y => ?_
  blk_simp
  rw [after0_4]
  frame_out
  pointwise [k0_pay25, k0_pay34, k0_pay15, k0_pay32, k0_pay1, ProjRef.valuesShort, ProjRef.values, ProjRef.proj]
  blk_point [iblk, V, idx t]

theorem final5 (c : Dev nD) : (dats m 0 c).arrAt 5 (cfgs 0).N = ProjRef.gate (argX m c) (argW m c) := by
  refine (dats m 0 c).arrAt_eq_of_covers 5 _ (by decide +kernel) fun t _ y => ?_
  blk_simp
  rw [after0_5]
  frame_out
  pointwise [k0_pay27, k0_pay26, k0_pay32, k0_pay1, ProjRef.gate, ProjRef.ones, ProjRef.gateIn, ProjRef.proj]
  simp only [zero_sub]
  blk_point [iblk, V, idx t]

end Cert.Proof.Proj

end
-- ==== Proof.ProjRecurrence.lean ====
/-
  THE PROJECTION'S RECURRENCE PARTS, as the launch leaves them.
-/
module

public import proofs.«01_k».proof.Proof.Gen.ProjectionIdeal.Value
public import proofs.«01_k».proof.Proof.ProjRef
public import Idealize.ShloMosaic.Lib.Pipeline.ValueKit
public import Idealize.ShloMosaic.Lib.Pointwise
public import proofs.«01_k».proof.Proof.ProjIndex

@[expose] public section

set_option maxRecDepth 16384

noncomputable section

open Idealize.ShloMosaic Idealize.ShloMosaic.TcCoe Idealize.SL.Sem
open Idealize.ShloMosaic.Pipeline (Dat)

namespace Cert.Proof.Proj

open Cert.ProjectionIdeal Cert.ProjectionIdeal.Gen

variable (m : (ℓ : Loc nD τ sig) → Buf (Elt Ideal) ℓ)

theorem final6 (c : Dev nD) : (dats m 0 c).arrAt 6 (cfgs 0).N = ProjRef.recQ (argX m c) (argW m c) := by
  refine (dats m 0 c).arrAt_eq_of_covers 6 _ (by decide +kernel) fun t _ y => ?_
  blk_simp
  rw [after0_6]
  frame_out
  pointwise [k0_pay28, k0_pay32, k0_pay1, ProjRef.recQ, ProjRef.proj]
  blk_point [iblk, V, idx t]

theorem final7 (c : Dev nD) : (dats m 0 c).arrAt 7 (cfgs 0).N = ProjRef.recF (argX m c) (argW m c) := by
  refine (dats m 0 c).arrAt_eq_of_covers 7 _ (by decide +kernel) fun t _ y => ?_
  blk_simp
  rw [after0_7]
  frame_out
  pointwise [k0_pay29, k0_pay32, k0_pay1, ProjRef.recF, ProjRef.proj]
  blk_point [iblk, V, idx t]

theorem final8 (c : Dev nD) : (dats m 0 c).arrAt 8 (cfgs 0).N = ProjRef.recI (argX m c) (argW m c) := by
  refine (dats m 0 c).arrAt_eq_of_covers 8 _ (by decide +kernel) fun t _ y => ?_
  blk_simp
  rw [after0_8]
  frame_out
  pointwise [k0_pay30, k0_pay32, k0_pay1, ProjRef.recI, ProjRef.proj]
  blk_point [iblk, V, idx t]

theorem final9 (c : Dev nD) : (dats m 0 c).arrAt 9 (cfgs 0).N = ProjRef.recG (argX m c) (argW m c) := by
  refine (dats m 0 c).arrAt_eq_of_covers 9 _ (by decide +kernel) fun t _ y => ?_
  blk_simp
  rw [after0_9]
  frame_out
  pointwise [k0_pay31, k0_pay32, k0_pay1, ProjRef.recG, ProjRef.proj]
  blk_point [iblk, V, idx t]

end Cert.Proof.Proj

end
-- ==== Proof.ProjHeads.lean ====
/-
  THE PROJECTION'S KEYS AND VALUES, head by head, as the launch leaves them.
-/
module

public import proofs.«01_k».proof.Proof.Gen.ProjectionIdeal.Value
public import proofs.«01_k».proof.Proof.ProjRef
public import Idealize.ShloMosaic.Lib.Pipeline.ValueKit
public import Idealize.ShloMosaic.Lib.Pointwise
public import proofs.«01_k».proof.Proof.ProjIndex

@[expose] public section

set_option maxRecDepth 16384

noncomputable section

open Idealize.ShloMosaic Idealize.ShloMosaic.TcCoe Idealize.SL.Sem
open Idealize.ShloMosaic.Pipeline (Dat)

namespace Cert.Proof.Proj

open Cert.ProjectionIdeal Cert.ProjectionIdeal.Gen

variable (m : (ℓ : Loc nD τ sig) → Buf (Elt Ideal) ℓ)

theorem final10 (c : Dev nD) : (dats m 0 c).arrAt 10 (cfgs 0).N = ProjRef.heads (ProjRef.keys (argX m c) (argW m c)) := by
  refine (dats m 0 c).arrAt_eq_of_covers 10 _ (by decide +kernel) fun t _ y => ?_
  blk_simp
  rw [after0_10]
  unfold_out out0_10
  rw [Value.canon10_eq]
  pointwise [Value.E10, k0_pay3, k0_pay1, ProjRef.heads, ProjRef.keys, ProjRef.proj]
  blk_point [iblk, V, idx t]

theorem final11 (c : Dev nD) : (dats m 0 c).arrAt 11 (cfgs 0).N = ProjRef.heads (ProjRef.values (argX m c) (argW m c)) := by
  refine (dats m 0 c).arrAt_eq_of_covers 11 _ (by decide +kernel) fun t _ y => ?_
  blk_simp
  rw [after0_11]
  unfold_out out0_11
  rw [Value.canon11_eq]
  pointwise [Value.E11, k0_pay15, k0_pay1, ProjRef.heads, ProjRef.values, ProjRef.proj]
  blk_point [iblk, V, idx t]

end Cert.Proof.Proj

end
-- ==== Proof.ProjClaim.lean ====
/-
  THE PROJECTION'S CLAIMS: the launch leaves what the plain program leaves.
-/
module

public import proofs.«01_k».proof.Defs
public import Idealize.ShloMosaic.Lib.Claim
public import proofs.«01_k».proof.Proof.Gen.ProjectionIdeal.Value
public import proofs.«01_k».proof.Proof.Gen.ProjectionReferenceIdeal.Run
public import proofs.«01_k».proof.Proof.ProjRef
public import proofs.«01_k».proof.Proof.ProjAttention
public import proofs.«01_k».proof.Proof.ProjRecurrence
public import proofs.«01_k».proof.Proof.ProjHeads

@[expose] public section

set_option maxRecDepth 16384

noncomputable section

open Idealize.ShloMosaic Idealize.ShloMosaic.TcCoe Idealize.SL.Sem

namespace Cert.Proof.ProjClaim

/-- The plain program runs to its end and leaves its arguments alone. -/
theorem reference_frame : Cert.quiescent_ProjectionReferenceIdeal := fun m ρ _ =>
  (θ_run Cert.ProjectionReferenceIdeal.defs _ _).mono
    (fun r h => ⟨fun c => ((((((((((h c).2).2).2).2).2).2).2).2).2).2, Idealize.ShloMosaic.sem_eq_zero_of_no_sems (by decide) r.2⟩)
    (Cert.ProjectionReferenceIdeal.Value.run (F := Ideal) m ρ)

set_option maxHeartbeats 4000000 in
/-- The launch leaves the plain program's ten results. -/
theorem same : Cert.algebraic_ProjectionIdeal_ProjectionReferenceIdeal := by
  pair_intro
  · run_from Cert.ProjectionIdeal.Value.run_blocks m g
  · run_from Cert.ProjectionReferenceIdeal.Value.run m' g'
    · exact (Proj.final2 m c).symm
    · exact (Proj.final3 m c).symm
    · exact (Proj.final4 m c).symm
    · exact (Proj.final5 m c).symm
    · exact (Proj.final6 m c).symm
    · exact (Proj.final7 m c).symm
    · exact (Proj.final8 m c).symm
    · exact (Proj.final9 m c).symm
    · exact (Proj.final10 m c).symm
    · exact (Proj.final11 m c).symm

end Cert.Proof.ProjClaim

end
-- ==== Proof.OutRef.lean ====
/-
  THE OUTPUT PROJECTION, WRITTEN PLAINLY: one product with the whole weight matrix, added to the scaled rows, and the norm.
-/
module

public import proofs.«01_k».proof.Proof.Gen.OutputReferenceIdeal.Run
public import Idealize.ShloMosaic.Lib.Pointwise

@[expose] public section

noncomputable section

open Idealize.ShloMosaic Idealize.ShloMosaic.TcCoe

namespace Cert.Proof.OutRef

open Cert.OutputReferenceIdeal Cert.OutputReferenceIdeal.Gen

/-- The two mixed halves side by side, times the weights. -/
def mix (A B : FVec Ideal S8x2048x512 .bf16) (W : FVec Ideal S1x1024x1024 .f32) : FVec Ideal S8x2048x1024 .f32 :=
  Host.dotGeneral dot_S8x2048x1024_S1024x1024_S8x2048x1024_2_0_01_1_n_n none
    (extf .f32 (concatenate S8x2048x1024 2 [⟨S8x2048x512, A⟩, ⟨S8x2048x512, B⟩] concatenates_S8x2048x512_S8x2048x512_S8x2048x1024_d2) bitsLt_bf16_f32)
    (shapeCast S1024x1024 W shapeCasts_S1x1024x1024_S1024x1024)

/-- The rows before the norm. -/
def hid (A B : FVec Ideal S8x2048x512 .bf16) (X : FVec Ideal S8x2048x1024 .f32) (W : FVec Ideal S1x1024x1024 .f32) :
    FVec Ideal S8x2048x1024 .f32 :=
  addf (mulf (broadcastInDim S8x2048x1024 ![] bcast_S_S8x2048x1024 (constant S_ .f32 0x3F9837F0#32)) X) (mix A B W)

/-- The mean of each row. -/
def mean (H : FVec Ideal S8x2048x1024 .f32) : FVec Ideal S8x2048x1 .f32 :=
  Host.divf (broadcastInDim S8x2048x1 ![0, 1] bcast_S8x2048_S8x2048x1_0_1
      (Host.reduceAdd H (constant S_ .f32 0x00000000#32) reducesTo_S8x2048x1024_S8x2048_d2 h_S_))
    (broadcastInDim S8x2048x1 ![] bcast_S_S8x2048x1 (constant S_ .f32 0x44800000#32))

/-- The rows less their means. -/
def centred (H : FVec Ideal S8x2048x1024 .f32) : FVec Ideal S8x2048x1024 .f32 :=
  subf H (broadcastInDim S8x2048x1024 ![0, 1, 2] bcast_S8x2048x1_S8x2048x1024_0_1_2 (mean H))

/-- A gain or a bias, the same for every row. -/
def everywhere (G : FVec Ideal S1x1024 .f32) : FVec Ideal S8x2048x1024 .f32 :=
  broadcastInDim S8x2048x1024 ![0, 1, 2] bcast_S1x1x1024_S8x2048x1024_0_1_2
    (broadcastInDim S1x1x1024 ![2] bcast_S1024_S1x1x1024_2 (shapeCast S1024 G shapeCasts_S1x1024_S1024))

/-- The norm of the rows, with its gain and its bias. -/
def norm (H : FVec Ideal S8x2048x1024 .f32) (G Z : FVec Ideal S1x1024 .f32) : FVec Ideal S8x2048x1024 .f32 :=
  addf (mulf (mulf (centred H) (broadcastInDim S8x2048x1024 ![0, 1, 2] bcast_S8x2048x1_S8x2048x1024_0_1_2
      (Host.rsqrt (addf (mean (mulf (centred H) (centred H)))
        (broadcastInDim S8x2048x1 ![] bcast_S_S8x2048x1 (constant S_ .f32 0x3727C5AC#32))))))
    (everywhere G)) (everywhere Z)

/-- The mean of one row. -/
def meanAt (h : Fin 1024 → Ideal .f32) : Ideal .f32 :=
  Ideal.div (∑ d, h d) (Ideal.ofBits .f32 0x44800000#32)

/-- One entry of the norm of one row. -/
def normAt (h : Fin 1024 → Ideal .f32) (g z : Ideal .f32) (e : Fin 1024) : Ideal .f32 :=
  (h e - meanAt h) * Ideal.rsqrt (meanAt (fun d => (h d - meanAt h) * (h d - meanAt h)) + Ideal.ofBits .f32 0x3727C5AC#32)
    * g + z

open Idealize.ShloMosaic.Pointwise in
/-- The norm, entry by entry. -/
theorem norm_at (H : FVec Ideal S8x2048x1024 .f32) (G Z : FVec Ideal S1x1024 .f32) (b : Fin 8) (t : Fin 2048) (e : Fin 1024) :
    norm H G Z (ix3 b t e) = normAt (fun d => H (ix3 b t d)) (G (ix2 0 e)) (Z (ix2 0 e)) e := by
  pointwise [norm, centred, mean, everywhere]
  rfl

open Idealize.ShloMosaic.Pointwise in
/-- A row before the norm, its product taken half by half. -/
theorem hid_at (A B : FVec Ideal S8x2048x512 .bf16) (X : FVec Ideal S8x2048x1024 .f32) (W : FVec Ideal S1x1024x1024 .f32)
    (b : Fin 8) (t : Fin 2048) (e : Fin 1024) :
    hid A B X W (ix3 b t e) = Ideal.ofBits .f32 0x3F9837F0#32 * X (ix3 b t e)
      + (∑ d : Fin 512, A (ix3 b t d) * W (ix3 0 (Fin.castLE (by decide) d) e)
        + ∑ d : Fin 512, B (ix3 b t d) * W (ix3 0 (Fin.natAdd 512 d) e)) := by
  pointwise [hid, mix]
  rfl

end Cert.Proof.OutRef

end
-- ==== Proof.OutValue.lean ====
/-
  THE OUTPUT PROJECTION'S ARRAY: the rows the launch leaves are the norm of the plain product.
-/
module

public import proofs.«01_k».proof.Proof.Gen.OutputIdeal.Frame
public import proofs.«01_k».proof.Proof.OutRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Out

open Cert.OutputIdeal Cert.OutputIdeal.Gen

variable (m : (ℓ : Loc nD τ sig) → Buf (Elt Ideal) ℓ)

/-- The blocks each point is given. -/
theorem idx : ∀ t : Fin cfg0.N,
    win0_0.index t = ![(grid0.coords t 0).val, 0]
    ∧ win0_1.index t = ![(grid0.coords t 0).val, 0]
    ∧ win0_2.index t = ![(grid0.coords t 0).val, 0]
    ∧ win0_3.index t = ![0, 0]
    ∧ win0_4.index t = ![0, 0]
    ∧ win0_5.index t = ![0, 0]
    ∧ win0_6.index t = ![(grid0.coords t 0).val, 0] :=
  (by decide +kernel : ∀ t : Fin grid0.N, _)

/-- The rows before the norm, of the launch's own arguments. -/
abbrev rowsIn (c : Dev nD) : FVec Ideal S8x2048x1024 .f32 :=
  OutRef.hid (m ((c : Thread nD τ).loc main_arg0)) (m ((c : Thread nD τ).loc main_arg1))
    (m ((c : Thread nD τ).loc main_arg2)) (m ((c : Thread nD τ).loc main_arg3))

/-- The plain result, its rows one below the other. -/
def plain (c : Dev nD) : FVec Ideal S16384x1024 .f32 :=
  shapeCast S16384x1024 (OutRef.norm (rowsIn m c) (m ((c : Thread nD τ).loc main_arg4)) (m ((c : Thread nD τ).loc main_arg5)))
    shapeCasts_S8x2048x1024_S16384x1024

open Idealize.ShloMosaic.Pointwise in
/-- One entry of one row of a block before the norm. -/
def blockRow (p : Vec Ideal S512x512 .bf16) (u : Vec Ideal S512x1024 .bf16) (q : Vec Ideal S512x512 .bf16)
    (v : Vec Ideal S512x1024 .bf16) (x : Vec Ideal S512x1024 .f32) (r : Fin 512) (e : Fin 1024) : Ideal .f32 :=
  Ideal.ofBits .f32 0x3F9837F0#32 * x (ix2 r e)
    + (∑ d : Fin 512, p (ix2 r d) * u (ix2 d e) + ∑ d : Fin 512, q (ix2 r d) * v (ix2 d e))

open Idealize.ShloMosaic.Pointwise in
/-- What the body stores is the norm of each row of its block. -/
theorem stored_at (p : Vec Ideal S512x512 .bf16) (u : Vec Ideal S512x1024 .bf16) (q : Vec Ideal S512x512 .bf16)
    (v : Vec Ideal S512x1024 .bf16) (x : Vec Ideal S512x1024 .f32) (g z : Vec Ideal S1x1024 .f32) (r : Fin 512) (e : Fin 1024) :
    k0_pay1 (k0_pay2 p u q v x g) z (ix2 r e)
      = OutRef.normAt (blockRow p u q v x r) (g (ix2 0 e)) (z (ix2 0 e)) e := by
  pointwise [k0_pay1, k0_pay2]
  unfold OutRef.normAt OutRef.meanAt blockRow
  rfl

open Idealize.ShloMosaic.Pointwise in
/-- The plain result, entry by entry. -/
theorem plain_at (c : Dev nD) (r : Fin 16384) (e : Fin 1024) : plain m c (ix2 r e)
    = OutRef.normAt (fun d => rowsIn m c (ix3 ⟨r.val / 2048, by omega⟩ ⟨r.val % 2048, by omega⟩ d))
        (m ((c : Thread nD τ).loc main_arg4) (ix2 0 e)) (m ((c : Thread nD τ).loc main_arg5) (ix2 0 e)) e := by
  refine Eq.trans ?_ (OutRef.norm_at _ _ _ _ _ _)
  pointwise [plain]

open Idealize.ShloMosaic.Pointwise in
/-- The block of the first mixed half. -/
theorem blk0 (c : Dev nD) (t : Fin cfg0.N) (r : Fin 512) (i : Fin 16384)
    (hi : i.val = (grid0.coords t 0).val * 512 + r.val) (d : Fin 512) :
    iblk m c 0 t (ix2 r d) = m ((c : Thread nD τ).loc main_arg0) (ix3 ⟨i.val / 2048, by omega⟩ ⟨i.val % 2048, by omega⟩ d) := by
  blk_simp [iblk, idx t]
  unfold V V0
  simp only [List.flatten_cons, List.flatten_nil, List.append_nil]
  after_results
  pointwise []
  blk_ext [idx t]

open Idealize.ShloMosaic.Pointwise in
/-- The block of the second mixed half. -/
theorem blk1 (c : Dev nD) (t : Fin cfg0.N) (r : Fin 512) (i : Fin 16384)
    (hi : i.val = (grid0.coords t 0).val * 512 + r.val) (d : Fin 512) :
    iblk m c 1 t (ix2 r d) = m ((c : Thread nD τ).loc main_arg1) (ix3 ⟨i.val / 2048, by omega⟩ ⟨i.val % 2048, by omega⟩ d) := by
  blk_simp [iblk, idx t]
  unfold V V0
  simp only [List.flatten_cons, List.flatten_nil, List.append_nil]
  after_results
  pointwise []
  blk_ext [idx t]

open Idealize.ShloMosaic.Pointwise in
/-- The block of the rows. -/
theorem blk2 (c : Dev nD) (t : Fin cfg0.N) (r : Fin 512) (i : Fin 16384)
    (hi : i.val = (grid0.coords t 0).val * 512 + r.val) (d : Fin 1024) :
    iblk m c 2 t (ix2 r d) = m ((c : Thread nD τ).loc main_arg2) (ix3 ⟨i.val / 2048, by omega⟩ ⟨i.val % 2048, by omega⟩ d) := by
  blk_simp [iblk, idx t]
  unfold V V0
  simp only [List.flatten_cons, List.flatten_nil, List.append_nil]
  after_results
  pointwise []
  blk_ext [idx t]

open Idealize.ShloMosaic.Pointwise in
/-- The weights of the first half. -/
theorem wts1 (c : Dev nD) (t : Fin cfg0.N) (d : Fin 512) (e : Fin 1024) :
    View.ld (iblk m c 3 t) r0_1 (ix2 d e) = m ((c : Thread nD τ).loc main_arg3) (ix3 0 (Fin.castLE (by decide) d) e) := by
  pointwise []
  blk_simp [iblk, idx t]
  unfold V V0
  simp only [List.flatten_cons, List.flatten_nil, List.append_nil]
  after_results
  pointwise []
  blk_ext [idx t]
  rfl

open Idealize.ShloMosaic.Pointwise in
/-- The weights of the second half. -/
theorem wts2 (c : Dev nD) (t : Fin cfg0.N) (d : Fin 512) (e : Fin 1024) :
    View.ld (iblk m c 3 t) r0_2 (ix2 d e) = m ((c : Thread nD τ).loc main_arg3) (ix3 0 (Fin.natAdd 512 d) e) := by
  pointwise []
  blk_simp [iblk, idx t]
  unfold V V0
  simp only [List.flatten_cons, List.flatten_nil, List.append_nil]
  after_results
  pointwise []
  blk_ext [idx t]
  rfl

open Idealize.ShloMosaic.Pointwise in
/-- The gains. -/
theorem blk4 (c : Dev nD) (t : Fin cfg0.N) (e : Fin 1024) :
    iblk m c 4 t (ix2 0 e) = m ((c : Thread nD τ).loc main_arg4) (ix2 0 e) := by
  blk_simp [iblk, idx t]
  unfold V V0
  simp only [List.flatten_cons, List.flatten_nil, List.append_nil]
  after_results
  pointwise []
  blk_ext [idx t]

open Idealize.ShloMosaic.Pointwise in
/-- The biases. -/
theorem blk5 (c : Dev nD) (t : Fin cfg0.N) (e : Fin 1024) :
    iblk m c 5 t (ix2 0 e) = m ((c : Thread nD τ).loc main_arg5) (ix2 0 e) := by
  blk_simp [iblk, idx t]
  unfold V V0
  simp only [List.flatten_cons, List.flatten_nil, List.append_nil]
  after_results
  pointwise []
  blk_ext [idx t]

open Idealize.ShloMosaic.Pointwise in
/-- The block's rows are the array's, at the place the point is given. -/
theorem row_eq (c : Dev nD) (t : Fin cfg0.N) (r : Fin 512) (i : Fin 16384)
    (hi : i.val = (grid0.coords t 0).val * 512 + r.val) (d : Fin 1024) :
    blockRow (iblk m c 0 t) (View.ld (iblk m c 3 t) r0_1) (iblk m c 1 t) (View.ld (iblk m c 3 t) r0_2) (iblk m c 2 t) r d
      = rowsIn m c (ix3 ⟨i.val / 2048, by omega⟩ ⟨i.val % 2048, by omega⟩ d) := by
  refine Eq.trans ?_ (OutRef.hid_at _ _ _ _ _ _ _).symm
  unfold blockRow
  rw [blk2 m c t r i hi]
  refine congrArg₂ (fun p q : EReal => _ * _ + (p + q)) (Finset.sum_congr rfl fun k _ => ?_) (Finset.sum_congr rfl fun k _ => ?_)
  · exact congrArg₂ (fun p q : EReal => p * q) (blk0 m c t r i hi k) (wts1 m c t k d)
  · exact congrArg₂ (fun p q : EReal => p * q) (blk1 m c t r i hi k) (wts2 m c t k d)

open Idealize.ShloMosaic.Pointwise in
/-- What one point stores is its part of the plain result. -/
theorem point_eq (c : Dev nD) (t : Fin cfg0.N) (r : Fin 512) (e : Fin 1024) (i : Fin 16384)
    (hi : i.val = (grid0.coords t 0).val * 512 + r.val) :
    k0_pay1 (k0_pay2 (iblk m c 0 t) (View.ld (iblk m c 3 t) r0_1) (iblk m c 1 t) (View.ld (iblk m c 3 t) r0_2) (iblk m c 2 t)
        (iblk m c 4 t)) (iblk m c 5 t) (ix2 r e) = plain m c (ix2 i e) := by
  refine (stored_at _ _ _ _ _ _ _ r e).trans (Eq.trans ?_ (plain_at m c i e).symm)
  rw [funext (row_eq m c t r i hi)]
  rw [blk4 m c t e, blk5 m c t e]

open Idealize.ShloMosaic.Pointwise in
theorem final6 (c : Dev nD) : (dats m 0 c).arrAt 6 (cfgs 0).N = plain m c := by
  refine (dats m 0 c).arrAt_eq_of_covers 6 _ (by decide +kernel) fun t _ y => ?_
  blk_simp
  rw [after0_6]
  frame_out
  have h0 : ((((View.whole main_v9).slice (win0_6.rect t)).emb y) 0).val = (grid0.coords t 0).val * 512 + (y 0).val := by
    blk_simp [idx t]
  have h1 : (((View.whole main_v9).slice (win0_6.rect t)).emb y) = ix2 ((((View.whole main_v9).slice (win0_6.rect t)).emb y) 0) (y 1) := by
    blk_ext [idx t]
  have h2 : y = ix2 (y 0) (y 1) := by blk_ext
  rw [h1, h2]
  exact point_eq m c t _ _ _ h0

end Cert.Proof.Out

end
-- ==== Proof.OutClaim.lean ====
/-
  THE OUTPUT PROJECTION'S CLAIMS: the launch leaves what the plain program leaves.
-/
module

public import proofs.«01_k».proof.Defs
public import Idealize.ShloMosaic.Lib.Claim
public import proofs.«01_k».proof.Proof.Gen.OutputIdeal.Frame
public import proofs.«01_k».proof.Proof.Gen.OutputReferenceIdeal.Run
public import proofs.«01_k».proof.Proof.OutRef
public import proofs.«01_k».proof.Proof.OutValue

@[expose] public section

set_option maxRecDepth 16384

noncomputable section

open Idealize.ShloMosaic Idealize.ShloMosaic.TcCoe Idealize.SL.Sem

namespace Cert.Proof.OutClaim

/-- The plain program runs to its end and leaves its arguments alone. -/
theorem reference_frame : Cert.quiescent_OutputReferenceIdeal := fun m ρ _ =>
  (θ_run Cert.OutputReferenceIdeal.defs _ _).mono
    (fun r h => ⟨fun c => (h c).2, Idealize.ShloMosaic.sem_eq_zero_of_no_sems (by decide) r.2⟩)
    (Cert.OutputReferenceIdeal.Value.run (F := Ideal) m ρ)

/-- The plain program's result is the norm of the plain product. -/
theorem result_eq (m : (ℓ : Loc Cert.OutputReferenceIdeal.nD Cert.OutputReferenceIdeal.τ Cert.OutputReferenceIdeal.sig) → Buf (Elt Ideal) ℓ) (c : Dev Cert.OutputReferenceIdeal.nD) :
    Cert.OutputReferenceIdeal.Value.res_out0 m c = OutRef.norm
      (OutRef.hid (m ((c.tc : Thread Cert.OutputReferenceIdeal.nD Cert.OutputReferenceIdeal.τ).loc Cert.OutputReferenceIdeal.main_arg0))
        (m ((c.tc : Thread Cert.OutputReferenceIdeal.nD Cert.OutputReferenceIdeal.τ).loc Cert.OutputReferenceIdeal.main_arg1))
        (m ((c.tc : Thread Cert.OutputReferenceIdeal.nD Cert.OutputReferenceIdeal.τ).loc Cert.OutputReferenceIdeal.main_arg2))
        (m ((c.tc : Thread Cert.OutputReferenceIdeal.nD Cert.OutputReferenceIdeal.τ).loc Cert.OutputReferenceIdeal.main_arg3)))
      (m ((c.tc : Thread Cert.OutputReferenceIdeal.nD Cert.OutputReferenceIdeal.τ).loc Cert.OutputReferenceIdeal.main_arg4))
      (m ((c.tc : Thread Cert.OutputReferenceIdeal.nD Cert.OutputReferenceIdeal.τ).loc Cert.OutputReferenceIdeal.main_arg5)) := by
  unfold Cert.OutputReferenceIdeal.Value.res_out0 Cert.OutputReferenceIdeal.Value.res_main_v32 OutRef.norm OutRef.centred OutRef.mean OutRef.everywhere OutRef.hid OutRef.mix
  rfl

section
open Cert.OutputIdeal Cert.OutputIdeal.Gen

/-- After the launch the rows are laid out batch by batch. -/
theorem tail_eq (m : (ℓ : Loc nD τ sig) → Buf (Elt Ideal) ℓ) (c : Dev nD) :
    Pipeline.afterTail₀ cfgs (dats m) 0 (V0 m) [hostOps1] c main_v10
      = shapeCast S8x2048x1024 ((dats m 0 c).arrAt 6 (cfgs 0).N : FVec Ideal S16384x1024 .f32) shapeCasts_S16384x1024_S8x2048x1024 := by
  unfold Pipeline.afterTail₀
  simp only [List.flatten_cons, List.flatten_nil, List.append_nil]
  after_results
  have h := Pipeline.withArrays_arr spec0 (by decide) c (V0 m c) (fun w => (dats m 0 c).arrAt w (cfgs 0).N) 6
  exact congrArg (fun a : FVec Ideal S16384x1024 .f32 => shapeCast S8x2048x1024 a shapeCasts_S16384x1024_S8x2048x1024) h

end

set_option maxHeartbeats 4000000 in
/-- The launch leaves the plain program's result. -/
theorem same : Cert.algebraic_OutputIdeal_OutputReferenceIdeal := by
  pair_intro
  · run_from Cert.OutputIdeal.Gen.run_main m g
    · exact Cert.OutputIdeal.Gen.W_main_arg0 m _ c
    · exact Cert.OutputIdeal.Gen.W_main_arg1 m _ c
    · exact Cert.OutputIdeal.Gen.W_main_arg2 m _ c
    · exact Cert.OutputIdeal.Gen.W_main_arg3 m _ c
    · exact Cert.OutputIdeal.Gen.W_main_arg4 m _ c
    · exact Cert.OutputIdeal.Gen.W_main_arg5 m _ c
  · run_from Cert.OutputReferenceIdeal.Value.run m' g'
    refine (result_eq m' c).trans ?_
    rw [(hagree c).1, (hagree c).2.1, (hagree c).2.2.1, (hagree c).2.2.2.1, (hagree c).2.2.2.2.1, (hagree c).2.2.2.2.2]
    refine Eq.trans ?_ (tail_eq m c).symm
    rw [Out.final6 m c]
    exact (shapeCast_shapeCast _ _ _).symm

end Cert.Proof.OutClaim

end
-- ==== Proof.ProjSampleRef.lean ====
/-
  THE SAMPLE'S PROJECTION, WRITTEN PLAINLY: one product with the whole weight matrix, cut into eight parts of 512 columns.
-/
module

public import proofs.«01_k».proof.Proof.Gen.ProjectionSampleReferenceIdeal.Run
public import Idealize.ShloMosaic.Lib.Pointwise

@[expose] public section

noncomputable section

open Idealize.ShloMosaic Idealize.ShloMosaic.TcCoe

namespace Cert.Proof.ProjSampleRef

open Cert.ProjectionSampleReferenceIdeal Cert.ProjectionSampleReferenceIdeal.Gen

variable (X : FVec Ideal S8x16x1024 .f32) (W : FVec Ideal S1x1024x4096 .f32)

/-- The product of every row with the weights. -/
def proj : FVec Ideal S8x16x4096 .f32 :=
  Host.dotGeneral dot_S8x16x1024_S1024x4096_S8x16x4096_2_0_01_1_n_n none X
    (shapeCast S1024x4096 W shapeCasts_S1x1024x4096_S1024x4096)

/-- The scaled queries. -/
def queries : FVec Ideal S8x16x512 .bf16 :=
  truncf .bf16 (mulf (extractStridedSlice S8x16x512 ![0, 0, 0] (proj X W) slices_S8x16x4096_S8x16x512_0_0_0)
    (broadcastInDim S8x16x512 ![] bcast_S_S8x16x512 (constant S_ .f32 0x3E000000#32))) bitsLt_bf16_f32

/-- The keys. -/
def keys : FVec Ideal S8x16x512 .f32 :=
  extractStridedSlice S8x16x512 ![0, 0, 512] (proj X W) slices_S8x16x4096_S8x16x512_0_0_512

/-- The values. -/
def values : FVec Ideal S8x16x512 .f32 :=
  extractStridedSlice S8x16x512 ![0, 0, 1024] (proj X W) slices_S8x16x4096_S8x16x512_0_0_1024

def keysShort : FVec Ideal S8x16x512 .bf16 := truncf .bf16 (keys X W) bitsLt_bf16_f32

def valuesShort : FVec Ideal S8x16x512 .bf16 := truncf .bf16 (values X W) bitsLt_bf16_f32

/-- The columns from which the gate is made. -/
def gateIn : FVec Ideal S8x16x512 .f32 :=
  extractStridedSlice S8x16x512 ![0, 0, 1536] (proj X W) slices_S8x16x4096_S8x16x512_0_0_1536

def ones : FVec Ideal S8x16x512 .f32 := broadcastInDim S8x16x512 ![] bcast_S_S8x16x512 (constant S_ .f32 0x3F800000#32)

/-- The gate. -/
def gate : FVec Ideal S8x16x512 .bf16 :=
  truncf .bf16 (mulf (gateIn X W) (Host.divf ones (addf ones (Host.exp (Host.negf (gateIn X W)))))) bitsLt_bf16_f32

def recQ : FVec Ideal S8x16x512 .bf16 :=
  truncf .bf16 (extractStridedSlice S8x16x512 ![0, 0, 2048] (proj X W) slices_S8x16x4096_S8x16x512_0_0_2048) bitsLt_bf16_f32
def recF : FVec Ideal S8x16x512 .f32 :=
  extractStridedSlice S8x16x512 ![0, 0, 2560] (proj X W) slices_S8x16x4096_S8x16x512_0_0_2560
def recI : FVec Ideal S8x16x512 .bf16 :=
  truncf .bf16 (extractStridedSlice S8x16x512 ![0, 0, 3072] (proj X W) slices_S8x16x4096_S8x16x512_0_0_3072) bitsLt_bf16_f32
def recG : FVec Ideal S8x16x512 .bf16 :=
  truncf .bf16 (extractStridedSlice S8x16x512 ![0, 0, 3584] (proj X W) slices_S8x16x4096_S8x16x512_0_0_3584) bitsLt_bf16_f32

/-- An array of 512 columns as eight heads of 64, under a leading axis of one layer. -/
def heads (a : FVec Ideal S8x16x512 .f32) : FVec Ideal S1x8x8x16x64 .f32 :=
  broadcastInDim S1x8x8x16x64 ![1, 2, 3, 4] bcast_S8x8x16x64_S1x8x8x16x64_1_2_3_4
    (transpose S8x8x16x64 [0, 2, 1, 3] (shapeCast S8x16x8x64 a shapeCasts_S8x16x512_S8x16x8x64)
      transposes_S8x16x8x64_S8x8x16x64_0_2_1_3)

end Cert.Proof.ProjSampleRef

end
-- ==== Proof.ProjSampleIndex.lean ====
/-
  THE SAMPLE PROJECTION'S BLOCKS: which rows and columns each point of the launch is given.
-/
module

public import proofs.«01_k».proof.Proof.Gen.ProjectionSampleIdeal.Frame
public import proofs.«01_k».proof.Proof.ProjSampleRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.ProjSample

open Cert.ProjectionSampleIdeal Cert.ProjectionSampleIdeal.Gen

variable (m : (ℓ : Loc nD τ sig) → Buf (Elt Ideal) ℓ)

/-- The blocks each point is given, in its two coordinates. -/
theorem idx : ∀ t : Fin cfg0.N,
    win0_0.index t = ![(grid0.coords t 0).val, (grid0.coords t 1).val, 0]
    ∧ win0_1.index t = ![0, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0]
    ∧ win0_10.index t = ![0, (grid0.coords t 0).val, 0, (grid0.coords t 1).val, 0]
    ∧ win0_11.index t = ![0, (grid0.coords t 0).val, 0, (grid0.coords t 1).val, 0] :=
  (by decide +kernel : ∀ t : Fin grid0.N, _)

/-- The rows to be projected. -/
abbrev argX (c : Dev nD) : FVec Ideal S8x16x1024 .f32 := m ((c : Thread nD τ).loc main_arg0)

/-- The weights. -/
abbrev argW (c : Dev nD) : FVec Ideal S1x1024x4096 .f32 := m ((c : Thread nD τ).loc main_arg1)

end Cert.Proof.ProjSample

end
-- ==== Proof.ProjSampleAttention.lean ====
/-
  THE SAMPLE PROJECTION'S ATTENTION PARTS: queries, keys, values and gate, as the launch leaves them.
-/
module

public import proofs.«01_k».proof.Proof.Gen.ProjectionSampleIdeal.Frame
public import proofs.«01_k».proof.Proof.ProjSampleRef
public import Idealize.ShloMosaic.Lib.Pipeline.ValueKit
public import Idealize.ShloMosaic.Lib.Pointwise
public import proofs.«01_k».proof.Proof.ProjSampleIndex

@[expose] public section

set_option maxRecDepth 16384

noncomputable section

open Idealize.ShloMosaic Idealize.ShloMosaic.TcCoe Idealize.SL.Sem
open Idealize.ShloMosaic.Pipeline (Dat)

namespace Cert.Proof.ProjSample

open Cert.ProjectionSampleIdeal Cert.ProjectionSampleIdeal.Gen

variable (m : (ℓ : Loc nD τ sig) → Buf (Elt Ideal) ℓ)

theorem final2 (c : Dev nD) : (dats m 0 c).arrAt 2 (cfgs 0).N = ProjSampleRef.queries (argX m c) (argW m c) := by
  refine (dats m 0 c).arrAt_eq_of_covers 2 _ (by decide +kernel) fun t _ y => ?_
  blk_simp
  rw [after0_2]
  frame_out
  pointwise [k0_pay4, k0_pay3, ProjSampleRef.queries, ProjSampleRef.proj]
  blk_point [iblk, V, idx t]

theorem final3 (c : Dev nD) : (dats m 0 c).arrAt 3 (cfgs 0).N = ProjSampleRef.keysShort (argX m c) (argW m c) := by
  refine (dats m 0 c).arrAt_eq_of_covers 3 _ (by decide +kernel) fun t _ y => ?_
  blk_simp
  rw [after0_3]
  frame_out
  pointwise [k0_pay70, k0_pay152, k0_pay5, k0_pay3, ProjSampleRef.keysShort, ProjSampleRef.keys, ProjSampleRef.proj]
  blk_point [iblk, V, idx t]

theorem final4 (c : Dev nD) : (dats m 0 c).arrAt 4 (cfgs 0).N = ProjSampleRef.valuesShort (argX m c) (argW m c) := by
  refine (dats m 0 c).arrAt_eq_of_covers 4 _ (by decide +kernel) fun t _ y => ?_
  blk_simp
  rw [after0_4]
  frame_out
  pointwise [k0_pay147, k0_pay153, k0_pay151, k0_pay71, k0_pay3, ProjSampleRef.valuesShort, ProjSampleRef.values, ProjSampleRef.proj]
  blk_point [iblk, V, idx t]

theorem final5 (c : Dev nD) : (dats m 0 c).arrAt 5 (cfgs 0).N = ProjSampleRef.gate (argX m c) (argW m c) := by
  refine (dats m 0 c).arrAt_eq_of_covers 5 _ (by decide +kernel) fun t _ y => ?_
  blk_simp
  rw [after0_5]
  frame_out
  pointwise [k0_pay148, k0_pay151, k0_pay3, ProjSampleRef.gate, ProjSampleRef.ones, ProjSampleRef.gateIn, ProjSampleRef.proj]
  simp only [zero_sub]
  blk_point [iblk, V, idx t]

end Cert.Proof.ProjSample

end
-- ==== Proof.ProjSampleRecurrence.lean ====
/-
  THE SAMPLE PROJECTION'S RECURRENCE PARTS, as the launch leaves them.
-/
module

public import proofs.«01_k».proof.Proof.Gen.ProjectionSampleIdeal.Frame
public import proofs.«01_k».proof.Proof.ProjSampleRef
public import Idealize.ShloMosaic.Lib.Pipeline.ValueKit
public import Idealize.ShloMosaic.Lib.Pointwise
public import proofs.«01_k».proof.Proof.ProjSampleIndex

@[expose] public section

set_option maxRecDepth 16384

noncomputable section

open Idealize.ShloMosaic Idealize.ShloMosaic.TcCoe Idealize.SL.Sem
open Idealize.ShloMosaic.Pipeline (Dat)

namespace Cert.Proof.ProjSample

open Cert.ProjectionSampleIdeal Cert.ProjectionSampleIdeal.Gen

variable (m : (ℓ : Loc nD τ sig) → Buf (Elt Ideal) ℓ)

theorem final6 (c : Dev nD) : (dats m 0 c).arrAt 6 (cfgs 0).N = ProjSampleRef.recQ (argX m c) (argW m c) := by
  refine (dats m 0 c).arrAt_eq_of_covers 6 _ (by decide +kernel) fun t _ y => ?_
  blk_simp
  rw [after0_6]
  frame_out
  pointwise [k0_pay149, k0_pay151, k0_pay3, ProjSampleRef.recQ, ProjSampleRef.proj]
  blk_point [iblk, V, idx t]

theorem final7 (c : Dev nD) : (dats m 0 c).arrAt 7 (cfgs 0).N = ProjSampleRef.recF (argX m c) (argW m c) := by
  refine (dats m 0 c).arrAt_eq_of_covers 7 _ (by decide +kernel) fun t _ y => ?_
  blk_simp
  rw [after0_7]
  frame_out
  pointwise [k0_pay150, k0_pay151, k0_pay3, ProjSampleRef.recF, ProjSampleRef.proj]
  blk_point [iblk, V, idx t]

theorem final8 (c : Dev nD) : (dats m 0 c).arrAt 8 (cfgs 0).N = ProjSampleRef.recI (argX m c) (argW m c) := by
  refine (dats m 0 c).arrAt_eq_of_covers 8 _ (by decide +kernel) fun t _ y => ?_
  blk_simp
  rw [after0_8]
  frame_out
  pointwise [k0_pay1, k0_pay151, k0_pay3, ProjSampleRef.recI, ProjSampleRef.proj]
  blk_point [iblk, V, idx t]

theorem final9 (c : Dev nD) : (dats m 0 c).arrAt 9 (cfgs 0).N = ProjSampleRef.recG (argX m c) (argW m c) := by
  refine (dats m 0 c).arrAt_eq_of_covers 9 _ (by decide +kernel) fun t _ y => ?_
  blk_simp
  rw [after0_9]
  frame_out
  pointwise [k0_pay2, k0_pay151, k0_pay3, ProjSampleRef.recG, ProjSampleRef.proj]
  blk_point [iblk, V, idx t]

end Cert.Proof.ProjSample

end
-- ==== Proof.ProjSampleHeads.lean ====
/-
  THE SAMPLE PROJECTION'S KEYS AND VALUES, head by head, as the launch leaves them.
-/
module

public import proofs.«01_k».proof.Proof.Gen.ProjectionSampleIdeal.Frame
public import proofs.«01_k».proof.Proof.ProjSampleRef
public import Idealize.ShloMosaic.Lib.Pipeline.ValueKit
public import Idealize.ShloMosaic.Lib.Pointwise
public import proofs.«01_k».proof.Proof.ProjSampleIndex

@[expose] public section

set_option maxRecDepth 16384

noncomputable section

open Idealize.ShloMosaic Idealize.ShloMosaic.TcCoe Idealize.SL.Sem
open Idealize.ShloMosaic.Pipeline (Dat)

namespace Cert.Proof.ProjSample

open Cert.ProjectionSampleIdeal Cert.ProjectionSampleIdeal.Gen

variable (m : (ℓ : Loc nD τ sig) → Buf (Elt Ideal) ℓ)

/-- An entry of the keys' product is the entry of the plain keys at its head. -/
theorem keys_at (c : Dev nD) (t : Fin cfg0.N) (y : S1x8x8x16x64.Idx) (i : S128x512.Idx) (j : S1x8x8x16x64.Idx)
    (hi0 : (i 0 : ℕ) = (y 1 : ℕ) * 16 + y 3) (hi1 : (i 1 : ℕ) = (y 2 : ℕ) * 64 + y 4)
    (hj0 : (j 0 : ℕ) = y 0) (hj1 : (j 1 : ℕ) = y 1) (hj2 : (j 2 : ℕ) = y 2) (hj3 : (j 3 : ℕ) = y 3) (hj4 : (j 4 : ℕ) = y 4) :
    k0_pay152 (F := Ideal) (iblk m c 0 t) (iblk m c 1 t) i
      = ProjSampleRef.heads (ProjSampleRef.keys (argX m c) (argW m c)) j := by
  pointwise [k0_pay152, k0_pay5, k0_pay3, ProjSampleRef.heads, ProjSampleRef.keys, ProjSampleRef.proj]
  blk_point [iblk, V, idx t]

set_option maxHeartbeats 8000000 in
/-- What the body leaves of the keys, head by head. -/
theorem keys_point (c : Dev nD) (t : Fin cfg0.N) (y : S1x8x8x16x64.Idx) :
    out0_10 (iblk m c 0 t) (iblk m c 1 t) y
      = ProjSampleRef.heads (ProjSampleRef.keys (argX m c) (argW m c)) (((cfg0.win 10).blk t).view.emb y) := by
  obtain_idx i : S128x512 := [(y 1 : ℕ) * 16 + (y 3 : ℕ), (y 2 : ℕ) * 64 + (y 4 : ℕ)] with hi
  refine Eq.trans (b := k0_pay152 (F := Ideal) (iblk m c 0 t) (iblk m c 1 t) i) ?_ (keys_at m c t y i _ hi0 hi1 ?_ ?_ ?_ ?_ ?_)
  · canon_tiles x h
    all_goals (open_payloads; pointwise)
    all_goals first | blk_ext | (pointwise [k0_pay152, k0_pay5, k0_pay3]; blk_point [])
  all_goals (blk_simp [idx t] <;> try omega)

theorem final10 (c : Dev nD) : (dats m 0 c).arrAt 10 (cfgs 0).N
    = ProjSampleRef.heads (ProjSampleRef.keys (argX m c) (argW m c)) := by
  refine (dats m 0 c).arrAt_eq_of_covers 10 _ (by decide +kernel) fun t _ y => ?_
  blk_simp
  rw [after0_10]
  exact keys_point m c t y

/-- An entry of the values' product is the entry of the plain values at its head. -/
theorem values_at (c : Dev nD) (t : Fin cfg0.N) (y : S1x8x8x16x64.Idx) (i : S128x512.Idx) (j : S1x8x8x16x64.Idx)
    (hi0 : (i 0 : ℕ) = (y 1 : ℕ) * 16 + y 3) (hi1 : (i 1 : ℕ) = (y 2 : ℕ) * 64 + y 4)
    (hj0 : (j 0 : ℕ) = y 0) (hj1 : (j 1 : ℕ) = y 1) (hj2 : (j 2 : ℕ) = y 2) (hj3 : (j 3 : ℕ) = y 3) (hj4 : (j 4 : ℕ) = y 4) :
    k0_pay153 (F := Ideal) (iblk m c 0 t) (iblk m c 1 t) i
      = ProjSampleRef.heads (ProjSampleRef.values (argX m c) (argW m c)) j := by
  pointwise [k0_pay153, k0_pay151, k0_pay71, k0_pay3, ProjSampleRef.heads, ProjSampleRef.values, ProjSampleRef.proj]
  blk_point [iblk, V, idx t]

set_option maxHeartbeats 8000000 in
/-- What the body leaves of the values, head by head. -/
theorem values_point (c : Dev nD) (t : Fin cfg0.N) (y : S1x8x8x16x64.Idx) :
    out0_11 (iblk m c 0 t) (iblk m c 1 t) y
      = ProjSampleRef.heads (ProjSampleRef.values (argX m c) (argW m c)) (((cfg0.win 11).blk t).view.emb y) := by
  obtain_idx i : S128x512 := [(y 1 : ℕ) * 16 + (y 3 : ℕ), (y 2 : ℕ) * 64 + (y 4 : ℕ)] with hi
  refine Eq.trans (b := k0_pay153 (F := Ideal) (iblk m c 0 t) (iblk m c 1 t) i) ?_ (values_at m c t y i _ hi0 hi1 ?_ ?_ ?_ ?_ ?_)
  · canon_tiles x h
    all_goals (open_payloads; pointwise)
    all_goals first | blk_ext | (pointwise [k0_pay153, k0_pay151, k0_pay71, k0_pay3]; blk_point [])
  all_goals (blk_simp [idx t] <;> try omega)

theorem final11 (c : Dev nD) : (dats m 0 c).arrAt 11 (cfgs 0).N
    = ProjSampleRef.heads (ProjSampleRef.values (argX m c) (argW m c)) := by
  refine (dats m 0 c).arrAt_eq_of_covers 11 _ (by decide +kernel) fun t _ y => ?_
  blk_simp
  rw [after0_11]
  exact values_point m c t y

end Cert.Proof.ProjSample

end
-- ==== Proof.ProjSampleClaim.lean ====
/-
  THE SAMPLE PROJECTION'S CLAIMS: the launch leaves what the plain program leaves.
-/
module

public import proofs.«01_k».proof.Defs
public import Idealize.ShloMosaic.Lib.Claim
public import proofs.«01_k».proof.Proof.Gen.ProjectionSampleIdeal.Frame
public import proofs.«01_k».proof.Proof.Gen.ProjectionSampleReferenceIdeal.Run
public import proofs.«01_k».proof.Proof.ProjSampleRef
public import proofs.«01_k».proof.Proof.ProjSampleAttention
public import proofs.«01_k».proof.Proof.ProjSampleRecurrence
public import proofs.«01_k».proof.Proof.ProjSampleHeads

@[expose] public section

set_option maxRecDepth 16384

noncomputable section

open Idealize.ShloMosaic Idealize.ShloMosaic.TcCoe Idealize.SL.Sem

namespace Cert.Proof.ProjSampleClaim

/-- The plain program runs to its end and leaves its arguments alone. -/
theorem reference_frame : Cert.quiescent_ProjectionSampleReferenceIdeal := fun m ρ _ =>
  (θ_run Cert.ProjectionSampleReferenceIdeal.defs _ _).mono
    (fun r h => ⟨fun c => ((((((((((h c).2).2).2).2).2).2).2).2).2).2, Idealize.ShloMosaic.sem_eq_zero_of_no_sems (by decide) r.2⟩)
    (Cert.ProjectionSampleReferenceIdeal.Value.run (F := Ideal) m ρ)

set_option maxHeartbeats 4000000 in
/-- The launch leaves the plain program's ten results. -/
theorem same : Cert.algebraic_ProjectionSampleIdeal_ProjectionSampleReferenceIdeal := by
  pair_intro
  · run_from Cert.ProjectionSampleIdeal.Gen.run_main m g
  · run_from Cert.ProjectionSampleReferenceIdeal.Value.run m' g'
    · exact (ProjSample.final2 m c).symm
    · exact (ProjSample.final3 m c).symm
    · exact (ProjSample.final4 m c).symm
    · exact (ProjSample.final5 m c).symm
    · exact (ProjSample.final6 m c).symm
    · exact (ProjSample.final7 m c).symm
    · exact (ProjSample.final8 m c).symm
    · exact (ProjSample.final9 m c).symm
    · exact (ProjSample.final10 m c).symm
    · exact (ProjSample.final11 m c).symm

end Cert.Proof.ProjSampleClaim

end
-- ==== Proof.OutSampleRef.lean ====
/-
  THE SAMPLE'S OUTPUT PROJECTION, WRITTEN PLAINLY: one product with the whole weight matrix, added to the scaled rows, and the norm.
-/
module

public import proofs.«01_k».proof.Proof.Gen.OutputSampleReferenceIdeal.Run
public import Idealize.ShloMosaic.Lib.Pointwise

@[expose] public section

noncomputable section

open Idealize.ShloMosaic Idealize.ShloMosaic.TcCoe

namespace Cert.Proof.OutSampleRef

open Cert.OutputSampleReferenceIdeal Cert.OutputSampleReferenceIdeal.Gen

/-- The two mixed halves side by side, times the weights. -/
def mix (A B : FVec Ideal S8x16x512 .bf16) (W : FVec Ideal S1x1024x1024 .f32) : FVec Ideal S8x16x1024 .f32 :=
  Host.dotGeneral dot_S8x16x1024_S1024x1024_S8x16x1024_2_0_01_1_n_n none
    (extf .f32 (concatenate S8x16x1024 2 [⟨S8x16x512, A⟩, ⟨S8x16x512, B⟩] concatenates_S8x16x512_S8x16x512_S8x16x1024_d2) bitsLt_bf16_f32)
    (shapeCast S1024x1024 W shapeCasts_S1x1024x1024_S1024x1024)

/-- The rows before the norm. -/
def hid (A B : FVec Ideal S8x16x512 .bf16) (X : FVec Ideal S8x16x1024 .f32) (W : FVec Ideal S1x1024x1024 .f32) :
    FVec Ideal S8x16x1024 .f32 :=
  addf (mulf (broadcastInDim S8x16x1024 ![] bcast_S_S8x16x1024 (constant S_ .f32 0x3F9837F0#32)) X) (mix A B W)

/-- The mean of each row. -/
def mean (H : FVec Ideal S8x16x1024 .f32) : FVec Ideal S8x16x1 .f32 :=
  Host.divf (broadcastInDim S8x16x1 ![0, 1] bcast_S8x16_S8x16x1_0_1
      (Host.reduceAdd H (constant S_ .f32 0x00000000#32) reducesTo_S8x16x1024_S8x16_d2 h_S_))
    (broadcastInDim S8x16x1 ![] bcast_S_S8x16x1 (constant S_ .f32 0x44800000#32))

/-- The rows less their means. -/
def centred (H : FVec Ideal S8x16x1024 .f32) : FVec Ideal S8x16x1024 .f32 :=
  subf H (broadcastInDim S8x16x1024 ![0, 1, 2] bcast_S8x16x1_S8x16x1024_0_1_2 (mean H))

/-- A gain or a bias, the same for every row. -/
def everywhere (G : FVec Ideal S1x1024 .f32) : FVec Ideal S8x16x1024 .f32 :=
  broadcastInDim S8x16x1024 ![0, 1, 2] bcast_S1x1x1024_S8x16x1024_0_1_2
    (broadcastInDim S1x1x1024 ![2] bcast_S1024_S1x1x1024_2 (shapeCast S1024 G shapeCasts_S1x1024_S1024))

/-- The norm of the rows, with its gain and its bias. -/
def norm (H : FVec Ideal S8x16x1024 .f32) (G Z : FVec Ideal S1x1024 .f32) : FVec Ideal S8x16x1024 .f32 :=
  addf (mulf (mulf (centred H) (broadcastInDim S8x16x1024 ![0, 1, 2] bcast_S8x16x1_S8x16x1024_0_1_2
      (Host.rsqrt (addf (mean (mulf (centred H) (centred H)))
        (broadcastInDim S8x16x1 ![] bcast_S_S8x16x1 (constant S_ .f32 0x3727C5AC#32))))))
    (everywhere G)) (everywhere Z)

/-- The mean of one row. -/
def meanAt (h : Fin 1024 → Ideal .f32) : Ideal .f32 :=
  Ideal.div (∑ d, h d) (Ideal.ofBits .f32 0x44800000#32)

/-- One entry of the norm of one row. -/
def normAt (h : Fin 1024 → Ideal .f32) (g z : Ideal .f32) (e : Fin 1024) : Ideal .f32 :=
  (h e - meanAt h) * Ideal.rsqrt (meanAt (fun d => (h d - meanAt h) * (h d - meanAt h)) + Ideal.ofBits .f32 0x3727C5AC#32)
    * g + z

open Idealize.ShloMosaic.Pointwise in
/-- The norm, entry by entry. -/
theorem norm_at (H : FVec Ideal S8x16x1024 .f32) (G Z : FVec Ideal S1x1024 .f32) (b : Fin 8) (t : Fin 16) (e : Fin 1024) :
    norm H G Z (ix3 b t e) = normAt (fun d => H (ix3 b t d)) (G (ix2 0 e)) (Z (ix2 0 e)) e := by
  pointwise [norm, centred, mean, everywhere]
  rfl

open Idealize.ShloMosaic.Pointwise in
/-- A row before the norm, its product taken half by half. -/
theorem hid_at (A B : FVec Ideal S8x16x512 .bf16) (X : FVec Ideal S8x16x1024 .f32) (W : FVec Ideal S1x1024x1024 .f32)
    (b : Fin 8) (t : Fin 16) (e : Fin 1024) :
    hid A B X W (ix3 b t e) = Ideal.ofBits .f32 0x3F9837F0#32 * X (ix3 b t e)
      + (∑ d : Fin 512, A (ix3 b t d) * W (ix3 0 (Fin.castLE (by decide) d) e)
        + ∑ d : Fin 512, B (ix3 b t d) * W (ix3 0 (Fin.natAdd 512 d) e)) := by
  pointwise [hid, mix]
  rfl

end Cert.Proof.OutSampleRef

end
-- ==== Proof.OutSampleValue.lean ====
/-
  THE SAMPLE'S OUTPUT PROJECTION'S ARRAY: the rows the launch leaves are the norm of the plain product.
-/
module

public import proofs.«01_k».proof.Proof.Gen.OutputSampleIdeal.Frame
public import proofs.«01_k».proof.Proof.OutSampleRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.OutSample

open Cert.OutputSampleIdeal Cert.OutputSampleIdeal.Gen

variable (m : (ℓ : Loc nD τ sig) → Buf (Elt Ideal) ℓ)

/-- The blocks each point is given. -/
theorem idx : ∀ t : Fin cfg0.N,
    win0_0.index t = ![(grid0.coords t 0).val, 0]
    ∧ win0_1.index t = ![(grid0.coords t 0).val, 0]
    ∧ win0_2.index t = ![(grid0.coords t 0).val, 0]
    ∧ win0_3.index t = ![0, 0]
    ∧ win0_4.index t = ![0, 0]
    ∧ win0_5.index t = ![0, 0]
    ∧ win0_6.index t = ![(grid0.coords t 0).val, 0] :=
  (by decide +kernel : ∀ t : Fin grid0.N, _)

/-- The rows before the norm, of the launch's own arguments. -/
abbrev rowsIn (c : Dev nD) : FVec Ideal S8x16x1024 .f32 :=
  OutSampleRef.hid (m ((c : Thread nD τ).loc main_arg0)) (m ((c : Thread nD τ).loc main_arg1))
    (m ((c : Thread nD τ).loc main_arg2)) (m ((c : Thread nD τ).loc main_arg3))

/-- The plain result, its rows one below the other. -/
def plain (c : Dev nD) : FVec Ideal S128x1024 .f32 :=
  shapeCast S128x1024 (OutSampleRef.norm (rowsIn m c) (m ((c : Thread nD τ).loc main_arg4)) (m ((c : Thread nD τ).loc main_arg5)))
    shapeCasts_S8x16x1024_S128x1024

open Idealize.ShloMosaic.Pointwise in
/-- One entry of one row of a block before the norm. -/
def blockRow (p : Vec Ideal S128x512 .bf16) (u : Vec Ideal S512x1024 .bf16) (q : Vec Ideal S128x512 .bf16)
    (v : Vec Ideal S512x1024 .bf16) (x : Vec Ideal S128x1024 .f32) (r : Fin 128) (e : Fin 1024) : Ideal .f32 :=
  Ideal.ofBits .f32 0x3F9837F0#32 * x (ix2 r e)
    + (∑ d : Fin 512, p (ix2 r d) * u (ix2 d e) + ∑ d : Fin 512, q (ix2 r d) * v (ix2 d e))

open Idealize.ShloMosaic.Pointwise in
/-- What the body stores is the norm of each row of its block. -/
theorem stored_at (p : Vec Ideal S128x512 .bf16) (u : Vec Ideal S512x1024 .bf16) (q : Vec Ideal S128x512 .bf16)
    (v : Vec Ideal S512x1024 .bf16) (x : Vec Ideal S128x1024 .f32) (g z : Vec Ideal S1x1024 .f32) (r : Fin 128) (e : Fin 1024) :
    k0_pay1 (k0_pay2 p u q v x g) z (ix2 r e)
      = OutSampleRef.normAt (blockRow p u q v x r) (g (ix2 0 e)) (z (ix2 0 e)) e := by
  pointwise [k0_pay1, k0_pay2]
  unfold OutSampleRef.normAt OutSampleRef.meanAt blockRow
  rfl

open Idealize.ShloMosaic.Pointwise in
/-- The plain result, entry by entry. -/
theorem plain_at (c : Dev nD) (r : Fin 128) (e : Fin 1024) : plain m c (ix2 r e)
    = OutSampleRef.normAt (fun d => rowsIn m c (ix3 ⟨r.val / 16, by omega⟩ ⟨r.val % 16, by omega⟩ d))
        (m ((c : Thread nD τ).loc main_arg4) (ix2 0 e)) (m ((c : Thread nD τ).loc main_arg5) (ix2 0 e)) e := by
  refine Eq.trans ?_ (OutSampleRef.norm_at _ _ _ _ _ _)
  pointwise [plain]

open Idealize.ShloMosaic.Pointwise in
/-- The block of the first mixed half. -/
theorem blk0 (c : Dev nD) (t : Fin cfg0.N) (r : Fin 128) (i : Fin 128)
    (hi : i.val = (grid0.coords t 0).val * 128 + r.val) (d : Fin 512) :
    iblk m c 0 t (ix2 r d) = m ((c : Thread nD τ).loc main_arg0) (ix3 ⟨i.val / 16, by omega⟩ ⟨i.val % 16, by omega⟩ d) := by
  blk_simp [iblk, idx t]
  unfold V V0
  simp only [List.flatten_cons, List.flatten_nil, List.append_nil]
  after_results
  pointwise []
  blk_ext [idx t]

open Idealize.ShloMosaic.Pointwise in
/-- The block of the second mixed half. -/
theorem blk1 (c : Dev nD) (t : Fin cfg0.N) (r : Fin 128) (i : Fin 128)
    (hi : i.val = (grid0.coords t 0).val * 128 + r.val) (d : Fin 512) :
    iblk m c 1 t (ix2 r d) = m ((c : Thread nD τ).loc main_arg1) (ix3 ⟨i.val / 16, by omega⟩ ⟨i.val % 16, by omega⟩ d) := by
  blk_simp [iblk, idx t]
  unfold V V0
  simp only [List.flatten_cons, List.flatten_nil, List.append_nil]
  after_results
  pointwise []
  blk_ext [idx t]

open Idealize.ShloMosaic.Pointwise in
/-- The block of the rows. -/
theorem blk2 (c : Dev nD) (t : Fin cfg0.N) (r : Fin 128) (i : Fin 128)
    (hi : i.val = (grid0.coords t 0).val * 128 + r.val) (d : Fin 1024) :
    iblk m c 2 t (ix2 r d) = m ((c : Thread nD τ).loc main_arg2) (ix3 ⟨i.val / 16, by omega⟩ ⟨i.val % 16, by omega⟩ d) := by
  blk_simp [iblk, idx t]
  unfold V V0
  simp only [List.flatten_cons, List.flatten_nil, List.append_nil]
  after_results
  pointwise []
  blk_ext [idx t]

open Idealize.ShloMosaic.Pointwise in
/-- The weights of the first half. -/
theorem wts1 (c : Dev nD) (t : Fin cfg0.N) (d : Fin 512) (e : Fin 1024) :
    View.ld (iblk m c 3 t) r0_1 (ix2 d e) = m ((c : Thread nD τ).loc main_arg3) (ix3 0 (Fin.castLE (by decide) d) e) := by
  pointwise []
  blk_simp [iblk, idx t]
  unfold V V0
  simp only [List.flatten_cons, List.flatten_nil, List.append_nil]
  after_results
  pointwise []
  blk_ext [idx t]
  rfl

open Idealize.ShloMosaic.Pointwise in
/-- The weights of the second half. -/
theorem wts2 (c : Dev nD) (t : Fin cfg0.N) (d : Fin 512) (e : Fin 1024) :
    View.ld (iblk m c 3 t) r0_2 (ix2 d e) = m ((c : Thread nD τ).loc main_arg3) (ix3 0 (Fin.natAdd 512 d) e) := by
  pointwise []
  blk_simp [iblk, idx t]
  unfold V V0
  simp only [List.flatten_cons, List.flatten_nil, List.append_nil]
  after_results
  pointwise []
  blk_ext [idx t]
  rfl

open Idealize.ShloMosaic.Pointwise in
/-- The gains. -/
theorem blk4 (c : Dev nD) (t : Fin cfg0.N) (e : Fin 1024) :
    iblk m c 4 t (ix2 0 e) = m ((c : Thread nD τ).loc main_arg4) (ix2 0 e) := by
  blk_simp [iblk, idx t]
  unfold V V0
  simp only [List.flatten_cons, List.flatten_nil, List.append_nil]
  after_results
  pointwise []
  blk_ext [idx t]

open Idealize.ShloMosaic.Pointwise in
/-- The biases. -/
theorem blk5 (c : Dev nD) (t : Fin cfg0.N) (e : Fin 1024) :
    iblk m c 5 t (ix2 0 e) = m ((c : Thread nD τ).loc main_arg5) (ix2 0 e) := by
  blk_simp [iblk, idx t]
  unfold V V0
  simp only [List.flatten_cons, List.flatten_nil, List.append_nil]
  after_results
  pointwise []
  blk_ext [idx t]

open Idealize.ShloMosaic.Pointwise in
/-- The block's rows are the array's, at the place the point is given. -/
theorem row_eq (c : Dev nD) (t : Fin cfg0.N) (r : Fin 128) (i : Fin 128)
    (hi : i.val = (grid0.coords t 0).val * 128 + r.val) (d : Fin 1024) :
    blockRow (iblk m c 0 t) (View.ld (iblk m c 3 t) r0_1) (iblk m c 1 t) (View.ld (iblk m c 3 t) r0_2) (iblk m c 2 t) r d
      = rowsIn m c (ix3 ⟨i.val / 16, by omega⟩ ⟨i.val % 16, by omega⟩ d) := by
  refine Eq.trans ?_ (OutSampleRef.hid_at _ _ _ _ _ _ _).symm
  unfold blockRow
  rw [blk2 m c t r i hi]
  refine congrArg₂ (fun p q : EReal => _ * _ + (p + q)) (Finset.sum_congr rfl fun k _ => ?_) (Finset.sum_congr rfl fun k _ => ?_)
  · exact congrArg₂ (fun p q : EReal => p * q) (blk0 m c t r i hi k) (wts1 m c t k d)
  · exact congrArg₂ (fun p q : EReal => p * q) (blk1 m c t r i hi k) (wts2 m c t k d)

open Idealize.ShloMosaic.Pointwise in
/-- What one point stores is its part of the plain result. -/
theorem point_eq (c : Dev nD) (t : Fin cfg0.N) (r : Fin 128) (e : Fin 1024) (i : Fin 128)
    (hi : i.val = (grid0.coords t 0).val * 128 + r.val) :
    k0_pay1 (k0_pay2 (iblk m c 0 t) (View.ld (iblk m c 3 t) r0_1) (iblk m c 1 t) (View.ld (iblk m c 3 t) r0_2) (iblk m c 2 t)
        (iblk m c 4 t)) (iblk m c 5 t) (ix2 r e) = plain m c (ix2 i e) := by
  refine (stored_at _ _ _ _ _ _ _ r e).trans (Eq.trans ?_ (plain_at m c i e).symm)
  rw [funext (row_eq m c t r i hi)]
  rw [blk4 m c t e, blk5 m c t e]

open Idealize.ShloMosaic.Pointwise in
theorem final6 (c : Dev nD) : (dats m 0 c).arrAt 6 (cfgs 0).N = plain m c := by
  refine (dats m 0 c).arrAt_eq_of_covers 6 _ (by decide +kernel) fun t _ y => ?_
  blk_simp
  rw [after0_6]
  frame_out
  have h0 : ((((View.whole main_v9).slice (win0_6.rect t)).emb y) 0).val = (grid0.coords t 0).val * 128 + (y 0).val := by
    blk_simp [idx t]
  have h1 : (((View.whole main_v9).slice (win0_6.rect t)).emb y) = ix2 ((((View.whole main_v9).slice (win0_6.rect t)).emb y) 0) (y 1) := by
    blk_ext [idx t]
  have h2 : y = ix2 (y 0) (y 1) := by blk_ext
  rw [h1, h2]
  exact point_eq m c t _ _ _ h0

end Cert.Proof.OutSample

end
-- ==== Proof.OutSampleClaim.lean ====
/-
  THE SAMPLE'S OUTPUT PROJECTION'S CLAIMS: the launch leaves what the plain program leaves.
-/
module

public import proofs.«01_k».proof.Defs
public import Idealize.ShloMosaic.Lib.Claim
public import proofs.«01_k».proof.Proof.Gen.OutputSampleIdeal.Frame
public import proofs.«01_k».proof.Proof.Gen.OutputSampleReferenceIdeal.Run
public import proofs.«01_k».proof.Proof.OutSampleRef
public import proofs.«01_k».proof.Proof.OutSampleValue

@[expose] public section

set_option maxRecDepth 16384

noncomputable section

open Idealize.ShloMosaic Idealize.ShloMosaic.TcCoe Idealize.SL.Sem

namespace Cert.Proof.OutSampleClaim

/-- The plain program runs to its end and leaves its arguments alone. -/
theorem reference_frame : Cert.quiescent_OutputSampleReferenceIdeal := fun m ρ _ =>
  (θ_run Cert.OutputSampleReferenceIdeal.defs _ _).mono
    (fun r h => ⟨fun c => (h c).2, Idealize.ShloMosaic.sem_eq_zero_of_no_sems (by decide) r.2⟩)
    (Cert.OutputSampleReferenceIdeal.Value.run (F := Ideal) m ρ)

/-- The plain program's result is the norm of the plain product. -/
theorem result_eq (m : (ℓ : Loc Cert.OutputSampleReferenceIdeal.nD Cert.OutputSampleReferenceIdeal.τ Cert.OutputSampleReferenceIdeal.sig) → Buf (Elt Ideal) ℓ) (c : Dev Cert.OutputSampleReferenceIdeal.nD) :
    Cert.OutputSampleReferenceIdeal.Value.res_out0 m c = OutSampleRef.norm
      (OutSampleRef.hid (m ((c.tc : Thread Cert.OutputSampleReferenceIdeal.nD Cert.OutputSampleReferenceIdeal.τ).loc Cert.OutputSampleReferenceIdeal.main_arg0))
        (m ((c.tc : Thread Cert.OutputSampleReferenceIdeal.nD Cert.OutputSampleReferenceIdeal.τ).loc Cert.OutputSampleReferenceIdeal.main_arg1))
        (m ((c.tc : Thread Cert.OutputSampleReferenceIdeal.nD Cert.OutputSampleReferenceIdeal.τ).loc Cert.OutputSampleReferenceIdeal.main_arg2))
        (m ((c.tc : Thread Cert.OutputSampleReferenceIdeal.nD Cert.OutputSampleReferenceIdeal.τ).loc Cert.OutputSampleReferenceIdeal.main_arg3)))
      (m ((c.tc : Thread Cert.OutputSampleReferenceIdeal.nD Cert.OutputSampleReferenceIdeal.τ).loc Cert.OutputSampleReferenceIdeal.main_arg4))
      (m ((c.tc : Thread Cert.OutputSampleReferenceIdeal.nD Cert.OutputSampleReferenceIdeal.τ).loc Cert.OutputSampleReferenceIdeal.main_arg5)) := by
  unfold Cert.OutputSampleReferenceIdeal.Value.res_out0 Cert.OutputSampleReferenceIdeal.Value.res_main_v32 OutSampleRef.norm OutSampleRef.centred OutSampleRef.mean OutSampleRef.everywhere OutSampleRef.hid OutSampleRef.mix
  rfl

section
open Cert.OutputSampleIdeal Cert.OutputSampleIdeal.Gen

/-- After the launch the rows are laid out batch by batch. -/
theorem tail_eq (m : (ℓ : Loc nD τ sig) → Buf (Elt Ideal) ℓ) (c : Dev nD) :
    Pipeline.afterTail₀ cfgs (dats m) 0 (V0 m) [hostOps1] c main_v10
      = shapeCast S8x16x1024 ((dats m 0 c).arrAt 6 (cfgs 0).N : FVec Ideal S128x1024 .f32) shapeCasts_S128x1024_S8x16x1024 := by
  unfold Pipeline.afterTail₀
  simp only [List.flatten_cons, List.flatten_nil, List.append_nil]
  after_results
  have h := Pipeline.withArrays_arr spec0 (by decide) c (V0 m c) (fun w => (dats m 0 c).arrAt w (cfgs 0).N) 6
  exact congrArg (fun a : FVec Ideal S128x1024 .f32 => shapeCast S8x16x1024 a shapeCasts_S128x1024_S8x16x1024) h

end

set_option maxHeartbeats 4000000 in
/-- The launch leaves the plain program's result. -/
theorem same : Cert.algebraic_OutputSampleIdeal_OutputSampleReferenceIdeal := by
  pair_intro
  · run_from Cert.OutputSampleIdeal.Gen.run_main m g
    · exact Cert.OutputSampleIdeal.Gen.W_main_arg0 m _ c
    · exact Cert.OutputSampleIdeal.Gen.W_main_arg1 m _ c
    · exact Cert.OutputSampleIdeal.Gen.W_main_arg2 m _ c
    · exact Cert.OutputSampleIdeal.Gen.W_main_arg3 m _ c
    · exact Cert.OutputSampleIdeal.Gen.W_main_arg4 m _ c
    · exact Cert.OutputSampleIdeal.Gen.W_main_arg5 m _ c
  · run_from Cert.OutputSampleReferenceIdeal.Value.run m' g'
    refine (result_eq m' c).trans ?_
    rw [(hagree c).1, (hagree c).2.1, (hagree c).2.2.1, (hagree c).2.2.2.1, (hagree c).2.2.2.2.1, (hagree c).2.2.2.2.2]
    refine Eq.trans ?_ (tail_eq m c).symm
    rw [OutSample.final6 m c]
    exact (shapeCast_shapeCast _ _ _).symm

end Cert.Proof.OutSampleClaim

end
-- ==== Proof.DecSuffix.lean ====
/-
  A running sum from the last column back, read at one place, for the rows of the sample: 1024 cached columns and 16 new.
-/
module

public import proofs.«01_k».proof.Proof.Suffix

@[expose] public section

set_option maxRecDepth 16384

noncomputable section

namespace Cert.Proof.DecSuffix

open Idealize.ShloMosaic
open scoped BigOperators

abbrev S4 : Shape := ⟨4, ![8, 8, 16, 1040]⟩
abbrev W4 : Shape := ⟨4, ![1, 1, 1, 1040]⟩

/-- A window's positions are its columns. -/
def cols : Fin 1040 ≃ W4.Idx where
  toFun k := ix4 0 0 0 k
  invFun y := y 3
  left_inv k := rfl
  right_inv y := by
    funext a
    match a with
    | ⟨0, _⟩ => exact Fin.ext (by have := (y 0).isLt; change (y 0).val < 1 at this; show 0 = (y 0).val; omega)
    | ⟨1, _⟩ => exact Fin.ext (by have := (y 1).isLt; change (y 1).val < 1 at this; show 0 = (y 1).val; omega)
    | ⟨2, _⟩ => exact Fin.ext (by have := (y 2).isLt; change (y 2).val < 1 at this; show 0 = (y 2).val; omega)
    | ⟨3, _⟩ => rfl

/-- The columns from `s` on, counted from `s`. -/
theorem sum_from (f : ℕ → EReal) (s : ℕ) (hs : s < 1040) :
    ∑ k : Fin 1040, (if s + (k : ℕ) < 1040 then f (s + k) else 0) = ∑ j ∈ Finset.Ico s 1040, f j := by
  rw [Fin.sum_univ_eq_sum_range (fun k => if s + k < 1040 then f (s + k) else 0) 1040, Finset.sum_Ico_eq_sum_range,
    ← Finset.sum_filter]
  refine Finset.sum_congr ?_ fun _ _ => rfl
  ext k
  simp only [Finset.mem_filter, Finset.mem_range]
  omega

/-- The running sum at a place, over a row of cached and new keys. -/
theorem suffix_apply (X : FVec Ideal S4 .f32) (init : FVec Ideal ⟨0, ![]⟩ .f32) (f : ℕ → EReal) (b h : Fin 8) (t : Fin 16) (s : Fin 1040)
    (hX : ∀ j : Fin 1040, X (ix4 b h t j) = f j) (hinit : ∀ i, init i = 0)
    (hw : S4.ReduceWindows ![1, 1, 1, 1040] ![1, 1, 1, 1] ![0, 0, 0, 0] ![0, 0, 0, 1039] S4) (hu : 0 < (⟨0, ![]⟩ : Shape).numel) :
    Host.reduceWindowAdd (F := Ideal) ![1, 1, 1, 1040] ![1, 1, 1, 1] ![0, 0, 0, 0] ![0, 0, 0, 1039] X init hw hu (ix4 b h t s)
      = (∑ j ∈ Finset.Ico (s : ℕ) 1040, f j : EReal) := by
  rw [Suffix.window_apply, hinit, zero_add]
  refine Eq.trans ?_ (sum_from f s s.isLt)
  refine (Equiv.sum_comp cols _).symm.trans ?_
  refine Finset.sum_congr rfl fun k _ => ?_
  by_cases hc : (s : ℕ) + k < 1040
  · rw [if_pos hc, dif_pos]
    · rw [← hX ⟨_, hc⟩]
      congr 1
      funext a
      apply Fin.ext
      match a with
      | ⟨0, _⟩ => show (b : ℕ) * 1 + 0 - 0 = b; omega
      | ⟨1, _⟩ => show (h : ℕ) * 1 + 0 - 0 = h; omega
      | ⟨2, _⟩ => show (t : ℕ) * 1 + 0 - 0 = t; omega
      | ⟨3, _⟩ => show (s : ℕ) * 1 + k - 0 = s + k; omega
    · intro a
      match a with
      | ⟨0, _⟩ => show 0 ≤ (b : ℕ) * 1 + 0 ∧ (b : ℕ) * 1 + 0 - 0 < 8; omega
      | ⟨1, _⟩ => show 0 ≤ (h : ℕ) * 1 + 0 ∧ (h : ℕ) * 1 + 0 - 0 < 8; omega
      | ⟨2, _⟩ => show 0 ≤ (t : ℕ) * 1 + 0 ∧ (t : ℕ) * 1 + 0 - 0 < 16; omega
      | ⟨3, _⟩ => show 0 ≤ (s : ℕ) * 1 + k ∧ (s : ℕ) * 1 + k - 0 < 1040; omega
  · rw [if_neg hc, dif_neg]
    intro hin
    have := (hin (3 : Fin 4)).2
    change (s : ℕ) * 1 + k - 0 < 1040 at this
    omega

end Cert.Proof.DecSuffix

end
-- ==== Proof.DecRef.lean ====
/-
  THE REFERENCE'S ARRAY FOR THE SAMPLE, read at an index: the attention of the new queries over cached and new keys.
-/
module

public import proofs.«01_k».proof.Proof.DecSuffix
public import proofs.«01_k».proof.Proof.Tile
public import proofs.«01_k».proof.Proof.Gen.DecodeReferenceIdeal.Run
public import Idealize.ShloMosaic.Lib.Pointwise

@[expose] public section

set_option maxRecDepth 16384

noncomputable section

namespace Cert.Proof.DecRef

open Idealize.ShloMosaic Idealize.ShloMosaic.TcCoe
open Cert.DecodeReferenceIdeal Cert.DecodeReferenceIdeal.Gen
open scoped BigOperators

/-- A projection's rows cut into heads. -/
def heads (x : FVec Ideal S8x16x512 .f32) : FVec Ideal S8x8x16x64 .f32 :=
  transpose S8x8x16x64 [0, 2, 1, 3] (shapeCast S8x16x8x64 x shapeCasts_S8x16x512_S8x16x8x64)
    transposes_S8x16x8x64_S8x8x16x64_0_2_1_3

/-- The cached keys (or values) of a batch followed by its new ones. -/
def keys (x : FVec Ideal S8x16x512 .bf16) (y : FVec Ideal S1x8x8x1024x64 .f32) : FVec Ideal S8x8x1040x64 .f32 :=
  concatenate S8x8x1040x64 2 [⟨S8x8x1024x64, shapeCast S8x8x1024x64 y shapeCasts_S1x8x8x1024x64_S8x8x1024x64⟩,
    ⟨S8x8x16x64, heads (extf .f32 x bitsLt_bf16_f32)⟩] concatenates_S8x8x1024x64_S8x8x16x64_S8x8x1040x64_d2

def scores (q n : FVec Ideal S8x16x512 .bf16) (y : FVec Ideal S1x8x8x1024x64 .f32) : FVec Ideal S8x8x16x1040 .f32 :=
  Host.dotGeneral dot_S8x8x16x64_S8x8x1040x64_S8x8x16x1040_3_3_2_2_01_01 none (heads (extf .f32 q bitsLt_bf16_f32)) (keys n y)

def zeros : FVec Ideal S8x8x16x1040 .f32 :=
  broadcastInDim S8x8x16x1040 ![] bcast_S_S8x8x16x1040 (constant S_ .f32 0x00000000#32)

/-- What stands at the keys not before the query. -/
def blank : FVec Ideal S8x8x16x1040 .f32 :=
  broadcastInDim S8x8x16x1040 ![] bcast_S_S8x8x16x1040 (id (constant S_ .f32 0x00000000#32))

/-- The logarithm of the logistic function, written over `y = −x`. -/
def logistic (y : FVec Ideal S8x8x16x1040 .f32) : FVec Ideal S8x8x16x1040 .f32 :=
  Host.negf (select (cmpf .une (subf y zeros) (subf y zeros)) (addf y zeros)
    (addf (maximumf y zeros) (Host.log1p (Host.exp (Host.negf (Host.absf (subf y zeros)))))))

/-- A key before its query, whose place is 1024 plus its row. -/
def before : IVec S8x8x16x1040 1 :=
  broadcastInDim S8x8x16x1040 ![2, 3] bcast_S16x1040_S8x8x16x1040_2_3 (cmpi .slt
    (broadcastInDim S16x1040 ![0, 1] bcast_S1x1040_S16x1040_0_1 (broadcastInDim S1x1040 ![1] bcast_S1040_S1x1040_1 (iotaInDim S1040 32 0)))
    (broadcastInDim S16x1040 ![0, 1] bcast_S16x1_S16x1040_0_1 (addi (broadcastInDim S16x1 ![] bcast_S_S16x1 (constantI S_ 32 1024#32))
      (broadcastInDim S16x1 ![0] bcast_S16_S16x1_0 (iotaInDim S16 32 0)))))

def kept (z : FVec Ideal S8x8x16x1040 .f32) : FVec Ideal S8x8x16x1040 .f32 :=
  select before (logistic (Host.negf (Host.negf z))) blank

def running (x : FVec Ideal S8x8x16x1040 .f32) : FVec Ideal S8x8x16x1040 .f32 :=
  Host.reduceWindowAdd ![1, 1, 1, 1040] ![1, 1, 1, 1] ![0, 0, 0, 0] ![0, 0, 0, 1039] x
    (broadcastInDim S_ ![] bcast_S_S_ (constant S_ .f32 0x00000000#32))
    reduceWindows_S8x8x16x1040_S8x8x16x1040_w1s1p0_0_w1s1p0_0_w1s1p0_0_w1040s1p0_1039 h_S_

def weights (z : FVec Ideal S8x8x16x1040 .f32) : FVec Ideal S8x8x16x1040 .f32 :=
  select before (Host.exp (addf (logistic (Host.negf z)) (subf (running (kept z)) (kept z)))) blank

def mixed (w : FVec Ideal S8x8x16x1040 .f32) (n : FVec Ideal S8x16x512 .bf16) (y : FVec Ideal S1x8x8x1024x64 .f32) :
    FVec Ideal S8x8x16x64 .f32 :=
  Host.dotGeneral dot_S8x8x16x1040_S8x8x1040x64_S8x8x16x64_3_2_2_3_01_01 none w (keys n y)

/-- The heads side by side again, times the gate. -/
def gated (o : FVec Ideal S8x8x16x64 .f32) (g : FVec Ideal S8x16x512 .bf16) : FVec Ideal S8x16x512 .bf16 :=
  truncf .bf16 (mulf (shapeCast S8x16x512 (transpose S8x16x8x64 [0, 2, 1, 3] o
    transposes_S8x8x16x64_S8x16x8x64_0_2_1_3) shapeCasts_S8x16x8x64_S8x16x512) (extf .f32 g bitsLt_bf16_f32)) bitsLt_bf16_f32

def whole (q k v : FVec Ideal S8x16x512 .bf16) (kc vc : FVec Ideal S1x8x8x1024x64 .f32) (g : FVec Ideal S8x16x512 .bf16) :
    FVec Ideal S8x16x512 .bf16 := gated (mixed (weights (scores q k kc)) v vc) g

variable (m : (ℓ : Loc nD τ sig) → Buf (Elt Ideal) ℓ)

/-- What the reference leaves is this term of its arguments. -/
theorem result_eq (c : Dev nD) : Value.res_out0 m c = whole (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  unfold Value.res_out0 Value.res_main_v37 whole gated mixed weights running kept before logistic zeros blank scores keys heads
  rfl

theorem heads_apply (x : FVec Ideal S8x16x512 .f32) (b h : Fin 8) (t : Fin 16) (d : Fin 64) :
    heads x (ix4 b h t d) = x (ix3 b t ⟨64 * (h : ℕ) + d, by omega⟩) := by
  pointwise [heads]
  congr 2
  exact Fin.ext (by show (h : ℕ) * 64 + d = 64 * h + d; omega)

/-- A key at its place: the cached one below 1024, the new one from there on. -/
theorem keys_apply (n : FVec Ideal S8x16x512 .bf16) (y : FVec Ideal S1x8x8x1024x64 .f32) (b h : Fin 8) (s : Fin 1040) (d : Fin 64) :
    keys n y (ix4 b h s d) = if hs : (s : ℕ) < 1024 then y (ix5 0 b h ⟨s, hs⟩ d)
      else n (ix3 b ⟨(s : ℕ) - 1024, by omega⟩ ⟨64 * (h : ℕ) + d, by omega⟩) := by
  by_cases hs : (s : ℕ) < 1024
  · rw [dif_pos hs]
    pointwise [keys]
    rw [dif_pos hs]
  · rw [dif_neg hs]
    pointwise [keys]
    rw [dif_neg hs, heads_apply]
    rfl

theorem logistic_apply (y : FVec Ideal S8x8x16x1040 .f32) (b h : Fin 8) (t : Fin 16) (s : Fin 1040) :
    logistic y (ix4 b h t s) = Stick.keep (y (ix4 b h t s)) := by
  pointwise [logistic, zeros]
  rw [if_neg (fun h => h rfl)]
  unfold Stick.keep Ideal.log1p
  rw [zero_sub, zero_sub]
  rfl

theorem before_apply (b h : Fin 8) (t : Fin 16) (s : Fin 1040) :
    before (ix4 b h t s) = if (s : ℕ) < 1024 + t then 1#1 else 0#1 := by
  have e : IntOp.addi (1024#32) (BitVec.ofNat 32 t) = BitVec.ofNat 32 (1024 + t) := (BitVec.ofNat_add 1024 (t : ℕ)).symm
  pointwise [before]
  rw [e]
  exact Tile.slt_word s (1024 + t) (by omega) (by omega)

theorem scores_apply (q n : FVec Ideal S8x16x512 .bf16) (y : FVec Ideal S1x8x8x1024x64 .f32) (b h : Fin 8) (t : Fin 16) (s : Fin 1040) :
    scores q n y (ix4 b h t s) = ∑ d : Fin 64, q (ix3 b t ⟨64 * (h : ℕ) + d, by omega⟩) * keys n y (ix4 b h s d) := by
  pointwise [scores]
  refine Finset.sum_congr rfl fun d _ => ?_
  rw [heads_apply]
  rfl

theorem mixed_apply (w : FVec Ideal S8x8x16x1040 .f32) (n : FVec Ideal S8x16x512 .bf16) (y : FVec Ideal S1x8x8x1024x64 .f32)
    (b h : Fin 8) (t : Fin 16) (d : Fin 64) :
    mixed w n y (ix4 b h t d) = ∑ s : Fin 1040, w (ix4 b h t s) * keys n y (ix4 b h s d) := by
  pointwise [mixed]

theorem gated_apply (o : FVec Ideal S8x8x16x64 .f32) (g : FVec Ideal S8x16x512 .bf16) (b : Fin 8) (t : Fin 16) (l : Fin 512) :
    gated o g (ix3 b t l) = o (ix4 b ⟨(l : ℕ) / 64, by omega⟩ t ⟨(l : ℕ) % 64, by omega⟩) * g (ix3 b t l) := by
  pointwise [gated]

theorem zero_at : (id (constant S_ .f32 0#32 : FVec Ideal S_ .f32) : FVec Ideal S_ .f32) ix0 = (0 : EReal) := by
  show (constant S_ .f32 0#32 : FVec Ideal S_ .f32) ix0 = (0 : EReal)
  pointwise []

theorem kept_apply (z : FVec Ideal S8x8x16x1040 .f32) (b h : Fin 8) (t : Fin 16) (s : Fin 1040) :
    kept z (ix4 b h t s) = if (s : ℕ) < 1024 + t then Stick.keep (z (ix4 b h t s)) else 0 := by
  have e : kept z (ix4 b h t s) = if before (ix4 b h t s) = 1#1 then logistic (Host.negf (Host.negf z)) (ix4 b h t s) else 0 := by
    pointwise [kept, blank]
    exact congrArg (Scalar.select _ _) zero_at
  rw [e, before_apply, logistic_apply]
  have e2 : Host.negf (Host.negf z) (ix4 b h t s) = z (ix4 b h t s) := neg_neg (z (ix4 b h t s) : EReal)
  rw [e2]
  by_cases hc : (s : ℕ) < 1024 + t <;> simp [hc]

/-- Past the last key nothing is kept, so a sum may run to 2048. -/
theorem sum_kept (f : ℕ → EReal) (t : Fin 16) (s : ℕ) (hs : s ≤ 1040) :
    ∑ j ∈ Finset.Ico s 1040, Stick.K f (1024 + t) j = Stick.runAt f (1024 + t) s := by
  unfold Stick.runAt Stick.N
  rw [← Finset.sum_Ico_consecutive (Stick.K f (1024 + t)) hs (show 1040 ≤ 2048 by norm_num)]
  rw [Finset.sum_eq_zero (s := Finset.Ico 1040 2048), add_zero]
  intro j hj
  have := (Finset.mem_Ico.mp hj).1
  exact if_neg (by omega)

theorem weights_apply (z : FVec Ideal S8x8x16x1040 .f32) (b h : Fin 8) (t : Fin 16) (f : ℕ → EReal)
    (hf : ∀ s : Fin 1040, z (ix4 b h t s) = f s) (s : Fin 1040) :
    weights z (ix4 b h t s) = Stick.wt f (1024 + t) s := by
  have e : weights z (ix4 b h t s) = if before (ix4 b h t s) = 1#1
      then Ideal.exp (logistic (Host.negf z) (ix4 b h t s) + (running (kept z) (ix4 b h t s) - kept z (ix4 b h t s))) else 0 := by
    pointwise [weights, blank]
    exact congrArg (Scalar.select _ _) zero_at
  have hk : ∀ j : Fin 1040, kept z (ix4 b h t j) = Stick.K f (1024 + t) j := fun j => by
    rw [kept_apply, hf]; rfl
  have hr : running (kept z) (ix4 b h t s) = Stick.runAt f (1024 + t) s :=
    (DecSuffix.suffix_apply (kept z) _ (Stick.K f (1024 + t)) b h t s hk (fun i => by pointwise []) _ _).trans
      (sum_kept f t s (by omega))
  have hl : logistic (Host.negf z) (ix4 b h t s) = Stick.logSig (f s) := by
    rw [logistic_apply, ← hf]; rfl
  rw [e, before_apply, hk, hr, hl]
  unfold Stick.wt
  by_cases hc : (s : ℕ) < 1024 + t <;> simp [hc]

/-- THE REFERENCE AT AN INDEX: the row's attention, gated. -/
theorem whole_apply (q k v : FVec Ideal S8x16x512 .bf16) (kc vc : FVec Ideal S1x8x8x1024x64 .f32) (g : FVec Ideal S8x16x512 .bf16)
    (b : Fin 8) (t : Fin 16) (l : Fin 512) (f V : ℕ → EReal)
    (hf : ∀ s : Fin 1040, f s = ∑ d : Fin 64, q (ix3 b t ⟨64 * ((l : ℕ) / 64) + d, by omega⟩) * keys k kc (ix4 b ⟨(l : ℕ) / 64, by omega⟩ s d))
    (hV : ∀ s : Fin 1040, V s = keys v vc (ix4 b ⟨(l : ℕ) / 64, by omega⟩ s ⟨(l : ℕ) % 64, by omega⟩)) :
    whole q k v kc vc g (ix3 b t l) = Stick.out f (1024 + t) V * g (ix3 b t l) := by
  unfold whole
  rw [gated_apply, mixed_apply]
  refine congrArg (· * g (ix3 b t l)) ?_
  unfold Stick.out Stick.accAt Stick.N
  rw [← Finset.sum_Ico_consecutive (fun s => Stick.wt f (1024 + t) s * V s) (show 0 ≤ 1040 by norm_num) (show 1040 ≤ 2048 by norm_num)]
  rw [Finset.sum_eq_zero (s := Finset.Ico 1040 2048) fun j hj => ?_, add_zero, Nat.Ico_zero_eq_range,
    ← Fin.sum_univ_eq_sum_range (fun s => Stick.wt f (1024 + t) s * V s) 1040]
  · refine Finset.sum_congr rfl fun s _ => ?_
    rw [weights_apply _ _ _ _ f (fun s => (scores_apply q k kc b _ t s).trans (hf s).symm), hV]
  · have hj' := (Finset.mem_Ico.mp hj).1
    have hw : Stick.wt f (1024 + t) j = 0 := if_neg (by omega)
    rw [hw, zero_mul]

end Cert.Proof.DecRef

end
-- ==== Proof.DecTile.lean ====
/-
  One tile of the sample's attention kernel, read at an index: the sixteen new keys, where row `r` sees the new keys before
  its own, and a tile of 256 cached keys, which every row sees.
-/
module

public import proofs.«01_k».proof.Proof.Gen.DecodeIdeal.Value
public import proofs.«01_k».proof.Proof.Tile
public import Idealize.ShloMosaic.Lib.Pointwise

@[expose] public section

noncomputable section

namespace Cert.Proof.DecTile

open Idealize.ShloMosaic Cert.DecodeIdeal Cert.DecodeIdeal.Gen Cert.Proof.Stick
open Cert.Proof.Tile (slt_word sge_word select_ite)
open scoped BigOperators

/-- The triangle of ones over a cached tile, -/
theorem suffix_apply (r c : Fin 256) : k0_pay2 (F := Ideal) (ix2 r c) = if (c : ℕ) ≤ (r : ℕ) then 1 else 0 := by
  pointwise [k0_pay2]
  rw [sge_word _ _ (by omega) (by omega), select_ite]

/-- over the new keys, -/
theorem suffixNew_apply (r c : Fin 16) : k0_pay3 (F := Ideal) (ix2 r c) = if (c : ℕ) ≤ (r : ℕ) then 1 else 0 := by
  pointwise [k0_pay3]
  rw [sge_word _ _ (by omega) (by omega), select_ite]

/-- and the new keys' mask. -/
theorem mask_apply (r c : Fin 16) : k0_pay4 (ix2 r c) = if (c : ℕ) < (r : ℕ) then 1#1 else 0#1 := by
  pointwise [k0_pay4]
  rw [slt_word _ _ (by omega) (by omega)]

/-- The scores against cached keys, -/
theorem score_apply (q : FVec Ideal S16x64 .bf16) (k : Vec Ideal S1x1x1x256x64 .f32) (r : Fin 16) (c : Fin 256) :
    k0_pay41 (F := Ideal) q k (ix2 r c) = ∑ d : Fin 64, q (ix2 r d) * k (ix5 0 0 0 c d) := by
  pointwise [k0_pay41]

/-- and against new ones. -/
theorem scoreNew_apply (q : FVec Ideal S16x64 .bf16) (k : Vec Ideal S1x16x64 .bf16) (r c : Fin 16) :
    k0_pay37 (F := Ideal) q k (ix2 r c) = ∑ d : Fin 64, q (ix2 r d) * k (ix3 0 c d) := by
  pointwise [k0_pay37]

/-- The inclusive sums over a cached tile. -/
theorem incl_apply (q : FVec Ideal S16x64 .bf16) (k : Vec Ideal S1x1x1x256x64 .f32) (r : Fin 16) (c : Fin 256) :
    k0_pay42 (F := Ideal) k0_pay2 q k (ix2 r c)
      = ∑ s : Fin 256, if (c : ℕ) ≤ (s : ℕ) then keep (k0_pay41 (F := Ideal) q k (ix2 r s)) else 0 := by
  rw [← split_suffix (fun s => keep (k0_pay41 (F := Ideal) q k (ix2 r s))) (fun s => k0_pay2 (F := Ideal) (ix2 s c)) c
    (fun s => keep_ne_top _) (fun s => suffix_apply s c)]
  pointwise [k0_pay42]
  rfl

/-- The inclusive sums over the new keys. -/
theorem inclNew_apply (q : FVec Ideal S16x64 .bf16) (k : Vec Ideal S1x16x64 .bf16) (r c : Fin 16) :
    k0_pay38 (F := Ideal) k0_pay3 k0_pay4 q k (ix2 r c)
      = ∑ s : Fin 16, if (c : ℕ) ≤ (s : ℕ) then (if (s : ℕ) < (r : ℕ) then keep (k0_pay37 (F := Ideal) q k (ix2 r s)) else 0) else 0 := by
  rw [← split_suffix (fun s : Fin 16 => if (s : ℕ) < (r : ℕ) then keep (k0_pay37 (F := Ideal) q k (ix2 r s)) else 0)
    (fun s => k0_pay3 (F := Ideal) (ix2 s c)) c
    (fun s => by
      split
      · exact keep_ne_top _
      · exact EReal.zero_ne_top) (fun s => suffixNew_apply s c)]
  pointwise [k0_pay38]
  simp only [mask_apply, select_ite, ite_mul, zero_mul]
  rfl

variable (z : Fin 16 → ℕ → EReal) (V : Fin 64 → ℕ → EReal) (t : Fin 16 → ℕ) (a : ℕ)

/-- A CACHED TILE: every key of it comes before every query row. -/
theorem cached (ha : a + 256 ≤ N) (ht : ∀ r, a + 256 ≤ t r)
    (q : FVec Ideal S16x64 .bf16) (k v : Vec Ideal S1x1x1x256x64 .f32)
    (run : FVec Ideal S16x1 .f32) (acc : FVec Ideal S16x64 .f32)
    (hz : ∀ r c, k0_pay41 (F := Ideal) q k (ix2 r c) = z r (a + c))
    (hv : ∀ c d, v (ix5 0 0 0 c d) = V d (a + c))
    (hrun : ∀ r, run (ix2 r 0) = runAt (z r) (t r) (a + 256))
    (hacc : ∀ r d, acc (ix2 r d) = accAt (z r) (t r) (V d) (a + 256)) :
    (∀ r, k0_pay44 (F := Ideal) k0_pay2 q run k (ix2 r 0) = runAt (z r) (t r) a)
      ∧ ∀ r d, k0_pay43 (F := Ideal) k0_pay2 q acc run k v (ix2 r d) = accAt (z r) (t r) (V d) a := by
  have key : ∀ r d, _ := fun r d => tile (w := 256) (z r) (t r) (V d) a ha (run (ix2 r 0)) (acc (ix2 r d)) (hrun r) (hacc r d)
    (fun c => k0_pay42 (F := Ideal) k0_pay2 q k (ix2 r c))
    (fun s => Ideal.exp (k0_pay41 (F := Ideal) q k (ix2 r s) + k0_pay42 (F := Ideal) k0_pay2 q k (ix2 r s) + run (ix2 r 0)))
    (fun s => v (ix5 0 0 0 s d))
    (fun c => by
      rw [incl_apply]
      refine Finset.sum_congr rfl fun s _ => ?_
      rw [hz, K, if_pos (show a + (s : ℕ) < t r by have := ht r; omega)])
    (fun s => by rw [hz, if_pos (show a + (s : ℕ) < t r by have := ht r; omega)])
    (fun s => hv s d)
  refine ⟨fun r => ?_, fun r d => ?_⟩
  · rw [← (key r 0).1]
    pointwise [k0_pay44]
  · rw [← (key r d).2]
    pointwise [k0_pay43]

/-- THE NEW KEYS: row `r` sees those before its own. -/
theorem fresh (ha : a + 16 ≤ N) (ht : ∀ r : Fin 16, t r = a + r)
    (q : FVec Ideal S16x64 .bf16) (k v : Vec Ideal S1x16x64 .bf16)
    (hz : ∀ r c, k0_pay37 (F := Ideal) q k (ix2 r c) = z r (a + c))
    (hv : ∀ c d, v (ix3 0 c d) = V d (a + c)) :
    (∀ r, k0_pay40 (F := Ideal) k0_pay3 k0_pay4 q k (ix2 r 0) = runAt (z r) (t r) a)
      ∧ ∀ r d, k0_pay39 (F := Ideal) k0_pay3 k0_pay4 q k v (ix2 r d) = accAt (z r) (t r) (V d) a := by
  have key : ∀ r d, _ := fun r d => tile (w := 16) (z r) (t r) (V d) a ha 0 0
    (runAt_of_le (z r) (t r) (a + 16) (by rw [ht]; omega)).symm (accAt_of_le (z r) (t r) (V d) (a + 16) (by rw [ht]; omega)).symm
    (fun c => k0_pay38 (F := Ideal) k0_pay3 k0_pay4 q k (ix2 r c))
    (fun s => if (s : ℕ) < (r : ℕ) then Ideal.exp (k0_pay37 (F := Ideal) q k (ix2 r s)
      + k0_pay38 (F := Ideal) k0_pay3 k0_pay4 q k (ix2 r s) + 0) else 0)
    (fun s => v (ix3 0 s d))
    (fun c => by
      rw [inclNew_apply]
      refine Finset.sum_congr rfl fun s _ => ?_
      rw [hz, K, ht]
      simp only [Nat.add_lt_add_iff_left])
    (fun s => by rw [hz, ht]; simp only [Nat.add_lt_add_iff_left])
    (fun s => hv s d)
  refine ⟨fun r => ?_, fun r d => ?_⟩
  · rw [← (key r 0).1]
    pointwise [k0_pay40, k0_pay36]
  · rw [← (key r d).2]
    pointwise [k0_pay39, k0_pay36]
    refine Finset.sum_congr rfl fun s _ => ?_
    rw [mask_apply, select_ite]
    split <;> simp

end Cert.Proof.DecTile

end
-- ==== Proof.DecBlock.lean ====
/-
  The sample's attention kernel's block: the two heads of a grid point, each the new keys followed by the four tiles of
  cached keys from the last back to the first, and what the body leaves in its output block.
-/
module

public import proofs.«01_k».proof.Proof.DecTile
public import proofs.«01_k».proof.Proof.Block

@[expose] public section

noncomputable section

namespace Cert.Proof.DecBlock

open Idealize.ShloMosaic Cert.DecodeIdeal Cert.DecodeIdeal.Gen Cert.Proof.Stick Cert.Proof.DecTile
open Cert.Proof.Block (lane hz3)
open scoped BigOperators

/-- A head's state: the sum of the logarithms and the weighted sum of the values so far. -/
abbrev St := FVec Ideal S16x1 .f32 × FVec Ideal S16x64 .f32

/-- The state after the new keys, -/
def first (q k v : Vec Ideal S1x16x64 .bf16) : St :=
  (k0_pay40 k0_pay3 k0_pay4 (k0_pay35 q) k, k0_pay39 k0_pay3 k0_pay4 (k0_pay35 q) k v)

/-- and after one more tile of cached keys. -/
def next (q : Vec Ideal S1x16x64 .bf16) (st : St) (k v : Vec Ideal S1x1x1x256x64 .f32) : St :=
  (k0_pay44 k0_pay2 (k0_pay35 q) st.1 k, k0_pay43 k0_pay2 (k0_pay35 q) st.2 st.1 k v)

/-- The two heads side by side, times the gate. -/
def gated (A B : FVec Ideal S16x64 .f32) (g : Vec Ideal S1x16x128 .bf16) : FVec Ideal S1x16x128 .bf16 :=
  shapeCast S1x16x128 (truncf .bf16 (mulf (concatenate S16x128 1 [⟨S16x64, A⟩, ⟨S16x64, B⟩] concatenates_S16x64_S16x64_S16x128_d1)
    (extf .f32 (shapeCast S16x128 g shapeCasts_S1x16x128_S16x128) bitsLt_bf16_f32)) bitsLt_bf16_f32) shapeCasts_S16x128_S1x16x128

theorem gated_apply (A B : FVec Ideal S16x64 .f32) (g : Vec Ideal S1x16x128 .bf16) (r : Fin 16) (l : Fin 128) :
    gated A B g (ix3 0 r l)
      = (if h : (l : ℕ) < 64 then A (ix2 r ⟨l, h⟩) else B (ix2 r ⟨l - 64, by omega⟩)) * g (ix3 0 r l) := by
  pointwise [gated]

/-- The body's result: each head's state after the new keys and the cached tiles three, two, one and none. -/
theorem out_eq (x0 x1 x2 : Vec Ideal S1x16x128 .bf16) (x3 x4 : Vec Ideal S1x1x2x1024x64 .f32) (x5 : Vec Ideal S1x16x128 .bf16) :
    out0_6 (F := Ideal) x0 x1 x2 x3 x4 x5 = View.canon [⟨r0_10, gated
      (next (View.ld x0 r0_0) (next (View.ld x0 r0_0) (next (View.ld x0 r0_0) (next (View.ld x0 r0_0)
        (first (View.ld x0 r0_0) (View.ld x1 r0_0) (View.ld x2 r0_0))
        (View.ld x3 r0_1) (View.ld x4 r0_1)) (View.ld x3 r0_2) (View.ld x4 r0_2)) (View.ld x3 r0_3) (View.ld x4 r0_3))
        (View.ld x3 r0_4) (View.ld x4 r0_4)).2
      (next (View.ld x0 r0_5) (next (View.ld x0 r0_5) (next (View.ld x0 r0_5) (next (View.ld x0 r0_5)
        (first (View.ld x0 r0_5) (View.ld x1 r0_5) (View.ld x2 r0_5))
        (View.ld x3 r0_6) (View.ld x4 r0_6)) (View.ld x3 r0_7) (View.ld x4 r0_7)) (View.ld x3 r0_8) (View.ld x4 r0_8))
        (View.ld x3 r0_9) (View.ld x4 r0_9)).2
      (View.ld x5 r0_10)⟩] := by
  unfold_out out0_6
  rfl

/-- Key (or value) `s` of a head, at dimension `d`: a cached one, and from the 1024th on a new one. -/
def keyAt (x : Vec Ideal S1x16x128 .bf16) (y : Vec Ideal S1x1x2x1024x64 .f32) (hh : Fin 2) (s : ℕ) (d : Fin 64) : EReal :=
  if h : s < 1024 then y (ix5 0 0 hh ⟨s, h⟩ d) else x (ix3 0 ⟨(s - 1024) % 16, Nat.mod_lt _ (by norm_num)⟩ (lane hh d))

theorem keyAt_cached (x : Vec Ideal S1x16x128 .bf16) (y : Vec Ideal S1x1x2x1024x64 .f32) (hh : Fin 2) (s : ℕ) (h : s < 1024)
    (d : Fin 64) : keyAt x y hh s d = y (ix5 0 0 hh ⟨s, h⟩ d) := dif_pos h

theorem keyAt_new (x : Vec Ideal S1x16x128 .bf16) (y : Vec Ideal S1x1x2x1024x64 .f32) (hh : Fin 2) (c : Fin 16)
    (d : Fin 64) : keyAt x y hh (1024 + c) d = x (ix3 0 c (lane hh d)) := by
  have e : (⟨(1024 + (c : ℕ) - 1024) % 16, Nat.mod_lt _ (by norm_num)⟩ : Fin 16) = c := Fin.ext (by show (1024 + (c : ℕ) - 1024) % 16 = c; omega)
  unfold keyAt
  rw [dif_neg (by omega), e]

/-- A query row's scores, -/
def zrow (x0 x1 : Vec Ideal S1x16x128 .bf16) (x3 : Vec Ideal S1x1x2x1024x64 .f32) (hh : Fin 2) (r : Fin 16) (s : ℕ) : EReal :=
  ∑ d : Fin 64, x0 (ix3 0 r (lane hh d)) * keyAt x1 x3 hh s d
/-- and its position. -/
def qpos (r : Fin 16) : ℕ := 1024 + r

/-- A load of a head's lanes of sixteen rows, -/
theorem ldRows (x : Vec Ideal S1x16x128 .bf16) (off : Fin 3 → ℕ) (hh : Fin 2) (hoff : off = ![0, 0, 64 * (hh : ℕ)])
    (h : ∀ a, off a + S1x16x64.size a ≤ S1x16x128.size a) (r : Fin 16) (d : Fin 64) :
    View.ld x (Rect.unit (s := S1x16x128) off S1x16x64.size h) (ix3 0 r d) = x (ix3 0 r (lane hh d)) := by
  subst hoff
  pointwise []
  congr 1

/-- and of one tile of a head's cache. -/
theorem ldCache (y : Vec Ideal S1x1x2x1024x64 .f32) (off : Fin 5 → ℕ) (j : ℕ) (hj : j < 4) (hh : Fin 2)
    (hoff : off = ![0, 0, (hh : ℕ), 256 * j, 0]) (h : ∀ a, off a + S1x1x1x256x64.size a ≤ S1x1x2x1024x64.size a) (c : Fin 256) (d : Fin 64) :
    View.ld y (Rect.unit (s := S1x1x2x1024x64) off S1x1x1x256x64.size h) (ix5 0 0 0 c d) = y (ix5 0 0 hh ⟨256 * j + c, by omega⟩ d) := by
  subst hoff
  pointwise []

theorem query_apply (q : Vec Ideal S1x16x64 .bf16) (r : Fin 16) (d : Fin 64) : k0_pay35 (F := Ideal) q (ix2 r d) = q (ix3 0 r d) := by
  pointwise [k0_pay35]

section Heads

variable (x0 x1 x2 : Vec Ideal S1x16x128 .bf16) (x3 x4 : Vec Ideal S1x1x2x1024x64 .f32)

/-- What a head's state holds when the keys from `a` on have been visited. -/
def Holds (hh : Fin 2) (a : ℕ) (st : St) : Prop :=
  (∀ r, st.1 (ix2 r 0) = runAt (zrow x0 x1 x3 hh r) (qpos r) a)
    ∧ ∀ r d, st.2 (ix2 r d) = accAt (zrow x0 x1 x3 hh r) (qpos r) (fun s => keyAt x2 x4 hh s d) a

theorem first_holds (hh : Fin 2) (off : Fin 3 → ℕ) (hoff : off = ![0, 0, 64 * (hh : ℕ)])
    (h : ∀ a, off a + S1x16x64.size a ≤ S1x16x128.size a) :
    Holds x0 x1 x2 x3 x4 hh 1024 (first (View.ld x0 (Rect.unit (s := S1x16x128) off S1x16x64.size h))
      (View.ld x1 (Rect.unit (s := S1x16x128) off S1x16x64.size h)) (View.ld x2 (Rect.unit (s := S1x16x128) off S1x16x64.size h))) := by
  refine fresh (zrow x0 x1 x3 hh) (fun d s => keyAt x2 x4 hh s d) qpos 1024 (by show _ ≤ 2048; omega) (fun r => rfl) _ _ _
    (fun r c => ?_) (fun c d => ?_)
  · rw [scoreNew_apply]
    unfold zrow
    refine Finset.sum_congr rfl fun d _ => ?_
    rw [query_apply, ldRows x0 off hh hoff, ldRows x1 off hh hoff, keyAt_new]
  · rw [ldRows x2 off hh hoff, keyAt_new]

theorem next_holds (hh : Fin 2) (j : ℕ) (hj : j < 4) (off : Fin 3 → ℕ) (hoff : off = ![0, 0, 64 * (hh : ℕ)])
    (h : ∀ a, off a + S1x16x64.size a ≤ S1x16x128.size a) (ofc : Fin 5 → ℕ) (hofc : ofc = ![0, 0, (hh : ℕ), 256 * j, 0])
    (hc : ∀ a, ofc a + S1x1x1x256x64.size a ≤ S1x1x2x1024x64.size a) (st : St)
    (hst : Holds x0 x1 x2 x3 x4 hh (256 * j + 256) st) :
    Holds x0 x1 x2 x3 x4 hh (256 * j) (next (View.ld x0 (Rect.unit (s := S1x16x128) off S1x16x64.size h)) st
      (View.ld x3 (Rect.unit (s := S1x1x2x1024x64) ofc S1x1x1x256x64.size hc)) (View.ld x4 (Rect.unit (s := S1x1x2x1024x64) ofc S1x1x1x256x64.size hc))) := by
  refine cached (zrow x0 x1 x3 hh) (fun d s => keyAt x2 x4 hh s d) qpos (256 * j) (by show _ ≤ 2048; omega)
    (fun r => by unfold qpos; omega) _ _ _ st.1 st.2 (fun r c => ?_) (fun c d => ?_) hst.1 hst.2
  · rw [score_apply]
    unfold zrow
    refine Finset.sum_congr rfl fun d _ => ?_
    rw [query_apply, ldRows x0 off hh hoff, ldCache x3 ofc j hj hh hofc, keyAt_cached _ _ _ _ (by omega)]
  · rw [ldCache x4 ofc j hj hh hofc, keyAt_cached _ _ _ _ (by omega)]

end Heads

/-- THE BLOCK: what the body leaves at row `r` and lane `d` of head `hh` is the row's attention times the gate. -/
theorem out_apply (x0 x1 x2 : Vec Ideal S1x16x128 .bf16) (x3 x4 : Vec Ideal S1x1x2x1024x64 .f32) (x5 : Vec Ideal S1x16x128 .bf16)
    (r : Fin 16) (hh : Fin 2) (d : Fin 64) :
    out0_6 (F := Ideal) x0 x1 x2 x3 x4 x5 (ix3 0 r (lane hh d))
      = Stick.out (zrow x0 x1 x3 hh r) (qpos r) (fun s => keyAt x2 x4 hh s d) * x5 (ix3 0 r (lane hh d)) := by
  rw [out_eq, View.canon_unit_zero hz3, gated_apply, View.ld_unit_zero hz3]
  refine congrArg (· * x5 (ix3 0 r (lane hh d))) ?_
  obtain rfl | rfl : hh = 0 ∨ hh = 1 := by omega
  · have e : ((lane 0 d : Fin 128) : ℕ) < 64 := by show 64 * 0 + (d : ℕ) < 64; omega
    have ed : (⟨((lane 0 d : Fin 128) : ℕ), e⟩ : Fin 64) = d := Fin.ext (by show 64 * 0 + (d : ℕ) = d; omega)
    refine (dif_pos e).trans ?_
    rw [ed]
    exact (next_holds x0 x1 x2 x3 x4 0 0 (by omega) _ rfl _ _ rfl _ _ (next_holds x0 x1 x2 x3 x4 0 1 (by omega) _ rfl _ _ rfl _ _
      (next_holds x0 x1 x2 x3 x4 0 2 (by omega) _ rfl _ _ rfl _ _ (next_holds x0 x1 x2 x3 x4 0 3 (by omega) _ rfl _ _ rfl _ _
      (first_holds x0 x1 x2 x3 x4 0 _ rfl _))))).2 r d
  · have e : ¬ ((lane 1 d : Fin 128) : ℕ) < 64 := by show ¬ (64 * 1 + (d : ℕ) < 64); omega
    have ed : ∀ h, (⟨((lane 1 d : Fin 128) : ℕ) - 64, h⟩ : Fin 64) = d := fun h => Fin.ext (by show 64 * 1 + (d : ℕ) - 64 = d; omega)
    refine (dif_neg e).trans ?_
    rw [ed]
    exact (next_holds x0 x1 x2 x3 x4 1 0 (by omega) _ rfl _ _ rfl _ _ (next_holds x0 x1 x2 x3 x4 1 1 (by omega) _ rfl _ _ rfl _ _
      (next_holds x0 x1 x2 x3 x4 1 2 (by omega) _ rfl _ _ rfl _ _ (next_holds x0 x1 x2 x3 x4 1 3 (by omega) _ rfl _ _ rfl _ _
      (first_holds x0 x1 x2 x3 x4 1 _ rfl _))))).2 r d

end Cert.Proof.DecBlock

end
-- ==== Proof.DecArray.lean ====
/-
  THE SAMPLE'S ATTENTION ARRAY: the blocks of the launch put together. Every element is the attention of its row and head
  over the cached keys followed by the new ones, times the gate at the same place.
-/
module

public import proofs.«01_k».proof.Proof.DecBlock
public import proofs.«01_k».proof.Proof.Array
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.DecArray

open Cert.DecodeIdeal Cert.DecodeIdeal.Gen Cert.Proof.DecBlock
open Cert.Proof.Block (lane)
open Cert.Proof.Array (mate)

/-- Key (or value) `s` of batch `b` at lane `l`: a cached one, and from the 1024th on a new one. -/
def past (x : FVec Ideal S8x16x512 .bf16) (y : FVec Ideal S1x8x8x1024x64 .f32) (b : Fin 8) (l : Fin 512) (s : ℕ) : EReal :=
  if h : s < 1024 then y (ix5 0 b ⟨(l : ℕ) / 64, by omega⟩ ⟨s, h⟩ ⟨(l : ℕ) % 64, by omega⟩)
  else x (ix3 b ⟨(s - 1024) % 16, Nat.mod_lt _ (by norm_num)⟩ l)

/-- The score of query row `t` against key `s`, in batch `b` and the head of lane `l`. -/
def score (Q K : FVec Ideal S8x16x512 .bf16) (C : FVec Ideal S1x8x8x1024x64 .f32) (b : Fin 8) (t : Fin 16) (l : Fin 512)
    (s : ℕ) : EReal :=
  ∑ d : Fin 64, Q (ix3 b t (mate l d)) * past K C b (mate l d) s

/-- The attention of row `t` at lane `l`, gated. -/
def attend (Q K W : FVec Ideal S8x16x512 .bf16) (C D : FVec Ideal S1x8x8x1024x64 .f32) (g : FVec Ideal S8x16x512 .bf16)
    (b : Fin 8) (t : Fin 16) (l : Fin 512) : EReal :=
  Stick.out (score Q K C b t l) (1024 + t) (past W D b l) * g (ix3 b t l)

/-- The whole result array. -/
def result (Q K W : FVec Ideal S8x16x512 .bf16) (C D : FVec Ideal S1x8x8x1024x64 .f32) (g : FVec Ideal S8x16x512 .bf16) :
    FVec Ideal S8x16x512 .bf16 := fun i => attend Q K W C D g (i 0) (i 1) (i 2)

variable (m : (ℓ : Loc nD τ sig) → Buf (Elt Ideal) ℓ)

/-- The blocks each point is given, in its two coordinates. -/
theorem idx : ∀ t : Fin cfg0.N,
    win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![0, (grid0.coords t 0).val, (grid0.coords t 1).val, 0, 0]
    ∧ win0_4.index t = ![0, (grid0.coords t 0).val, (grid0.coords t 1).val, 0, 0]
    ∧ win0_5.index t = ![(grid0.coords t 0).val, 0, (grid0.coords t 1).val]
    ∧ win0_6.index t = ![(grid0.coords t 0).val, 0, (grid0.coords t 1).val] :=
  (by decide +kernel : ∀ t : Fin grid0.N, _)

abbrev argQ (c : Dev nD) : FVec Ideal S8x16x512 .bf16 := m ((c : Thread nD τ).loc main_arg0)
abbrev argK (c : Dev nD) : FVec Ideal S8x16x512 .bf16 := m ((c : Thread nD τ).loc main_arg1)
abbrev argV (c : Dev nD) : FVec Ideal S8x16x512 .bf16 := m ((c : Thread nD τ).loc main_arg2)
abbrev argC (c : Dev nD) : FVec Ideal S1x8x8x1024x64 .f32 := m ((c : Thread nD τ).loc main_arg3)
abbrev argD (c : Dev nD) : FVec Ideal S1x8x8x1024x64 .f32 := m ((c : Thread nD τ).loc main_arg4)
abbrev argG (c : Dev nD) : FVec Ideal S8x16x512 .bf16 := m ((c : Thread nD τ).loc main_arg5)

section Blocks

variable (c : Dev nD) (t : Fin cfg0.N) (b : Fin 8) (hb : (b : ℕ) = (grid0.coords t 0).val)

/-- The keys of a block are the keys of its batch and heads, -/
theorem keys (hh : Fin 2) (d : Fin 64) (l : Fin 512) (hl : (l : ℕ) = 128 * (grid0.coords t 1).val + 64 * (hh : ℕ) + d) (s : ℕ)
    (hb : (b : ℕ) = (grid0.coords t 0).val) :
    keyAt (iblk m c 1 t) (iblk m c 3 t) hh s d = past (argK m c) (argC m c) b l s := by
  have hn : ((lane hh d : Fin 128) : ℕ) = 64 * (hh : ℕ) + d := rfl
  unfold keyAt past
  split
  · rename_i h
    blk_ext [iblk, V, idx t]
  · generalize (⟨(s - 1024) % 16, Nat.mod_lt _ (by norm_num)⟩ : Fin 16) = r
    generalize lane hh d = l'' at hn ⊢
    blk_ext [iblk, V, idx t]

/-- and the values its values. -/
theorem values (hh : Fin 2) (d : Fin 64) (l : Fin 512) (hl : (l : ℕ) = 128 * (grid0.coords t 1).val + 64 * (hh : ℕ) + d) (s : ℕ)
    (hb : (b : ℕ) = (grid0.coords t 0).val) :
    keyAt (iblk m c 2 t) (iblk m c 4 t) hh s d = past (argV m c) (argD m c) b l s := by
  have hn : ((lane hh d : Fin 128) : ℕ) = 64 * (hh : ℕ) + d := rfl
  unfold keyAt past
  split
  · rename_i h
    blk_ext [iblk, V, idx t]
  · generalize (⟨(s - 1024) % 16, Nat.mod_lt _ (by norm_num)⟩ : Fin 16) = r
    generalize lane hh d = l'' at hn ⊢
    blk_ext [iblk, V, idx t]

end Blocks

theorem point (c : Dev nD) (t : Fin cfg0.N) (r : Fin 16) (hh : Fin 2) (d : Fin 64) (b : Fin 8) (u : Fin 16) (l : Fin 512)
    (hb : (b : ℕ) = (grid0.coords t 0).val) (hu : u = r)
    (hl : (l : ℕ) = 128 * (grid0.coords t 1).val + 64 * (hh : ℕ) + d) :
    Stick.out (zrow (iblk m c 0 t) (iblk m c 1 t) (iblk m c 3 t) hh r) (qpos r) (fun s => keyAt (iblk m c 2 t) (iblk m c 4 t) hh s d)
        * (iblk m c 5 t : Vec Ideal S1x16x128 .bf16) (ix3 0 r (lane hh d))
      = attend (argQ m c) (argK m c) (argV m c) (argC m c) (argD m c) (argG m c) b u l := by
  subst hu
  have hz : zrow (iblk m c 0 t) (iblk m c 1 t) (iblk m c 3 t) hh u = score (argQ m c) (argK m c) (argC m c) b u l := by
    funext s
    unfold zrow score
    refine Finset.sum_congr rfl fun e _ => ?_
    have hm : ((mate l e : Fin 512) : ℕ) = 128 * (grid0.coords t 1).val + 64 * (hh : ℕ) + e := by
      show 64 * ((l : ℕ) / 64) + (e : ℕ) = _; omega
    rw [keys m c t b hh e (mate l e) hm s hb]
    have hn : ((lane hh e : Fin 128) : ℕ) = 64 * (hh : ℕ) + e := rfl
    generalize mate l e = l' at hm ⊢
    generalize lane hh e = l'' at hn ⊢
    congr 1
    blk_ext [iblk, V, idx t]
  have hv : (fun s => keyAt (iblk m c 2 t) (iblk m c 4 t) hh s d) = past (argV m c) (argD m c) b l :=
    funext fun s => values m c t b hh d l hl s hb
  have hg : (iblk m c 5 t : Vec Ideal S1x16x128 .bf16) (ix3 0 u (lane hh d)) = argG m c (ix3 b u l) := by
    have hn : ((lane hh d : Fin 128) : ℕ) = 64 * (hh : ℕ) + d := rfl
    generalize lane hh d = l'' at hn ⊢
    blk_ext [iblk, V, idx t]
  unfold attend
  rw [hz, hv, hg]
  rfl

theorem final (c : Dev nD) : (dats m 0 c).arrAt 6 (cfgs 0).N
    = result (argQ m c) (argK m c) (argV m c) (argC m c) (argD m c) (argG m c) := by
  refine (dats m 0 c).arrAt_eq_of_covers 6 _ (by decide +kernel) fun t _ y => ?_
  blk_simp
  rw [after0_6]
  have e6 := congrFun (idx t).2.2.2.2.2.2
  have h0 : (y 0 : ℕ) < 1 := (y 0).isLt
  have h1 : (y 1 : ℕ) < 16 := (y 1).isLt
  have h2 : (y 2 : ℕ) < 128 := (y 2).isLt
  obtain ⟨r, hr⟩ : ∃ r : Fin 16, (r : ℕ) = y 1 := ⟨⟨_, h1⟩, rfl⟩
  obtain ⟨hh, d, hd⟩ : ∃ (hh : Fin 2) (d : Fin 64), 64 * (hh : ℕ) + d = y 2 :=
    ⟨⟨(y 2 : ℕ) / 64, by omega⟩, ⟨(y 2 : ℕ) % 64, by omega⟩, by show 64 * ((y 2 : ℕ) / 64) + (y 2 : ℕ) % 64 = _; omega⟩
  have hy : y = (ix3 0 r (lane hh d) : S1x16x128.Idx) := by
    funext a
    apply Fin.ext
    match a with
    | ⟨0, _⟩ => show (y 0 : ℕ) = 0; omega
    | ⟨1, _⟩ => exact hr.symm
    | ⟨2, _⟩ => exact hd.symm
  refine (congrArg (out0_6 (iblk m c 0 t) (iblk m c 1 t) (iblk m c 2 t) (iblk m c 3 t) (iblk m c 4 t) (iblk m c 5 t)) hy).trans
    ((out_apply (iblk m c 0 t) (iblk m c 1 t) (iblk m c 2 t) (iblk m c 3 t) (iblk m c 4 t) (iblk m c 5 t) _ _ _).trans
      (point m c t r hh d _ _ _ ?_ (Fin.ext ?_) ?_))
  · blk_simp [idx t]; (try omega)
  · blk_simp [idx t]; (try omega)
  · blk_simp [idx t]; omega

end Cert.Proof.DecArray

end
-- ==== Proof.DecClaim.lean ====
/-
  The attention of the sample: kernel and reference leave the same array.
-/
module

public import proofs.«01_k».proof.Proof.DecRef
public import proofs.«01_k».proof.Proof.DecArray
public import proofs.«01_k».proof.Defs
public import Idealize.ShloMosaic.Adequacy
public import Idealize.ShloMosaic.Init

@[expose] public section

set_option maxRecDepth 16384

noncomputable section

namespace Cert.Proof.DecClaim

open Idealize.ShloMosaic Idealize.SL.Sem
open Cert.DecodeIdeal
open scoped BigOperators

/-- Both sides read the same keys. -/
theorem keys_past (n : FVec Ideal Cert.DecodeReferenceIdeal.S8x16x512 .bf16)
    (y : FVec Ideal Cert.DecodeReferenceIdeal.S1x8x8x1024x64 .f32) (b : Fin 8) (l : Fin 512) (s : Fin 1040) :
    DecArray.past n y b l s = DecRef.keys n y (ix4 b ⟨(l : ℕ) / 64, by omega⟩ s ⟨(l : ℕ) % 64, by omega⟩) := by
  rw [DecRef.keys_apply]
  unfold DecArray.past
  by_cases h : (s : ℕ) < 1024
  · rw [dif_pos h, dif_pos h]
  · rw [dif_neg h, dif_neg h]
    have h1 : (⟨((s : ℕ) - 1024) % 16, Nat.mod_lt _ (by norm_num)⟩ : Fin 16) = ⟨(s : ℕ) - 1024, by omega⟩ :=
      Fin.ext (Nat.mod_eq_of_lt (show (s : ℕ) - 1024 < 16 by omega))
    have h2 : (⟨64 * ((l : ℕ) / 64) + (l : ℕ) % 64, by omega⟩ : Fin 512) = l := Fin.ext (Nat.div_add_mod (l : ℕ) 64)
    rw [h1]
    exact (congrArg (fun a => n (ix3 b ⟨(s : ℕ) - 1024, by omega⟩ a)) h2).symm

/-- The reference's term and the kernel's array, of the same queries, keys, values and gate. -/
theorem whole_eq (q k v : FVec Ideal Cert.DecodeReferenceIdeal.S8x16x512 .bf16)
    (kc vc : FVec Ideal Cert.DecodeReferenceIdeal.S1x8x8x1024x64 .f32) (g : FVec Ideal Cert.DecodeReferenceIdeal.S8x16x512 .bf16) :
    DecRef.whole q k v kc vc g = DecArray.result q k v kc vc g := by
  funext i
  obtain ⟨b, t, l, rfl⟩ : ∃ (b : Fin 8) (t : Fin 16) (l : Fin 512), i = ix3 b t l :=
    ⟨i 0, i 1, i 2, funext fun a => by fin_cases a <;> rfl⟩
  refine DecRef.whole_apply q k v kc vc g b t l (DecArray.score q k kc b t l) (DecArray.past v vc b l) (fun s => ?_)
    fun s => keys_past v vc b l s
  unfold DecArray.score
  refine Finset.sum_congr rfl fun d _ => ?_
  rw [keys_past]
  have h1 : ((Array.mate l d : Fin 512) : ℕ) / 64 = (l : ℕ) / 64 := by
    show (64 * ((l : ℕ) / 64) + (d : ℕ)) / 64 = (l : ℕ) / 64; omega
  have h2 : ((Array.mate l d : Fin 512) : ℕ) % 64 = d := by
    show (64 * ((l : ℕ) / 64) + (d : ℕ)) % 64 = d; omega
  have e1 : (⟨((Array.mate l d : Fin 512) : ℕ) / 64, by omega⟩ : Fin 8) = ⟨(l : ℕ) / 64, by omega⟩ := Fin.ext h1
  have e2 : (⟨((Array.mate l d : Fin 512) : ℕ) % 64, by omega⟩ : Fin 64) = d := Fin.ext h2
  rw [e1, e2]
  rfl

/-- The reference ends, keeps its arguments and leaves every counter at zero. -/
theorem reference_frame : Cert.quiescent_DecodeReferenceIdeal := fun m ρ _ =>
  (θ_run Cert.DecodeReferenceIdeal.defs _ _).mono
    (fun r h => ⟨fun c => (h c).2, Idealize.ShloMosaic.sem_eq_zero_of_no_sems (by decide) r.2⟩)
    (Cert.DecodeReferenceIdeal.Value.run (F := Ideal) m ρ)

set_option maxHeartbeats 4000000 in
/-- From the same arguments kernel and reference leave the same array. -/
theorem same : Cert.algebraic_DecodeIdeal_DecodeReferenceIdeal := by
  pair_intro
  · run_from Cert.DecodeIdeal.Value.run_blocks m g
  · run_from Cert.DecodeReferenceIdeal.Value.run m' g'
    refine (DecRef.result_eq m' c).trans ?_
    rw [(hagree c).1, (hagree c).2.1, (hagree c).2.2.1, (hagree c).2.2.2.1, (hagree c).2.2.2.2.1, (hagree c).2.2.2.2.2]
    exact (whole_eq _ _ _ _ _ _).trans (DecArray.final m c).symm

end Cert.Proof.DecClaim

end
-- ==== Proof.RecPays.lean ====
/-
  THE RECURRENCE KERNEL'S TERMS FOR THE STATE, read at an index: the logarithms of the forgetting gates, their sums by the
  rows of a table of zeros and ones, the decayed inputs and a head's new state.
-/
module

public import proofs.«01_k».proof.Proof.Gen.RecurrenceSampleIdeal.Frame
public import Idealize.ShloMosaic.Lib.Pipeline.ValueKit
public import Idealize.ShloMosaic.Lib.Pointwise

@[expose] public section

set_option maxRecDepth 16384

noncomputable section

namespace Cert.Proof.RecPays

open Idealize.ShloMosaic Idealize.ShloMosaic.TcCoe
open Cert.RecurrenceSampleIdeal Cert.RecurrenceSampleIdeal.Gen
open scoped BigOperators

/-- A lane of a head. -/
def lane (h : Fin 4) (d : Fin 128) : Fin 512 := ⟨128 * (h : ℕ) + d, by omega⟩

/-- The sum of a column `g` by a row of the table, made of the three parts each number is cut into. -/
def parts (row g : Fin 16 → EReal) : EReal :=
  (∑ j, row j * g j) + (∑ j, row j * (g j - g j)) + (∑ j, row j * ((g j - g j) - (g j - g j)))

/-- The three parts of a column of logarithms, side by side. -/
theorem split0 (g : FVec Ideal S16x512 .f32) (j : Fin 16) (l : Fin 512) (hl : (l : ℕ) < 1536) :
    k0_pay16 g (ix2 j ⟨l, hl⟩) = g (ix2 j l) := by
  pointwise [k0_pay16]

theorem split1 (g : FVec Ideal S16x512 .f32) (j : Fin 16) (l : Fin 512) (hl : 512 + (l : ℕ) < 1536) :
    k0_pay16 g (ix2 j ⟨512 + l, hl⟩) = (g (ix2 j l) - g (ix2 j l) : EReal) := by
  pointwise [k0_pay16]

theorem split2 (g : FVec Ideal S16x512 .f32) (j : Fin 16) (l : Fin 512) (hl : 1024 + (l : ℕ) < 1536) :
    k0_pay16 g (ix2 j ⟨1024 + l, hl⟩) = ((g (ix2 j l) - g (ix2 j l)) - (g (ix2 j l) - g (ix2 j l)) : EReal) := by
  have e : ∀ h, (⟨1024 + (l : ℕ) - 512 - 512, h⟩ : Fin 512) = l := fun h => Fin.ext (by show 1024 + (l : ℕ) - 512 - 512 = l; omega)
  pointwise [k0_pay16]
  rw [dif_neg (by omega), dif_neg (by omega)]
  simp only [e]

/-- The decay of the whole chunk. -/
theorem total_apply (g : FVec Ideal S16x512 .f32) (w : Vec Ideal S16x16 .bf16) (l : Fin 512) :
    k0_pay58 (k0_pay16 g) w (ix2 0 l) = Ideal.exp (parts (fun j => w (ix2 15 j)) fun j => g (ix2 j l)) := by
  pointwise [k0_pay58, k0_pay55]
  simp only [split0, split1, split2]
  rfl

/-- The inputs' factors, decayed to the chunk's end. -/
theorem factor_apply (k g : FVec Ideal S16x512 .f32) (w : Vec Ideal S16x16 .bf16) (s : Fin 16) (l : Fin 512) :
    k0_pay57 k (k0_pay16 g) w (ix2 s l) = k (ix2 s l) * Ideal.exp (parts (fun j => w (ix2 s j)) fun j => g (ix2 j l)) := by
  pointwise [k0_pay57]
  simp only [split0, split1, split2]
  rfl

/-- The greater of a lane's two logits (or the given start, when greater still), -/
def peak (a : Fin 2 → EReal) : EReal := Finset.fold max (Ideal.ofBits FTy.f32 4286578688#32) a Finset.univ

/-- the least a gate of the lane can be: the first logit's share in the softmax, -/
def least (a : Fin 2 → EReal) : EReal := Ideal.div (∑ _x : Fin 1, Ideal.exp (a 0 - peak a)) (∑ x, Ideal.exp (a x - peak a))

/-- and the gate itself. -/
def gate (a : Fin 2 → EReal) (z : EReal) : EReal := least a + (1 - least a) * Ideal.div 1 (1 + Ideal.exp (0 - z))

theorem gate_apply (x6 : Vec Ideal S2x512 .f32) (x1 : Vec Ideal S1x16x512 .f32) (t : Fin 16) (l : Fin 512) :
    k0_pay10 x6 x1 (ix2 t l) = gate (fun r => x6 (ix2 r l)) (x1 (ix3 0 t l)) := by
  pointwise [k0_pay10]
  rfl

theorem log_apply (x6 : Vec Ideal S2x512 .f32) (x1 : Vec Ideal S1x16x512 .f32) (t : Fin 16) (l : Fin 512) :
    k0_pay11 x6 x1 (ix2 t l) = Ideal.log (gate (fun r => x6 (ix2 r l)) (x1 (ix3 0 t l))) :=
  congrArg Ideal.log (gate_apply x6 x1 t l)

theorem rest_apply (x6 : Vec Ideal S2x512 .f32) (x1 : Vec Ideal S1x16x512 .f32) (t : Fin 16) (l : Fin 512) :
    k0_pay12 x6 x1 (ix2 t l) = 1 - gate (fun r => x6 (ix2 r l)) (x1 (ix3 0 t l)) := by
  rw [← gate_apply]
  pointwise [k0_pay12]

theorem input_apply (x2 : Vec Ideal S1x16x512 .bf16) (t : Fin 16) (l : Fin 512) :
    k0_pay59 x2 (ix2 t l) = x2 (ix3 0 t l) := by
  pointwise [k0_pay59]

/-- A head's new state, transposed. -/
def after (h : Fin 4) (k : FVec Ideal S16x512 .bf16) (e : FVec Ideal S1x512 .f32) (i : FVec Ideal S16x512 .bf16)
    (s : Vec Ideal S1x128x128 .f32) (v d : Fin 128) : EReal :=
  s (ix3 0 v d) * e (ix2 0 (lane h d)) + ∑ t : Fin 16, i (ix2 t (lane h v)) * k (ix2 t (lane h d))

theorem lane0 (d : Fin 128) (h : (d : ℕ) < 512) : (⟨(d : ℕ), h⟩ : Fin 512) = lane 0 d :=
  Fin.ext (by show (d : ℕ) = 128 * 0 + d; omega)

theorem state0 (k : FVec Ideal S16x512 .bf16) (e : FVec Ideal S1x512 .f32) (i : FVec Ideal S16x512 .bf16)
    (s : Vec Ideal S1x128x128 .f32) (v d : Fin 128) : k0_pay65 k e i s (ix3 0 v d) = after 0 k e i s v d := by
  pointwise [k0_pay65, k0_pay64]
  simp only [lane0]
  rfl

theorem state1 (k : FVec Ideal S16x512 .bf16) (e : FVec Ideal S1x512 .f32) (i : FVec Ideal S16x512 .bf16)
    (s : Vec Ideal S1x128x128 .f32) (v d : Fin 128) : k0_pay70 k e i (k0_pay67 s) (ix3 0 v d) = after 1 k e i s v d := by
  pointwise [k0_pay70, k0_pay67]
  rfl

theorem state2 (k : FVec Ideal S16x512 .bf16) (e : FVec Ideal S1x512 .f32) (i : FVec Ideal S16x512 .bf16)
    (s : Vec Ideal S1x128x128 .f32) (v d : Fin 128) : k0_pay74 k e i s (ix3 0 v d) = after 2 k e i s v d := by
  pointwise [k0_pay74, k0_pay72]
  rfl

theorem state3 (k : FVec Ideal S16x512 .bf16) (e : FVec Ideal S1x512 .f32) (i : FVec Ideal S16x512 .bf16)
    (s : Vec Ideal S1x128x128 .f32) (v d : Fin 128) : k0_pay77 k e i s (ix3 0 v d) = after 3 k e i s v d := by
  pointwise [k0_pay77, k0_pay76]
  rfl

theorem stored0 (s : Vec Ideal S1x128x128 .f32) (d v : Fin 128) : k0_pay6 s (ix5 0 0 0 d v) = s (ix3 0 v d) := by
  pointwise [k0_pay6]

theorem loaded0 (s : Vec Ideal S1x1x1x128x128 .f32) (d v : Fin 128) : k0_pay2 s (ix3 0 v d) = s (ix5 0 0 0 d v) := by
  pointwise [k0_pay2]

theorem stored1 (s : Vec Ideal S1x128x128 .f32) (d v : Fin 128) : k0_pay7 s (ix5 0 0 0 d v) = s (ix3 0 v d) := by
  pointwise [k0_pay7]

theorem loaded1 (s : Vec Ideal S1x1x1x128x128 .f32) (d v : Fin 128) : k0_pay3 s (ix3 0 v d) = s (ix5 0 0 0 d v) := by
  pointwise [k0_pay3]

theorem stored2 (s : Vec Ideal S1x128x128 .f32) (d v : Fin 128) : k0_pay8 s (ix5 0 0 0 d v) = s (ix3 0 v d) := by
  pointwise [k0_pay8]

theorem loaded2 (s : Vec Ideal S1x1x1x128x128 .f32) (d v : Fin 128) : k0_pay4 s (ix3 0 v d) = s (ix5 0 0 0 d v) := by
  pointwise [k0_pay4]

theorem stored3 (s : Vec Ideal S1x128x128 .f32) (d v : Fin 128) : k0_pay9 s (ix5 0 0 0 d v) = s (ix3 0 v d) := by
  pointwise [k0_pay9]

theorem loaded3 (s : Vec Ideal S1x1x1x128x128 .f32) (d v : Fin 128) : k0_pay5 s (ix3 0 v d) = s (ix5 0 0 0 d v) := by
  pointwise [k0_pay5]

end Cert.Proof.RecPays

end
-- ==== Proof.RecWindow.lean ====
/-
  RUNNING SUMS OVER THE ROWS OF THE SAMPLE, read at a row: a running sum along an axis is the sum of the rows up to it.
-/
module

public import proofs.«01_k».proof.Proof.Suffix

@[expose] public section

set_option maxRecDepth 16384

noncomputable section

namespace Cert.Proof.RecWindow

open Idealize.ShloMosaic
open scoped BigOperators

abbrev S4 : Shape := ⟨4, ![8, 4, 16, 128]⟩
abbrev W4 : Shape := ⟨4, ![1, 1, 16, 1]⟩
abbrev S2 : Shape := ⟨2, ![2, 512]⟩
abbrev W2 : Shape := ⟨2, ![2, 1]⟩

/-- A window's positions are its rows. -/
def rows : Fin 16 ≃ W4.Idx where
  toFun k := ix4 0 0 k 0
  invFun y := y 2
  left_inv k := rfl
  right_inv y := by
    funext a
    match a with
    | ⟨0, _⟩ => exact Fin.ext (by have := (y 0).isLt; change (y 0).val < 1 at this; show 0 = (y 0).val; omega)
    | ⟨1, _⟩ => exact Fin.ext (by have := (y 1).isLt; change (y 1).val < 1 at this; show 0 = (y 1).val; omega)
    | ⟨2, _⟩ => rfl
    | ⟨3, _⟩ => exact Fin.ext (by have := (y 3).isLt; change (y 3).val < 1 at this; show 0 = (y 3).val; omega)

def pair : Fin 2 ≃ W2.Idx where
  toFun k := ix2 k 0
  invFun y := y 0
  left_inv k := rfl
  right_inv y := by
    funext a
    match a with
    | ⟨0, _⟩ => rfl
    | ⟨1, _⟩ => exact Fin.ext (by have := (y 1).isLt; change (y 1).val < 1 at this; show 0 = (y 1).val; omega)

/-- The rows up to `t`, counted back from it. -/
theorem sum_to (f : ℕ → EReal) (t : ℕ) (ht : t < 16) :
    ∑ k : Fin 16, (if 15 ≤ t + (k : ℕ) then f (t + k - 15) else 0) = ∑ j : Fin 16, if (j : ℕ) ≤ t then f j else 0 := by
  rw [Fin.sum_univ_eq_sum_range (fun k => if 15 ≤ t + k then f (t + k - 15) else 0) 16,
    Fin.sum_univ_eq_sum_range (fun j => if j ≤ t then f j else 0) 16, ← Finset.sum_filter, ← Finset.sum_filter]
  refine Finset.sum_nbij' (fun k => t + k - 15) (fun j => j + 15 - t) ?_ ?_ ?_ ?_ ?_
  all_goals intro k hk
  all_goals simp only [Finset.mem_filter, Finset.mem_range] at hk ⊢
  all_goals omega

/-- The sum of the rows up to `t`. -/
theorem prefix_apply (X : FVec Ideal S4 .f32) (init : FVec Ideal ⟨0, ![]⟩ .f32) (f : ℕ → EReal) (b : Fin 8) (h : Fin 4) (t : Fin 16) (d : Fin 128)
    (hX : ∀ j : Fin 16, X (ix4 b h j d) = f j) (hinit : ∀ i, init i = 0)
    (hw : S4.ReduceWindows ![1, 1, 16, 1] ![1, 1, 1, 1] ![0, 0, 15, 0] ![0, 0, 0, 0] S4) (hu : 0 < (⟨0, ![]⟩ : Shape).numel) :
    Host.reduceWindowAdd (F := Ideal) ![1, 1, 16, 1] ![1, 1, 1, 1] ![0, 0, 15, 0] ![0, 0, 0, 0] X init hw hu (ix4 b h t d)
      = (∑ j : Fin 16, if (j : ℕ) ≤ t then f j else 0 : EReal) := by
  rw [Suffix.window_apply, hinit, zero_add]
  refine Eq.trans ?_ (sum_to f t t.isLt)
  refine (Equiv.sum_comp rows _).symm.trans ?_
  refine Finset.sum_congr rfl fun k _ => ?_
  by_cases hc : 15 ≤ (t : ℕ) + k
  · rw [if_pos hc, dif_pos]
    · have hk : (t : ℕ) + k - 15 < 16 := by omega
      rw [← hX ⟨_, hk⟩]
      congr 1
      funext a
      apply Fin.ext
      match a with
      | ⟨0, _⟩ => show (b : ℕ) * 1 + 0 - 0 = b; omega
      | ⟨1, _⟩ => show (h : ℕ) * 1 + 0 - 0 = h; omega
      | ⟨2, _⟩ => show (t : ℕ) * 1 + k - 15 = t + k - 15; omega
      | ⟨3, _⟩ => show (d : ℕ) * 1 + 0 - 0 = d; omega
    · intro a
      match a with
      | ⟨0, _⟩ => show 0 ≤ (b : ℕ) * 1 + 0 ∧ (b : ℕ) * 1 + 0 - 0 < 8; omega
      | ⟨1, _⟩ => show 0 ≤ (h : ℕ) * 1 + 0 ∧ (h : ℕ) * 1 + 0 - 0 < 4; omega
      | ⟨2, _⟩ => show 15 ≤ (t : ℕ) * 1 + k ∧ (t : ℕ) * 1 + k - 15 < 16; omega
      | ⟨3, _⟩ => show 0 ≤ (d : ℕ) * 1 + 0 ∧ (d : ℕ) * 1 + 0 - 0 < 128; omega
  · rw [if_neg hc, dif_neg]
    intro hin
    have := (hin (2 : Fin 4)).1
    change 15 ≤ (t : ℕ) * 1 + k at this
    omega

/-- The first running sum of two rows is the first row. -/
theorem first_apply (X : FVec Ideal S2 .f32) (init : FVec Ideal ⟨0, ![]⟩ .f32) (l : Fin 512) (hinit : ∀ i, init i = 0)
    (hw : S2.ReduceWindows ![2, 1] ![1, 1] ![1, 0] ![0, 0] S2) (hu : 0 < (⟨0, ![]⟩ : Shape).numel) :
    Host.reduceWindowAdd (F := Ideal) ![2, 1] ![1, 1] ![1, 0] ![0, 0] X init hw hu (ix2 0 l) = X (ix2 0 l) := by
  rw [Suffix.window_apply, hinit, zero_add]
  refine (Equiv.sum_comp pair _).symm.trans ?_
  rw [Fin.sum_univ_two, dif_neg, zero_add, dif_pos]
  · congr 1
    funext a
    apply Fin.ext
    match a with
    | ⟨0, _⟩ => rfl
    | ⟨1, _⟩ => show (l : ℕ) * 1 + 0 - 0 = l; omega
  · intro a
    match a with
    | ⟨0, _⟩ => show 1 ≤ 0 * 1 + 1 ∧ 0 * 1 + 1 - 1 < 2; omega
    | ⟨1, _⟩ => show 0 ≤ (l : ℕ) * 1 + 0 ∧ (l : ℕ) * 1 + 0 - 0 < 512; omega
  · intro hin
    have := (hin (0 : Fin 2)).1
    change 1 ≤ 0 * 1 + 0 at this
    omega

end Cert.Proof.RecWindow

end
-- ==== Proof.RecRef.lean ====
/-
  THE REFERENCE'S STATE AFTER THE SAMPLE, read at an index.
-/
module

public import proofs.«01_k».proof.Proof.RecPays
public import proofs.«01_k».proof.Proof.RecWindow
public import proofs.«01_k».proof.Proof.Gen.RecurrenceSampleReferenceIdeal.Run
public import Idealize.ShloMosaic.Lib.Pointwise

@[expose] public section

set_option maxRecDepth 16384

noncomputable section

namespace Cert.Proof.RecRef

open Idealize.ShloMosaic Idealize.ShloMosaic.TcCoe
open Cert.RecurrenceSampleReferenceIdeal Cert.RecurrenceSampleReferenceIdeal.Gen
open Cert.Proof.RecPays (lane)
open scoped BigOperators

/-- A lane's logits less their greatest, exponentiated. -/
def scaled (a : FVec Ideal S2x512 .f32) : FVec Ideal S2x512 .f32 :=
  Host.exp (subf a (broadcastInDim S2x512 ![0, 1] bcast_S1x512_S2x512_0_1 (broadcastInDim S1x512 ![1] bcast_S512_S1x512_1
    (maximumf (broadcastInDim S512 ![] bcast_S_S512 (constant S_ .f32 0xFF800000#32))
      (Host.reduce FloatOps.maximumf a (constant S_ .f32 0xFF800000#32) reducesTo_S2x512_S512_d0 h_S_)))))

def softmax (a : FVec Ideal S2x512 .f32) : FVec Ideal S2x512 .f32 :=
  Host.divf (scaled a) (broadcastInDim S2x512 ![0, 1] bcast_S1x512_S2x512_0_1 (broadcastInDim S1x512 ![1] bcast_S512_S1x512_1
    (Host.reduceAdd (scaled a) (constant S_ .f32 0x00000000#32) reducesTo_S2x512_S512_d0 h_S_)))

/-- The first row of the softmax's running sums. -/
def first (a : FVec Ideal S2x512 .f32) : FVec Ideal S512 .f32 :=
  shapeCast S512 (extractStridedSlice S1x512 ![0, 0] (Host.reduceWindowAdd ![2, 1] ![1, 1] ![1, 0] ![0, 0] (softmax a)
    (broadcastInDim S_ ![] bcast_S_S_ (constant S_ .f32 0x00000000#32)) reduceWindows_S2x512_S2x512_w2s1p1_0_w1s1p0_0 h_S_)
    slices_S2x512_S1x512_0_0) shapeCasts_S1x512_S512

def ones : FVec Ideal S8x16x512 .f32 := broadcastInDim S8x16x512 ![] bcast_S_S8x16x512 (constant S_ .f32 0x3F800000#32)

/-- The forgetting gates. -/
def gates (a : FVec Ideal S2x512 .f32) (f : FVec Ideal S8x16x512 .f32) : FVec Ideal S8x16x512 .f32 :=
  addf (broadcastInDim S8x16x512 ![0, 1, 2] bcast_S1x1x512_S8x16x512_0_1_2 (broadcastInDim S1x1x512 ![2] bcast_S512_S1x1x512_2 (first a)))
    (mulf (broadcastInDim S8x16x512 ![0, 1, 2] bcast_S1x1x512_S8x16x512_0_1_2 (broadcastInDim S1x1x512 ![2] bcast_S512_S1x1x512_2
      (subf (broadcastInDim S512 ![] bcast_S_S512 (constant S_ .f32 0x3F800000#32)) (first a))))
      (Host.divf ones (addf ones (Host.exp (Host.negf f)))))

/-- Rows cut into heads. -/
def heads (x : FVec Ideal S8x16x512 .f32) : FVec Ideal S8x4x16x128 .f32 :=
  transpose S8x4x16x128 [0, 2, 1, 3] (shapeCast S8x16x4x128 x shapeCasts_S8x16x512_S8x16x4x128)
    transposes_S8x16x4x128_S8x4x16x128_0_2_1_3

/-- Sums of the first rows. -/
def running (x : FVec Ideal S8x4x16x128 .f32) : FVec Ideal S8x4x16x128 .f32 :=
  Host.reduceWindowAdd ![1, 1, 16, 1] ![1, 1, 1, 1] ![0, 0, 15, 0] ![0, 0, 0, 0] x
    (broadcastInDim S_ ![] bcast_S_S_ (constant S_ .f32 0x00000000#32))
    reduceWindows_S8x4x16x128_S8x4x16x128_w1s1p0_0_w1s1p0_0_w16s1p15_0_w1s1p0_0 h_S_

def last (x : FVec Ideal S8x4x16x128 .f32) : FVec Ideal S8x4x1x128 .f32 :=
  extractStridedSlice S8x4x1x128 ![0, 0, 15, 0] x slices_S8x4x16x128_S8x4x1x128_0_0_15_0

/-- The old state, decayed by the whole chunk. -/
def kept (b : FVec Ideal S8x4x16x128 .f32) (s : FVec Ideal S1x8x4x128x128 .f32) : FVec Ideal S8x4x128x128 .f32 :=
  mulf (broadcastInDim S8x4x128x128 ![0, 1, 2, 3] bcast_S8x4x128x1_S8x4x128x128_0_1_2_3 (broadcastInDim S8x4x128x1 ![0, 1, 2]
    bcast_S8x4x128_S8x4x128x1_0_1_2 (shapeCast S8x4x128 (Host.exp (last b)) shapeCasts_S8x4x1x128_S8x4x128)))
    (shapeCast S8x4x128x128 s shapeCasts_S1x8x4x128x128_S8x4x128x128)

/-- The inputs taken in, each decayed by the rows after it. -/
def taken (k b i : FVec Ideal S8x4x16x128 .f32) : FVec Ideal S8x4x128x128 .f32 :=
  Host.dotGeneral dot_S8x4x16x128_S8x4x16x128_S8x4x128x128_2_2_3_3_01_01 none
    (mulf k (Host.exp (subf (broadcastInDim S8x4x16x128 ![0, 1, 2, 3] bcast_S8x4x1x128_S8x4x16x128_0_1_2_3 (last b)) b))) i

def whole (f : FVec Ideal S8x16x512 .f32) (i : FVec Ideal S8x16x512 .bf16) (a : FVec Ideal S2x512 .f32)
    (s : FVec Ideal S1x8x4x128x128 .f32) : FVec Ideal S1x8x4x128x128 .f32 :=
  broadcastInDim S1x8x4x128x128 ![1, 2, 3, 4] bcast_S8x4x128x128_S1x8x4x128x128_1_2_3_4
    (addf (kept (running (heads (Host.log (gates a f)))) s)
      (taken (heads (subf ones (gates a f))) (running (heads (Host.log (gates a f)))) (heads (extf .f32 i bitsLt_bf16_f32))))

variable (m : (ℓ : Loc nD τ sig) → Buf (Elt Ideal) ℓ)

/-- What the reference leaves is this term of its arguments. -/
theorem result_eq (c : Dev nD) : Value.res_out1 m c = whole (m ((c.tc : Thread nD τ).loc main_arg1)) (m ((c.tc : Thread nD τ).loc main_arg2))
    (m ((c.tc : Thread nD τ).loc main_arg4)) (m ((c.tc : Thread nD τ).loc main_arg6)) := by
  unfold Value.res_out1 Value.res_main_v100 whole taken kept last running heads gates ones first softmax scaled
  rfl

theorem heads_apply (x : FVec Ideal S8x16x512 .f32) (b : Fin 8) (h : Fin 4) (t : Fin 16) (d : Fin 128) :
    heads x (ix4 b h t d) = x (ix3 b t (lane h d)) := by
  pointwise [heads]
  congr 2
  exact Fin.ext (by show (h : ℕ) * 128 + d = 128 * h + d; omega)

theorem zero_at (i : S_.Idx) :
    (broadcastInDim S_ ![] bcast_S_S_ (constant S_ .f32 0x00000000#32) : FVec Ideal S_ .f32) i = (0 : EReal) := by
  pointwise []

theorem running_apply (x : FVec Ideal S8x4x16x128 .f32) (f : ℕ → EReal) (b : Fin 8) (h : Fin 4) (t : Fin 16) (d : Fin 128)
    (hf : ∀ j : Fin 16, x (ix4 b h j d) = f j) : running x (ix4 b h t d) = ∑ j : Fin 16, if (j : ℕ) ≤ t then f j else 0 :=
  RecWindow.prefix_apply x _ f b h t d hf zero_at _ _

theorem scaled_apply (a : FVec Ideal S2x512 .f32) (r : Fin 2) (l : Fin 512) :
    scaled a (ix2 r l) = Ideal.exp (a (ix2 r l) - RecPays.peak fun r => a (ix2 r l)) := by
  pointwise [scaled]
  exact congrArg (fun z => Ideal.exp (a (ix2 r l) - z)) (max_eq_right (Finset.le_fold_max _ |>.mpr (Or.inl le_rfl)))

theorem first_apply (a : FVec Ideal S2x512 .f32) (l : Fin 512) : first a (ix1 l) = RecPays.least fun r => a (ix2 r l) := by
  pointwise [first]
  refine (RecWindow.first_apply (softmax a) _ l zero_at _ _).trans ?_
  pointwise [softmax]
  simp only [scaled_apply]
  unfold RecPays.least
  rw [Fin.sum_univ_one]

theorem gates_apply (a : FVec Ideal S2x512 .f32) (f : FVec Ideal S8x16x512 .f32) (b : Fin 8) (t : Fin 16) (l : Fin 512) :
    gates a f (ix3 b t l) = RecPays.gate (fun r => a (ix2 r l)) (f (ix3 b t l)) := by
  pointwise [gates, ones]
  rw [first_apply]
  unfold RecPays.gate
  rw [zero_sub]

theorem kept_apply (g : FVec Ideal S8x4x16x128 .f32) (s : FVec Ideal S1x8x4x128x128 .f32) (b : Fin 8) (h : Fin 4) (d v : Fin 128) :
    kept g s (ix4 b h d v) = Ideal.exp (g (ix4 b h 15 d)) * s (ix5 0 b h d v) := by
  pointwise [kept, last]

theorem taken_apply (k g i : FVec Ideal S8x4x16x128 .f32) (b : Fin 8) (h : Fin 4) (d v : Fin 128) :
    taken k g i (ix4 b h d v) = ∑ t : Fin 16, k (ix4 b h t d) * Ideal.exp (g (ix4 b h 15 d) - g (ix4 b h t d)) * i (ix4 b h t v) := by
  pointwise [taken, last]

end Cert.Proof.RecRef

end
-- ==== Proof.RecScore.lean ====
/-
  THE RECURRENCE KERNEL'S SCORES, read at an index: at every level the product of the rows decayed to the level's middle.
-/
module

public import proofs.«01_k».proof.Proof.RecPays

@[expose] public section

set_option maxRecDepth 16384

noncomputable section

namespace Cert.Proof.RecScore

open Idealize.ShloMosaic Idealize.ShloMosaic.TcCoe
open Cert.RecurrenceSampleIdeal Cert.RecurrenceSampleIdeal.Gen Cert.Proof.RecPays
open scoped BigOperators

/-- The decay of a row by a row of the table. -/
def decay (g : FVec Ideal S16x512 .f32) (w : Vec Ideal S16x16 .bf16) (t : Fin 16) (l : Fin 512) : EReal :=
  Ideal.exp (parts (fun j => w (ix2 t j)) fun j => g (ix2 j l))

theorem decay0 (g : FVec Ideal S16x512 .f32) (w : Vec Ideal S16x16 .bf16) (t : Fin 16) (l : Fin 512) :
    k0_pay25 (k0_pay16 g) w (ix2 t l) = decay g w t l := by
  pointwise [k0_pay25]
  simp only [split0, split1, split2]
  rfl

theorem decay1 (g : FVec Ideal S16x512 .f32) (w : Vec Ideal S16x16 .bf16) (t : Fin 16) (l : Fin 512) :
    k0_pay32 (k0_pay16 g) w (ix2 t l) = decay g w t l := by
  pointwise [k0_pay32]
  simp only [split0, split1, split2]
  rfl

theorem decay2 (g : FVec Ideal S16x512 .f32) (w : Vec Ideal S16x16 .bf16) (t : Fin 16) (l : Fin 512) :
    k0_pay39 (k0_pay16 g) w (ix2 t l) = decay g w t l := by
  pointwise [k0_pay39]
  simp only [split0, split1, split2]
  rfl

theorem decay3 (g : FVec Ideal S16x512 .f32) (w : Vec Ideal S16x16 .bf16) (t : Fin 16) (l : Fin 512) :
    k0_pay46 (k0_pay16 g) w (ix2 t l) = decay g w t l := by
  pointwise [k0_pay46]
  simp only [split0, split1, split2]
  rfl

/-- The sums themselves, of the rows up to a row. -/
theorem upto (g : FVec Ideal S16x512 .f32) (w : Vec Ideal S16x16 .bf16) (t : Fin 16) (l : Fin 512) :
    k0_pay55 (k0_pay16 g) w (ix2 t l) = parts (fun j => w (ix2 t j)) fun j => g (ix2 j l) := by
  pointwise [k0_pay55]
  simp only [split0, split1, split2]
  rfl

/-- A head's product of queries and keys, row by row. -/
def pair (q k : Fin 16 → Fin 512 → EReal) (h : Fin 4) (t s : Fin 16) : EReal := ∑ d : Fin 128, q t (lane h d) * k s (lane h d)

/-- The score of row `t` against row `s` at its level. -/
def score (q k : Fin 16 → Fin 512 → EReal) (e : Fin 4 → Fin 16 → Fin 512 → EReal) (n : BitVec 32) (h : Fin 4) (t s : Fin 16) : EReal :=
  if n = 3#32 then pair (fun t l => q t l * e 3 t l) (fun t l => k t l * e 3 t l) h t s
  else if n = 2#32 then pair (fun t l => q t l * e 2 t l) (fun t l => k t l * e 2 t l) h t s
  else if n = 1#32 then pair (fun t l => q t l * e 1 t l) (fun t l => k t l * e 1 t l) h t s
  else if n = 0#32 then pair (fun t l => q t l * e 0 t l) (fun t l => k t l * e 0 t l) h t s
  else if n = 4#32 then pair q k h t s else 0

theorem choose_eq {α : Type} (a b : BitVec 32) (x y : α) : Scalar.select (IntOp.cmpi CmpIPredicate.eq a b) x y = if a = b then x else y := by
  unfold Scalar.select IntOp.cmpi
  by_cases h : a = b
  · simp [h]
  · have e : (a == b) = false := by simpa using h
    simp [h, e]

theorem lane_zero (x : Fin 128) (h : (x : ℕ) < 512) : (⟨(x : ℕ), h⟩ : Fin 512) = lane 0 x := Fin.ext (Nat.zero_add _).symm

/-- The scores of head 0. -/
def scores0 (k g a b : FVec Ideal S16x512 .f32) (lv : Vec Ideal S16x16 .i32) (w0 w1 w2 w3 : Vec Ideal S16x16 .bf16) : FVec Ideal S16x16 .f32 :=
  k0_pay49 k (k0_pay15 a b) (k0_pay16 g) lv (k0_pay42 k (k0_pay15 a b) (k0_pay16 g) lv (k0_pay28 k (k0_pay15 a b) (k0_pay16 g) lv (k0_pay19 k a b lv) w0) (k0_pay32 (k0_pay16 g) w1) (k0_pay33 (k0_pay15 a b) (k0_pay16 g) w1) w2) w3

theorem scores0_apply (k g a b : FVec Ideal S16x512 .f32) (lv : Vec Ideal S16x16 .i32) (w0 w1 w2 w3 : Vec Ideal S16x16 .bf16) (t s : Fin 16) :
    scores0 k g a b lv w0 w1 w2 w3 (ix2 t s)
      = score (fun t l => k0_pay15 a b (ix2 t l)) (fun t l => k (ix2 t l)) ![decay g w0, decay g w1, decay g w2, decay g w3] (lv (ix2 t s)) 0 t s := by
  pointwise [scores0, k0_pay49, k0_pay47, k0_pay48, k0_pay42, k0_pay40, k0_pay41, k0_pay34, k0_pay35, k0_pay33, k0_pay28, k0_pay26, k0_pay27, k0_pay19, k0_pay17, k0_pay18]
  simp only [decay0, decay1, decay2, decay3, choose_eq, lane_zero]
  rfl

/-- The scores of head 1. -/
def scores1 (k g a b : FVec Ideal S16x512 .f32) (lv : Vec Ideal S16x16 .i32) (w0 w1 w2 w3 : Vec Ideal S16x16 .bf16) : FVec Ideal S16x16 .f32 :=
  k0_pay50 k (k0_pay15 a b) (k0_pay16 g) lv (k0_pay36 k lv (k0_pay29 k (k0_pay15 a b) (k0_pay16 g) lv (k0_pay20 k a b lv) w0) (k0_pay32 (k0_pay16 g) w1) (k0_pay33 (k0_pay15 a b) (k0_pay16 g) w1)) (k0_pay40 (k0_pay15 a b) (k0_pay16 g) w2) (k0_pay41 k (k0_pay16 g) w2) k0_pay43 w3

theorem scores1_apply (k g a b : FVec Ideal S16x512 .f32) (lv : Vec Ideal S16x16 .i32) (w0 w1 w2 w3 : Vec Ideal S16x16 .bf16) (t s : Fin 16) :
    scores1 k g a b lv w0 w1 w2 w3 (ix2 t s)
      = score (fun t l => k0_pay15 a b (ix2 t l)) (fun t l => k (ix2 t l)) ![decay g w0, decay g w1, decay g w2, decay g w3] (lv (ix2 t s)) 1 t s := by
  pointwise [scores1, k0_pay50, k0_pay47, k0_pay48, k0_pay43, k0_pay40, k0_pay41, k0_pay36, k0_pay34, k0_pay35, k0_pay33, k0_pay29, k0_pay26, k0_pay27, k0_pay20, k0_pay17, k0_pay18]
  simp only [decay0, decay1, decay2, decay3, choose_eq]
  rfl

/-- The scores of head 2. -/
def scores2 (k g a b : FVec Ideal S16x512 .f32) (lv : Vec Ideal S16x16 .i32) (w0 w1 w2 w3 : Vec Ideal S16x16 .bf16) : FVec Ideal S16x16 .f32 :=
  k0_pay53 (k0_pay44 lv (k0_pay37 k lv (k0_pay30 k (k0_pay15 a b) (k0_pay16 g) lv (k0_pay21 k a b lv) w0) (k0_pay32 (k0_pay16 g) w1) (k0_pay33 (k0_pay15 a b) (k0_pay16 g) w1)) (k0_pay40 (k0_pay15 a b) (k0_pay16 g) w2) (k0_pay41 k (k0_pay16 g) w2)) (k0_pay51 lv) (k0_pay52 k (k0_pay15 a b) (k0_pay16 g) w3)

theorem scores2_apply (k g a b : FVec Ideal S16x512 .f32) (lv : Vec Ideal S16x16 .i32) (w0 w1 w2 w3 : Vec Ideal S16x16 .bf16) (t s : Fin 16) :
    scores2 k g a b lv w0 w1 w2 w3 (ix2 t s)
      = score (fun t l => k0_pay15 a b (ix2 t l)) (fun t l => k (ix2 t l)) ![decay g w0, decay g w1, decay g w2, decay g w3] (lv (ix2 t s)) 2 t s := by
  pointwise [scores2, k0_pay53, k0_pay51, k0_pay52, k0_pay47, k0_pay48, k0_pay44, k0_pay40, k0_pay41, k0_pay37, k0_pay34, k0_pay35, k0_pay33, k0_pay30, k0_pay26, k0_pay27, k0_pay21, k0_pay17, k0_pay18]
  simp only [decay0, decay1, decay2, decay3, choose_eq]
  rfl

/-- The scores of head 3. -/
def scores3 (k g a b : FVec Ideal S16x512 .f32) (lv : Vec Ideal S16x16 .i32) (w0 w1 w2 w3 : Vec Ideal S16x16 .bf16) : FVec Ideal S16x16 .f32 :=
  k0_pay54 lv (k0_pay45 lv (k0_pay38 k lv (k0_pay31 k (k0_pay15 a b) (k0_pay16 g) lv (k0_pay22 lv) (k0_pay23 k a b) k0_pay24 w0) (k0_pay32 (k0_pay16 g) w1) (k0_pay33 (k0_pay15 a b) (k0_pay16 g) w1)) (k0_pay40 (k0_pay15 a b) (k0_pay16 g) w2) (k0_pay41 k (k0_pay16 g) w2)) (k0_pay47 (k0_pay15 a b) (k0_pay16 g) w3) (k0_pay48 k (k0_pay16 g) w3)

theorem scores3_apply (k g a b : FVec Ideal S16x512 .f32) (lv : Vec Ideal S16x16 .i32) (w0 w1 w2 w3 : Vec Ideal S16x16 .bf16) (t s : Fin 16) :
    scores3 k g a b lv w0 w1 w2 w3 (ix2 t s)
      = score (fun t l => k0_pay15 a b (ix2 t l)) (fun t l => k (ix2 t l)) ![decay g w0, decay g w1, decay g w2, decay g w3] (lv (ix2 t s)) 3 t s := by
  pointwise [scores3, k0_pay54, k0_pay47, k0_pay48, k0_pay45, k0_pay40, k0_pay41, k0_pay38, k0_pay34, k0_pay35, k0_pay33, k0_pay31, k0_pay26, k0_pay27, k0_pay22, k0_pay23, k0_pay24, k0_pay17, k0_pay18]
  simp only [decay0, decay1, decay2, decay3, choose_eq]
  rfl

end Cert.Proof.RecScore

end
-- ==== Proof.RecNorm.lean ====
/-
  THE RECURRENCE KERNEL'S OUTPUT ROWS, read at an index: a head's scores times its inputs, plus the old state read out by the
  decayed queries, divided by the root of its mean square and gated.
-/
module

public import proofs.«01_k».proof.Proof.RecScore

@[expose] public section

set_option maxRecDepth 16384

noncomputable section

namespace Cert.Proof.RecNorm

open Idealize.ShloMosaic Idealize.ShloMosaic.TcCoe
open Cert.RecurrenceSampleIdeal Cert.RecurrenceSampleIdeal.Gen Cert.Proof.RecPays Cert.Proof.RecScore
open scoped BigOperators

/-- A head's row before it is scaled. -/
def row (sc : Fin 16 → Fin 16 → EReal) (q : Fin 16 → Fin 512 → EReal) (i : Fin 16 → Fin 512 → EReal) (st : Fin 128 → Fin 128 → EReal)
    (h : Fin 4) (t : Fin 16) (v : Fin 128) : EReal :=
  (∑ s : Fin 16, sc t s * i s (lane h v)) + ∑ d : Fin 128, q t (lane h d) * st v d

/-- A row divided by the root of its mean square. -/
def scaled (o : Fin 128 → EReal) (v : Fin 128) : EReal :=
  o v * Ideal.rsqrt (Ideal.div (∑ u, o u * o u) (Ideal.ofBits .f32 0x43000000#32) + Ideal.ofBits .f32 0x358637BD#32)

/-- The gate of the outputs. -/
def silu (x : EReal) : EReal := x * Ideal.div 1 (1 + Ideal.exp (0 - x))

theorem silu_apply (x : Vec Ideal S1x16x512 .bf16) (t : Fin 16) (l : Fin 512) :
    k0_pay15 (k0_pay13 x) (k0_pay14 x) (ix2 t l) = silu (x (ix3 0 t l)) := by
  pointwise [k0_pay15, k0_pay14, k0_pay13]
  rfl

theorem gate_apply (x : Vec Ideal S1x16x512 .bf16) (n : Vec Ideal S1x512 .f32) (t : Fin 16) (l : Fin 512) :
    k0_pay63 (k0_pay60 x) (k0_pay61 n) (k0_pay62 x) (Scalar.ofBits .f32 0x3F800000#32) (ix2 t l) = n (ix2 0 l) * silu (x (ix3 0 t l)) := by
  pointwise [k0_pay63, k0_pay62, k0_pay61, k0_pay60]
  rfl

theorem query_apply (q g : FVec Ideal S16x512 .f32) (w : Vec Ideal S16x16 .bf16) (t : Fin 16) (l : Fin 512) :
    k0_pay56 q (k0_pay16 g) w (ix2 t l) = q (ix2 t l) * Ideal.exp (parts (fun j => w (ix2 t j)) fun j => g (ix2 j l)) := by
  pointwise [k0_pay56]
  rw [upto]

theorem head0 (sc : FVec Ideal S16x16 .f32) (q i : FVec Ideal S16x512 .bf16) (st : Vec Ideal S1x128x128 .f32) (t : Fin 16) (v : Fin 128) :
    k0_pay66 sc q i st (ix2 t v) = scaled (row (fun t s => sc (ix2 t s)) (fun t l => q (ix2 t l)) (fun t l => i (ix2 t l)) (fun v d => st (ix3 0 v d)) 0 t) v := by
  pointwise [k0_pay66, k0_pay64]
  simp only [lane_zero]
  rfl

theorem head1 (sc : FVec Ideal S16x16 .f32) (q i : FVec Ideal S16x512 .bf16) (st : Vec Ideal S1x128x128 .f32) (t : Fin 16) (v : Fin 128) :
    k0_pay71 (k0_pay68 sc i) (k0_pay69 q st) (ix2 t v) = scaled (row (fun t s => sc (ix2 t s)) (fun t l => q (ix2 t l)) (fun t l => i (ix2 t l)) (fun v d => st (ix3 0 v d)) 1 t) v := by
  pointwise [k0_pay71, k0_pay68, k0_pay69, k0_pay67]
  rfl

section Last

variable (sc2 sc3 : FVec Ideal S16x16 .f32) (q i : FVec Ideal S16x512 .bf16) (st2 st3 : Vec Ideal S1x128x128 .f32) (g : FVec Ideal S16x512 .f32)
  (o0 o1 : FVec Ideal S16x128 .f32) (t : Fin 16) (v : Fin 128)

/-- The four heads' rows side by side, gated. -/
def joined : FVec Ideal S1x16x512 .bf16 := k0_pay1 (k0_pay78 sc3 q i g o0 o1 (k0_pay73 sc2 q i st2) (k0_pay75 sc2 q i st2) st3)

theorem state_apply (v d : Fin 128) : k0_pay76 st3 (ix2 v d) = st3 (ix3 0 v d) := by
  pointwise [k0_pay76]

theorem row_apply (v : Fin 128) : k0_pay73 sc2 q i st2 (ix2 t v)
    = row (fun t s => sc2 (ix2 t s)) (fun t l => q (ix2 t l)) (fun t l => i (ix2 t l)) (fun v d => st2 (ix3 0 v d)) 2 t v := by
  pointwise [k0_pay73, k0_pay72]
  rfl

theorem square_apply (v : Fin 128) : k0_pay75 sc2 q i st2 (ix2 t v) = (k0_pay73 sc2 q i st2 (ix2 t v) * k0_pay73 sc2 q i st2 (ix2 t v) : EReal) := by
  pointwise [k0_pay75]

theorem joined0 : joined sc2 sc3 q i st2 st3 g o0 o1 (ix3 0 t (lane 0 v)) = (o0 (ix2 t v) * g (ix2 t (lane 0 v)) : EReal) := by
  have e : ((lane 0 v : Fin 512) : ℕ) = v := Nat.zero_add _
  generalize lane 0 v = l at e ⊢
  pointwise [joined, k0_pay1, k0_pay78]
  rw [dif_pos (show (l : ℕ) < 128 by omega)]
  rw [show ((⟨(l : ℕ), by omega⟩ : Fin 128)) = v from Fin.ext (by simp only []; omega)]

theorem joined1 : joined sc2 sc3 q i st2 st3 g o0 o1 (ix3 0 t (lane 1 v)) = (o1 (ix2 t v) * g (ix2 t (lane 1 v)) : EReal) := by
  have e : ((lane 1 v : Fin 512) : ℕ) = 128 + v := rfl
  generalize lane 1 v = l at e ⊢
  pointwise [joined, k0_pay1, k0_pay78]
  rw [dif_neg (show ¬(l : ℕ) < 128 by omega)]
  rw [dif_pos (show (l : ℕ) - 128 < 128 by omega)]
  rw [show ((⟨(l : ℕ) - 128, by omega⟩ : Fin 128)) = v from Fin.ext (by simp only []; omega)]

theorem joined2 : joined sc2 sc3 q i st2 st3 g o0 o1 (ix3 0 t (lane 2 v)) = (scaled (row (fun t s => sc2 (ix2 t s)) (fun t l => q (ix2 t l)) (fun t l => i (ix2 t l)) (fun v d => st2 (ix3 0 v d)) 2 t) v * g (ix2 t (lane 2 v)) : EReal) := by
  have e : ((lane 2 v : Fin 512) : ℕ) = 256 + v := rfl
  generalize lane 2 v = l at e ⊢
  pointwise [joined, k0_pay1, k0_pay78]
  rw [dif_neg (show ¬(l : ℕ) < 128 by omega)]
  rw [dif_neg (show ¬(l : ℕ) - 128 < 128 by omega)]
  rw [dif_pos (show (l : ℕ) - 128 - 128 < 128 by omega)]
  rw [show ((⟨(l : ℕ) - 128 - 128, by omega⟩ : Fin 128)) = v from Fin.ext (by simp only []; omega)]
  simp only [square_apply, row_apply]
  rfl

theorem last_apply (a b c d : FVec Ideal S16x128 .f32) (l : Fin 512) (e : (l : ℕ) = 384 + v) :
    concatenate S16x512 1 [⟨S16x128, a⟩, ⟨S16x128, b⟩, ⟨S16x128, c⟩, ⟨S16x128, d⟩] concatenates_S16x128_S16x128_S16x128_S16x128_S16x512_d1 (ix2 t l)
      = d (ix2 t v) := by
  pointwise []
  rw [dif_neg (show ¬(l : ℕ) < 128 by omega)]
  rw [dif_neg (show ¬(l : ℕ) - 128 < 128 by omega)]
  rw [dif_neg (show ¬(l : ℕ) - 128 - 128 < 128 by omega)]
  rw [show ((⟨(l : ℕ) - 128 - 128 - 128, by omega⟩ : Fin 128)) = v from Fin.ext (by simp only []; omega)]

theorem spread_apply (x : FVec Ideal S16x512 .bf16) (l : Fin 512) : k0_pay1 x (ix3 0 t l) = x (ix2 t l) := by
  pointwise [k0_pay1]

theorem joined3 : joined sc2 sc3 q i st2 st3 g o0 o1 (ix3 0 t (lane 3 v)) = (scaled (row (fun t s => sc3 (ix2 t s)) (fun t l => q (ix2 t l)) (fun t l => i (ix2 t l)) (fun v d => st3 (ix3 0 v d)) 3 t) v * g (ix2 t (lane 3 v)) : EReal) := by
  have e : ((lane 3 v : Fin 512) : ℕ) = 384 + v := rfl
  refine (spread_apply t _ _).trans ?_
  refine (congrArg (fun z : EReal => z * g (ix2 t (lane 3 v))) (last_apply t v o0 o1 _ _ (lane 3 v) e)).trans ?_
  pointwise []
  simp only [state_apply]
  rfl

end Last

end Cert.Proof.RecNorm

end
-- ==== Proof.RecMixed.lean ====
/-
  THE REFERENCE'S MIXED HALF, read at an index.
-/
module

public import proofs.«01_k».proof.Proof.RecRef
public import proofs.«01_k».proof.Proof.RecNorm

@[expose] public section

set_option maxRecDepth 16384

noncomputable section

namespace Cert.Proof.RecMixed

open Idealize.ShloMosaic Idealize.ShloMosaic.TcCoe
open Cert.RecurrenceSampleReferenceIdeal Cert.RecurrenceSampleReferenceIdeal.Gen
open Cert.Proof.RecPays (lane)
open Cert.Proof.RecRef
open scoped BigOperators

/-- A row times its sigmoid. -/
def swish (x : FVec Ideal S8x16x512 .bf16) : FVec Ideal S8x16x512 .f32 :=
  mulf (extf .f32 x bitsLt_bf16_f32) (Host.divf ones (addf ones (Host.exp (Host.negf (extf .f32 x bitsLt_bf16_f32)))))

/-- Every row against the rows of the second place, and against those of the first. -/
def left (x : FVec Ideal S8x4x16x128 .f32) : FVec Ideal S8x4x16x16x128 .f32 :=
  broadcastInDim S8x4x16x16x128 ![0, 1, 2, 3, 4] bcast_S8x4x16x1x128_S8x4x16x16x128_0_1_2_3_4
    (broadcastInDim S8x4x16x1x128 ![0, 1, 2, 4] bcast_S8x4x16x128_S8x4x16x1x128_0_1_2_4 x)

def right (x : FVec Ideal S8x4x16x128 .f32) : FVec Ideal S8x4x16x16x128 .f32 :=
  broadcastInDim S8x4x16x16x128 ![0, 1, 2, 3, 4] bcast_S8x4x1x16x128_S8x4x16x16x128_0_1_2_3_4
    (broadcastInDim S8x4x1x16x128 ![0, 1, 3, 4] bcast_S8x4x16x128_S8x4x1x16x128_0_1_3_4 x)

/-- Whether a row is not before another. -/
def causal : IVec S16x16 1 :=
  select (cmpi .sge (addi (iotaInDim S16x16 32 0) (broadcastInDim S16x16 ![] bcast_S_S16x16 (constantI S_ 32 0#32))) (iotaInDim S16x16 32 1))
    (broadcastInDim S16x16 ![] bcast_S_S16x16 (constantI S_ 1 1#1)) (broadcastInDim S16x16 ![] bcast_S_S16x16 (constantI S_ 1 0#1))

def decays (b : FVec Ideal S8x4x16x128 .f32) : FVec Ideal S8x4x16x16x128 .f32 :=
  select (broadcastInDim S8x4x16x16x128 ![2, 3, 4] bcast_S16x16x1_S8x4x16x16x128_2_3_4 (broadcastInDim S16x16x1 ![0, 1] bcast_S16x16_S16x16x1_0_1 causal))
    (Host.exp (minimumf (subf (left b) (right b)) (broadcastInDim S8x4x16x16x128 ![] bcast_S_S8x4x16x16x128 (constant S_ .f32 0x00000000#32))))
    (broadcastInDim S8x4x16x16x128 ![] bcast_S_S8x4x16x16x128 (id (constant S_ .f32 0x00000000#32)))

def scores (q k b : FVec Ideal S8x4x16x128 .f32) : FVec Ideal S8x4x16x16 .f32 :=
  Host.reduceAdd (mulf (mulf (left q) (right k)) (decays b)) (constant S_ .f32 0x00000000#32) reducesTo_S8x4x16x16x128_S8x4x16x16_d4 h_S_

/-- The outputs before they are scaled. -/
def rows (q k b i : FVec Ideal S8x4x16x128 .f32) (s : FVec Ideal S1x8x4x128x128 .f32) : FVec Ideal S8x4x16x128 .f32 :=
  addf (Host.dotGeneral dot_S8x4x16x16_S8x4x16x128_S8x4x16x128_3_2_2_3_01_01 none (scores q k b) i)
    (Host.dotGeneral dot_S8x4x16x128_S8x4x128x128_S8x4x16x128_3_2_2_3_01_01 none (mulf q (Host.exp b))
      (shapeCast S8x4x128x128 s shapeCasts_S1x8x4x128x128_S8x4x128x128))

def normed (o : FVec Ideal S8x4x16x128 .f32) : FVec Ideal S8x4x16x128 .f32 :=
  mulf o (broadcastInDim S8x4x16x128 ![0, 1, 2, 3] bcast_S8x4x16x1_S8x4x16x128_0_1_2_3 (Host.rsqrt (addf
    (Host.divf (broadcastInDim S8x4x16x1 ![0, 1, 2] bcast_S8x4x16_S8x4x16x1_0_1_2
      (Host.reduceAdd (mulf o o) (constant S_ .f32 0x00000000#32) reducesTo_S8x4x16x128_S8x4x16_d3 h_S_))
      (broadcastInDim S8x4x16x1 ![] bcast_S_S8x4x16x1 (constant S_ .f32 0x43000000#32)))
    (broadcastInDim S8x4x16x1 ![] bcast_S_S8x4x16x1 (constant S_ .f32 0x358637BD#32)))))

/-- Heads put side by side. -/
def joined (o : FVec Ideal S8x4x16x128 .f32) : FVec Ideal S8x16x512 .f32 :=
  shapeCast S8x16x512 (transpose S8x16x4x128 [0, 2, 1, 3] o transposes_S8x4x16x128_S8x16x4x128_0_2_1_3) shapeCasts_S8x16x4x128_S8x16x512

def whole (q : FVec Ideal S8x16x512 .bf16) (f : FVec Ideal S8x16x512 .f32) (i g : FVec Ideal S8x16x512 .bf16) (a : FVec Ideal S2x512 .f32)
    (n : FVec Ideal S1x512 .f32) (s : FVec Ideal S1x8x4x128x128 .f32) : FVec Ideal S8x16x512 .bf16 :=
  truncf .bf16 (mulf (mulf
    (joined (normed (rows (heads (swish q)) (heads (subf ones (gates a f))) (running (heads (Host.log (gates a f)))) (heads (extf .f32 i bitsLt_bf16_f32)) s)))
    (broadcastInDim S8x16x512 ![0, 1, 2] bcast_S1x1x512_S8x16x512_0_1_2 (broadcastInDim S1x1x512 ![2] bcast_S512_S1x1x512_2
      (shapeCast S512 n shapeCasts_S1x512_S512)))) (swish g)) bitsLt_bf16_f32

variable (m : (ℓ : Loc nD τ sig) → Buf (Elt Ideal) ℓ)

/-- What the reference leaves is this term of its arguments. -/
theorem result_eq (c : Dev nD) : Value.res_out0 m c = whole (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := by
  unfold Value.res_out0 Value.res_main_v99 whole joined normed rows scores decays causal right left swish running heads gates ones first softmax scaled
  rfl

theorem swish_apply (x : FVec Ideal S8x16x512 .bf16) (b : Fin 8) (t : Fin 16) (l : Fin 512) :
    swish x (ix3 b t l) = RecNorm.silu (x (ix3 b t l)) := by
  pointwise [swish, ones]
  unfold RecNorm.silu
  rw [zero_sub]

theorem causal_words : ∀ t s : Fin 16,
    IntOp.cmpi .sge (IntOp.addi (BitVec.ofNat 32 (t : ℕ)) 0#32) (BitVec.ofNat 32 (s : ℕ)) = if (s : ℕ) ≤ t then 1#1 else 0#1 := by decide +kernel

theorem causal_apply (t s : Fin 16) : causal (ix2 t s) = if (s : ℕ) ≤ t then 1#1 else 0#1 := by
  have := causal_words t s
  pointwise [causal]
  rw [this]
  split <;> rfl

theorem decays_apply (g : FVec Ideal S8x4x16x128 .f32) (b : Fin 8) (h : Fin 4) (t s : Fin 16) (d : Fin 128) :
    decays g (ix5 b h t s d) = if (s : ℕ) ≤ t then Ideal.exp (min (g (ix4 b h t d) - g (ix4 b h s d)) 0) else 0 := by
  pointwise [decays, left, right]
  rw [causal_apply]
  split
  · rfl
  · exact Ideal.ofBits_zero_f32

theorem scores_apply (q k g : FVec Ideal S8x4x16x128 .f32) (b : Fin 8) (h : Fin 4) (t s : Fin 16) :
    scores q k g (ix4 b h t s) = ∑ d : Fin 128, q (ix4 b h t d) * k (ix4 b h s d)
      * (if (s : ℕ) ≤ t then Ideal.exp (min (g (ix4 b h t d) - g (ix4 b h s d)) 0) else 0) := by
  pointwise [scores, left, right]
  simp only [decays_apply]

theorem rows_apply (q k g i : FVec Ideal S8x4x16x128 .f32) (s : FVec Ideal S1x8x4x128x128 .f32) (b : Fin 8) (h : Fin 4) (t : Fin 16) (v : Fin 128) :
    rows q k g i s (ix4 b h t v) = (∑ j : Fin 16, scores q k g (ix4 b h t j) * i (ix4 b h j v))
      + ∑ d : Fin 128, q (ix4 b h t d) * Ideal.exp (g (ix4 b h t d)) * s (ix5 0 b h d v) := by
  pointwise [rows]

theorem normed_apply (o : FVec Ideal S8x4x16x128 .f32) (b : Fin 8) (h : Fin 4) (t : Fin 16) (v : Fin 128) :
    normed o (ix4 b h t v) = RecNorm.scaled (fun u => o (ix4 b h t u)) v := by
  pointwise [normed]
  rfl

theorem joined_apply (o : FVec Ideal S8x4x16x128 .f32) (b : Fin 8) (h : Fin 4) (t : Fin 16) (v : Fin 128) :
    joined o (ix3 b t (lane h v)) = o (ix4 b h t v) := by
  have e : ((lane h v : Fin 512) : ℕ) = 128 * h + v := rfl
  generalize lane h v = l at e ⊢
  pointwise [joined]
  congr 2
  · exact Fin.ext (by simp only []; omega)
  · exact Fin.ext (by simp only []; omega)

theorem whole_apply (q : FVec Ideal S8x16x512 .bf16) (f : FVec Ideal S8x16x512 .f32) (i g : FVec Ideal S8x16x512 .bf16) (a : FVec Ideal S2x512 .f32)
    (n : FVec Ideal S1x512 .f32) (s : FVec Ideal S1x8x4x128x128 .f32) (b : Fin 8) (h : Fin 4) (t : Fin 16) (v : Fin 128) :
    whole q f i g a n s (ix3 b t (lane h v))
      = RecNorm.scaled (fun u => rows (heads (swish q)) (heads (subf ones (gates a f))) (running (heads (Host.log (gates a f))))
          (heads (extf .f32 i bitsLt_bf16_f32)) s (ix4 b h t u)) v * (n (ix2 0 (lane h v)) * RecNorm.silu (g (ix3 b t (lane h v)))) := by
  pointwise [whole]
  rw [joined_apply, normed_apply, swish_apply, mul_assoc]

end Cert.Proof.RecMixed

end
-- ==== Proof.RecBlock.lean ====
/-
  THE RECURRENCE'S BLOCK: the new states of the four heads of one batch, as the body leaves them.
-/
module

public import proofs.«01_k».proof.Proof.RecPays
public import Idealize.ShloMosaic.Lib.Pipeline.ReadBack

@[expose] public section

set_option maxRecDepth 16384

noncomputable section

namespace Cert.Proof.RecBlock

open Idealize.ShloMosaic Idealize.ShloMosaic.TcCoe Idealize.SL.Sem
open Cert.RecurrenceSampleIdeal Cert.RecurrenceSampleIdeal.Gen Cert.Proof.RecPays
open scoped BigOperators

/-- The logarithms of the gates and their sums by a row of the table, at a lane. -/
def logs (x1 : Vec Ideal S1x16x512 .f32) (x6 : Vec Ideal S2x512 .f32) (l : Fin 512) (t : Fin 16) : EReal :=
  Ideal.log (gate (fun r => x6 (ix2 r l)) (x1 (ix3 0 t l)))

def sums (x1 : Vec Ideal S1x16x512 .f32) (x4 : Vec Ideal S96x16 .bf16) (x6 : Vec Ideal S2x512 .f32) (n : Fin 96) (l : Fin 512) : EReal :=
  parts (fun j => x4 (ix2 n j)) (logs x1 x6 l)

/-- A head's new state. -/
def state (x1 : Vec Ideal S1x16x512 .f32) (x2 : Vec Ideal S1x16x512 .bf16) (x4 : Vec Ideal S96x16 .bf16) (x6 : Vec Ideal S2x512 .f32)
    (x8 : Vec Ideal S1x1x4x128x128 .f32) (h : Fin 4) (d v : Fin 128) : EReal :=
  x8 (ix5 0 0 h d v) * Ideal.exp (sums x1 x4 x6 79 (lane h d))
    + ∑ t : Fin 16, x2 (ix3 0 t (lane h v))
        * ((1 - gate (fun r => x6 (ix2 r (lane h d))) (x1 (ix3 0 t (lane h d)))) * Ideal.exp (sums x1 x4 x6 ⟨80 + t, by omega⟩ (lane h d)))

theorem hz2 : (![0, 0] : Fin 2 → ℕ) = fun _ => 0 := by funext a; fin_cases a <;> rfl
theorem hz3 : (![0, 0, 0] : Fin 3 → ℕ) = fun _ => 0 := by funext a; fin_cases a <;> rfl

/-- A head's new state, of the tables' rows and of the old state read transposed. -/
theorem after_state (x1 : Vec Ideal S1x16x512 .f32) (x2 : Vec Ideal S1x16x512 .bf16) (x4 : Vec Ideal S96x16 .bf16) (x6 : Vec Ideal S2x512 .f32)
    (x8 : Vec Ideal S1x1x4x128x128 .f32) (h : Fin 4) (d v : Fin 128) (w u : Vec Ideal S16x16 .bf16) (s : Vec Ideal S1x128x128 .f32)
    (hw : ∀ t j : Fin 16, w (ix2 t j) = x4 (ix2 ⟨80 + t, by omega⟩ j)) (hu : ∀ j : Fin 16, u (ix2 15 j) = x4 (ix2 79 j))
    (hs : s (ix3 0 v d) = x8 (ix5 0 0 h d v)) :
    after h (k0_pay57 (k0_pay12 x6 x1) (k0_pay16 (k0_pay11 x6 x1)) w) (k0_pay58 (k0_pay16 (k0_pay11 x6 x1)) u) (k0_pay59 x2) s v d
      = state x1 x2 x4 x6 x8 h d v := by
  unfold after state
  simp only [factor_apply, total_apply, input_apply, rest_apply, log_apply, hw, hu, hs]
  rfl

theorem index (x : S1x1x1x128x128.Idx) (d v : Fin 128) (hd : (d : ℕ) = (x 3 : ℕ)) (hv : (v : ℕ) = (x 4 : ℕ)) :
    x = ix5 0 0 0 d v := by
  funext a
  apply Fin.ext
  have h0 : (x 0 : ℕ) < 1 := (x 0).isLt
  have h1 : (x 1 : ℕ) < 1 := (x 1).isLt
  have h2 : (x 2 : ℕ) < 1 := (x 2).isLt
  match a with
  | ⟨0, _⟩ => show (x 0 : ℕ) = 0; omega
  | ⟨1, _⟩ => show (x 1 : ℕ) = 0; omega
  | ⟨2, _⟩ => show (x 2 : ℕ) = 0; omega
  | ⟨3, _⟩ => exact hd.symm
  | ⟨4, _⟩ => exact hv.symm

theorem out_apply (c : Dev nD) (i : grid0.Coords) (arg2 : Memref sig .tc .vmem S1x16x512 .bf16) (harg2 : arg2.IsWhole) (arg3 : Memref sig .tc .vmem S1x16x512 .f32) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S96x16 .bf16) (harg6 : arg6.IsWhole) (arg7 : Memref sig .tc .vmem S16x16 .i32) (harg7 : arg7.IsWhole) (arg8 : Memref sig .tc .vmem S2x512 .f32) (harg8 : arg8.IsWhole) (arg9 : Memref sig .tc .vmem S1x512 .f32) (harg9 : arg9.IsWhole) (arg10 : Memref sig .tc .vmem S1x1x4x128x128 .f32) (harg10 : arg10.IsWhole) (arg11 : Memref sig .tc .vmem S1x16x512 .bf16) (harg11 : arg11.IsWhole) (arg12 : Memref sig .tc .vmem S1x1x4x128x128 .f32) (harg12 : arg12.IsWhole) (arg13 : Memref sig .tc .vmem S4x128x128 .f32) (harg13 : arg13.IsWhole) (hc0 : cond0_0 i) (hc1 : cond0_1 i)
    (x0 : Vec Ideal S1x16x512 .bf16) (x1 : Vec Ideal S1x16x512 .f32) (x2 : Vec Ideal S1x16x512 .bf16) (x3 : Vec Ideal S1x16x512 .bf16) (x4 : Vec Ideal S96x16 .bf16) (x5 : Vec Ideal S16x16 .i32) (x6 : Vec Ideal S2x512 .f32) (x7 : Vec Ideal S1x512 .f32) (x8 : Vec Ideal S1x1x4x128x128 .f32) (h : Fin 4) (d v : Fin 128) :
    out0_A_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix5 0 0 h d v) = state x1 x2 x4 x6 x8 h d v := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  canon_tiles x hh
  · obtain rfl : h = 3 := Fin.ext (by change (h : ℕ) = 3 + (x 2 : ℕ) at hh2; show (h : ℕ) = 3; omega)
    obtain rfl : x = ix5 0 0 0 d v := index x d v hh3 hh4
    rw [stored3]
    unfold kernelRun0_A.sl.v409 kernelRun0_A.sl.HS0_8
    rw [View.readCov_cons_toLoadRect]
    rw [state3]
    unfold kernelRun0_A.sl.v353 kernelRun0_A.sl.HS0_7 kernelRun0_A.sl.HS0_6 kernelRun0_A.sl.HS0_5 kernelRun0_A.sl.HS0_4
    rw [View.readCov_skip _ _ _ _ _ (by decide), View.readCov_skip _ _ _ _ _ (by decide), View.readCov_skip _ _ _ _ _ (by decide)]
    rw [View.readCov_cons_toLoadRect]
    sl_unfold_run_names
    simp only [View.readAt_eq_ld, harg3.read_unread, harg4.read_unread, harg5.read_unread, harg6.read_unread, harg8.read_unread, harg10.read_unread]
    rw [View.ld_unit_zero hz2, View.ld_unit_zero hz3, View.ld_unit_zero hz3]
    refine after_state x1 x2 x4 x6 x8 _ _ _ _ _ _ (fun t j => ?_) (fun j => ?_) ?_
    all_goals pointwise []
  · obtain rfl : h = 2 := Fin.ext (by change (h : ℕ) = 2 + (x 2 : ℕ) at hh2; show (h : ℕ) = 2; omega)
    obtain rfl : x = ix5 0 0 0 d v := index x d v hh3 hh4
    rw [stored2]
    unfold kernelRun0_A.sl.v403 kernelRun0_A.sl.HS0_8 kernelRun0_A.sl.HS0_7
    rw [View.readCov_skip _ _ _ _ _ (by decide)]
    rw [View.readCov_cons_toLoadRect]
    rw [state2]
    unfold kernelRun0_A.sl.v324 kernelRun0_A.sl.HS0_6 kernelRun0_A.sl.HS0_5 kernelRun0_A.sl.HS0_4
    rw [View.readCov_skip _ _ _ _ _ (by decide), View.readCov_skip _ _ _ _ _ (by decide), View.readCov_skip _ _ _ _ _ (by decide)]
    rw [View.readCov_cons_toLoadRect]
    sl_unfold_run_names
    simp only [View.readAt_eq_ld, harg3.read_unread, harg4.read_unread, harg5.read_unread, harg6.read_unread, harg8.read_unread, harg10.read_unread]
    rw [View.ld_unit_zero hz2, View.ld_unit_zero hz3, View.ld_unit_zero hz3]
    refine after_state x1 x2 x4 x6 x8 _ _ _ _ _ _ (fun t j => ?_) (fun j => ?_) ?_
    all_goals pointwise []
  · obtain rfl : h = 1 := Fin.ext (by change (h : ℕ) = 1 + (x 2 : ℕ) at hh2; show (h : ℕ) = 1; omega)
    obtain rfl : x = ix5 0 0 0 d v := index x d v hh3 hh4
    rw [stored1]
    unfold kernelRun0_A.sl.v397 kernelRun0_A.sl.HS0_8 kernelRun0_A.sl.HS0_7 kernelRun0_A.sl.HS0_6
    rw [View.readCov_skip _ _ _ _ _ (by decide), View.readCov_skip _ _ _ _ _ (by decide)]
    rw [View.readCov_cons_toLoadRect]
    unfold kernelRun0_A.sl.r_43
    rw [state1]
    unfold kernelRun0_A.sl.v295 kernelRun0_A.sl.HS0_5 kernelRun0_A.sl.HS0_4
    rw [View.readCov_skip _ _ _ _ _ (by decide), View.readCov_skip _ _ _ _ _ (by decide), View.readCov_skip _ _ _ _ _ (by decide)]
    rw [View.readCov_cons_toLoadRect]
    sl_unfold_run_names
    simp only [View.readAt_eq_ld, harg3.read_unread, harg4.read_unread, harg5.read_unread, harg6.read_unread, harg8.read_unread, harg10.read_unread]
    rw [View.ld_unit_zero hz2, View.ld_unit_zero hz3, View.ld_unit_zero hz3]
    refine after_state x1 x2 x4 x6 x8 _ _ _ _ _ _ (fun t j => ?_) (fun j => ?_) ?_
    all_goals pointwise []
  · obtain rfl : h = 0 := Fin.ext (by change (h : ℕ) = (x 2 : ℕ) at hh2; show (h : ℕ) = 0; omega)
    obtain rfl : x = ix5 0 0 0 d v := index x d v hh3 hh4
    rw [stored0]
    unfold kernelRun0_A.sl.v391 kernelRun0_A.sl.HS0_8 kernelRun0_A.sl.HS0_7 kernelRun0_A.sl.HS0_6 kernelRun0_A.sl.HS0_5
    rw [View.readCov_skip _ _ _ _ _ (by decide), View.readCov_skip _ _ _ _ _ (by decide), View.readCov_skip _ _ _ _ _ (by decide)]
    rw [View.readCov_cons_toLoadRect]
    rw [state0]
    unfold kernelRun0_A.sl.v266 kernelRun0_A.sl.HS0_4
    rw [View.readCov_skip _ _ _ _ _ (by decide), View.readCov_skip _ _ _ _ _ (by decide), View.readCov_skip _ _ _ _ _ (by decide)]
    rw [View.readCov_cons_toLoadRect]
    sl_unfold_run_names
    simp only [View.readAt_eq_ld, harg3.read_unread, harg4.read_unread, harg5.read_unread, harg6.read_unread, harg8.read_unread, harg10.read_unread]
    rw [View.ld_unit_zero hz2, View.ld_unit_zero hz3, View.ld_unit_zero hz3]
    refine after_state x1 x2 x4 x6 x8 _ _ _ _ _ _ (fun t j => ?_) (fun j => ?_) ?_
    all_goals pointwise []

end Cert.Proof.RecBlock

end
-- ==== Proof.RecMath.lean ====
/-
  THE RECURRENCE'S GATES ARE REAL. Of real logits the least gate is a positive real of at most one, the sigmoid lies between
  zero and one whatever its argument, so every gate is a positive real of at most one and its logarithm a real of at most zero; and of reals the parts a
  number is cut into past the first are zero, and the rows of the table give sums and their differences.
-/
module

public import proofs.«01_k».proof.Proof.RecPays

@[expose] public section

set_option maxRecDepth 16384

noncomputable section

namespace Cert.Proof.RecMath

open Idealize.ShloMosaic
open Cert.Proof.RecPays
open scoped BigOperators

theorem peak_coe (a : Fin 2 → ℝ) : peak (fun r => (a r : EReal)) = ((max (a 0) (a 1) : ℝ) : EReal) := by
  have hb : Ideal.ofBits FTy.f32 4286578688#32 = (⊥ : EReal) := by simp [Ideal.ofBits, Ideal.ieee]
  unfold peak
  rw [hb]
  have hu : (Finset.univ : Finset (Fin 2)) = {0, 1} := by decide
  rw [hu, Finset.fold_insert (by decide), Finset.fold_singleton, max_bot_right]
  exact (EReal.coe_strictMono.monotone.map_max).symm

theorem sigmoid_coe (z : EReal) : ∃ s : ℝ, Ideal.div 1 (1 + Ideal.exp (0 - z)) = (s : EReal) ∧ 0 ≤ s ∧ s ≤ 1 := by
  induction z with
  | bot =>
    have e : (1 : EReal) + Ideal.exp (0 - ⊥) = ⊤ := EReal.add_top_of_ne_bot (by decide)
    exact ⟨0, by rw [e]; simp [Ideal.div], le_rfl, zero_le_one⟩
  | top => exact ⟨1, by
      have : Ideal.div 1 ((1 : ℝ) : EReal) = ((1 : ℝ) : EReal) := by rw [Ideal.div_coe (by norm_num)]; simp
      simpa using this, zero_le_one, le_rfl⟩
  | coe r =>
    have hp : (0 : ℝ) < 1 + Real.exp (-r) := by positivity
    have e : (1 : EReal) + Ideal.exp (0 - (r : EReal)) = ((1 + Real.exp (-r) : ℝ) : EReal) := by
      rw [zero_sub, ← EReal.coe_neg, Ideal.exp_coe, EReal.coe_add, EReal.coe_one]
    refine ⟨1 / (1 + Real.exp (-r)), ?_, by positivity, ?_⟩
    · rw [e, Ideal.div_coe hp.ne', one_mul]
    · rw [div_le_one hp]
      have := Real.exp_pos (-r)
      linarith

theorem least_coe (a : Fin 2 → ℝ) : ∃ l : ℝ, least (fun r => (a r : EReal)) = (l : EReal) ∧ 0 < l ∧ l ≤ 1 := by
  have hp : (0 : ℝ) < Real.exp (a 0 - max (a 0) (a 1)) + Real.exp (a 1 - max (a 0) (a 1)) := by positivity
  refine ⟨Real.exp (a 0 - max (a 0) (a 1)) * (1 / (Real.exp (a 0 - max (a 0) (a 1)) + Real.exp (a 1 - max (a 0) (a 1)))), ?_, by positivity, ?_⟩
  · unfold least
    rw [peak_coe, Fin.sum_univ_one, Fin.sum_univ_two]
    simp only [← EReal.coe_sub, Ideal.exp_coe]
    rw [← EReal.coe_add, Ideal.div_coe hp.ne', ← EReal.coe_mul]
  · rw [mul_one_div, div_le_one hp]
    have := Real.exp_pos (a 1 - max (a 0) (a 1))
    linarith

theorem gate_coe (a : Fin 2 → ℝ) (z : EReal) : ∃ g : ℝ, gate (fun r => (a r : EReal)) z = (g : EReal) ∧ 0 < g ∧ g ≤ 1 := by
  obtain ⟨l, hl, h0, h1⟩ := least_coe a
  obtain ⟨s, hs, s0, s1⟩ := sigmoid_coe z
  refine ⟨l + (1 - l) * s, ?_, by nlinarith [mul_nonneg (sub_nonneg.mpr h1) s0],
    by nlinarith [mul_nonneg (sub_nonneg.mpr h1) (sub_nonneg.mpr s1)]⟩
  unfold gate
  rw [hl, hs, ← EReal.coe_one, ← EReal.coe_sub, ← EReal.coe_mul, ← EReal.coe_add]

/-- The logarithm of a gate of real logits is a real of at most zero. -/
theorem log_gate (a : Fin 2 → ℝ) (z : EReal) : ∃ r : ℝ, Ideal.log (gate (fun r => (a r : EReal)) z) = (r : EReal) ∧ r ≤ 0 := by
  obtain ⟨g, hg, h0, h1⟩ := gate_coe a z
  exact ⟨Real.log g, by rw [hg, Ideal.log_coe, if_neg (not_le.mpr h0)], Real.log_nonpos h0.le h1⟩

/-- Of reals, the parts give the sum of the column by the row. -/
theorem parts_coe (row : Fin 16 → EReal) (g : Fin 16 → ℝ) :
    parts row (fun j => (g j : EReal)) = ∑ j, row j * (g j : EReal) := by
  unfold parts
  simp only [← EReal.coe_sub, sub_self, EReal.coe_zero, sub_zero, mul_zero, Finset.sum_const_zero, add_zero]

/-- A row of ones sums the column, -/
theorem parts_all (row : Fin 16 → EReal) (g : ℕ → ℝ) (hrow : ∀ j, row j = 1) :
    parts row (fun j => (g j : EReal)) = ∑ j : Fin 16, if (j : ℕ) ≤ 15 then (g j : EReal) else 0 := by
  rw [parts_coe]
  refine Finset.sum_congr rfl fun j _ => ?_
  rw [hrow, one_mul, if_pos (by omega)]

/-- and a row of ones after the first `t + 1` places is the difference of two sums of the first. -/
theorem parts_after (row : Fin 16 → EReal) (g : ℕ → ℝ) (t : Fin 16) (hrow : ∀ j, row j = if (t : ℕ) < j then 1 else 0) :
    parts row (fun j => (g j : EReal))
      = (∑ j : Fin 16, if (j : ℕ) ≤ 15 then (g j : EReal) else 0) - ∑ j : Fin 16, if (j : ℕ) ≤ t then (g j : EReal) else 0 := by
  have cast : ∀ f : Fin 16 → ℝ, (∑ j, ((f j : ℝ) : EReal)) = ((∑ j, f j : ℝ) : EReal) := fun f =>
    (map_sum (⟨⟨((↑) : ℝ → EReal), EReal.coe_zero⟩, EReal.coe_add⟩ : ℝ →+ EReal) f Finset.univ).symm
  have e1 : ∀ n : ℕ, (∑ j : Fin 16, if (j : ℕ) ≤ n then (g j : EReal) else 0)
      = ((∑ j : Fin 16, if (j : ℕ) ≤ n then g j else 0 : ℝ) : EReal) := fun n => by
    rw [← cast]
    refine Finset.sum_congr rfl fun j _ => ?_
    split <;> simp
  have e2 : (∑ j, row j * (g j : EReal)) = ((∑ j : Fin 16, if (t : ℕ) < j then g j else 0 : ℝ) : EReal) := by
    rw [← cast]
    refine Finset.sum_congr rfl fun j _ => ?_
    rw [hrow]
    split <;> simp
  rw [parts_coe, e1, e1, e2, ← EReal.coe_sub, ← Finset.sum_sub_distrib]
  congr 1
  refine Finset.sum_congr rfl fun j _ => ?_
  by_cases h : (j : ℕ) ≤ t
  · rw [if_neg (by omega), if_pos (by omega), if_pos h, sub_self]
  · rw [if_pos (by omega), if_pos (by omega), if_neg h, sub_zero]

end Cert.Proof.RecMath

end
-- ==== Proof.RecTable.lean ====
/-
  THE RECURRENCE KERNEL'S TABLE: row 79 holds ones, and row `80 + t` ones after place `t` and zeros up to it.
-/
module

public import proofs.«01_k».proof.Proof.Gen.RecurrenceSampleIdeal.Frame
public import Idealize.ShloMosaic.Lib.Pipeline.ValueKit
public import Idealize.ShloMosaic.Lib.Pointwise
public import Idealize.ShloMosaic.Lib.IdealHost

@[expose] public section

set_option maxRecDepth 16384

noncomputable section

namespace Cert.Proof.RecTable

open Idealize.ShloMosaic Idealize.ShloMosaic.TcCoe Idealize.SL.Sem
open Cert.RecurrenceSampleIdeal Cert.RecurrenceSampleIdeal.Gen

/-- The table's words: those of one and of zero. -/
theorem words_all : ∀ j : Fin 16, lit0 ⟨1264 + (j : ℕ), by omega⟩ = 0x3F80#16 := by decide +kernel

theorem words_after : ∀ t j : Fin 16,
    lit0 ⟨1280 + 16 * (t : ℕ) + (j : ℕ), by omega⟩ = if (t : ℕ) < j then 0x3F80#16 else 0x0000#16 := by decide +kernel

theorem order : ∀ (n : Fin 96) (j : Fin 16), (S96x16.rowMajor (ix2 n j)).val = 16 * (n : ℕ) + j := by decide +kernel

variable (m : (ℓ : Loc nD τ sig) → Buf (Elt Ideal) ℓ)

theorem place : ∀ t : Fin cfg0.N, win0_4.index t = ![0, 0] := (by decide +kernel : ∀ t : Fin grid0.N, _)

/-- A point is given the whole table. -/
theorem table (c : Dev nD) (t : Fin cfg0.N) (n : Fin 96) (j : Fin 16) :
    (iblk m c 4 t : Vec Ideal S96x16 .bf16) (ix2 n j)
      = Ideal.ofBits .bf16 (lit0 ⟨16 * (n : ℕ) + j, by omega⟩) := by
  have e : (V m c main_cst : Vec Ideal S96x16 .bf16) (ix2 n j) = Ideal.ofBits .bf16 (lit0 (S96x16.rowMajor (ix2 n j))) := by
    entry_read
    rfl
  rw [show S96x16.rowMajor (ix2 n j) = (⟨16 * (n : ℕ) + j, by omega⟩ : Fin 1536) from Fin.ext (order n j)] at e
  rw [← e]
  blk_ext [iblk, place t]

theorem all (c : Dev nD) (t : Fin cfg0.N) (j : Fin 16) : (iblk m c 4 t : Vec Ideal S96x16 .bf16) (ix2 79 j) = (1 : EReal) := by
  rw [table, show (⟨16 * ((79 : Fin 96) : ℕ) + j, by omega⟩ : Fin 1536) = ⟨1264 + (j : ℕ), by omega⟩ from rfl, words_all]
  exact Ideal.ofBits_one_bf16

theorem after (c : Dev nD) (t : Fin cfg0.N) (s j : Fin 16) :
    (iblk m c 4 t : Vec Ideal S96x16 .bf16) (ix2 ⟨80 + s, by omega⟩ j) = (if (s : ℕ) < j then 1 else 0 : EReal) := by
  have e : (⟨16 * (80 + (s : ℕ)) + j, by omega⟩ : Fin 1536) = ⟨1280 + 16 * (s : ℕ) + j, by omega⟩ :=
    Fin.ext (by show 16 * (80 + (s : ℕ)) + (j : ℕ) = 1280 + 16 * (s : ℕ) + j; omega)
  rw [table]
  refine (congrArg (fun n => Ideal.ofBits .bf16 (lit0 n)) e).trans ?_
  refine (congrArg (Ideal.ofBits .bf16) (words_after s j)).trans ?_
  split
  · exact Ideal.ofBits_one_bf16
  · exact Ideal.ofBits_zero_bf16

end Cert.Proof.RecTable

end
-- ==== Proof.RecArray.lean ====
/-
  THE SAMPLE'S NEW STATES: the blocks of the launch put together, of real logits. Every element is the old one decayed by
  the whole chunk, plus the inputs each decayed by the rows after it.
-/
module

public import proofs.«01_k».proof.Proof.RecBlock
public import proofs.«01_k».proof.Proof.RecMath
public import proofs.«01_k».proof.Proof.RecTable

@[expose] public section

set_option maxRecDepth 16384

noncomputable section

namespace Cert.Proof.RecArray

open Idealize.ShloMosaic Idealize.ShloMosaic.TcCoe Idealize.SL.Sem
open Idealize.ShloMosaic.Pipeline (Dat)
open Cert.RecurrenceSampleIdeal Cert.RecurrenceSampleIdeal.Gen
open Cert.Proof.RecPays (lane gate)
open scoped BigOperators

/-- The gate of row `t` at lane `l`, and its logarithm (of the rows past the last one, the last one's). -/
def gateAt (f : FVec Ideal S8x16x512 .f32) (a : FVec Ideal S2x512 .f32) (b : Fin 8) (l : Fin 512) (t : Fin 16) : EReal :=
  gate (fun r => a (ix2 r l)) (f (ix3 b t l))

def logAt (f : FVec Ideal S8x16x512 .f32) (a : FVec Ideal S2x512 .f32) (b : Fin 8) (l : Fin 512) (n : ℕ) : EReal :=
  Ideal.log (gateAt f a b l ⟨n % 16, Nat.mod_lt _ (by norm_num)⟩)

/-- The logarithms summed up to row `n`. -/
def upTo (f : FVec Ideal S8x16x512 .f32) (a : FVec Ideal S2x512 .f32) (b : Fin 8) (l : Fin 512) (n : ℕ) : EReal :=
  ∑ j : Fin 16, if (j : ℕ) ≤ n then logAt f a b l j else 0

/-- The whole result array. -/
def next (f : FVec Ideal S8x16x512 .f32) (i : FVec Ideal S8x16x512 .bf16) (a : FVec Ideal S2x512 .f32)
    (s : FVec Ideal S1x8x4x128x128 .f32) (b : Fin 8) (h : Fin 4) (d v : Fin 128) : EReal :=
  Ideal.exp (upTo f a b (lane h d) 15) * s (ix5 0 b h d v)
    + ∑ t : Fin 16, (1 - gateAt f a b (lane h d) t) * Ideal.exp (upTo f a b (lane h d) 15 - upTo f a b (lane h d) t)
        * i (ix3 b t (lane h v))

def result (f : FVec Ideal S8x16x512 .f32) (i : FVec Ideal S8x16x512 .bf16) (a : FVec Ideal S2x512 .f32)
    (s : FVec Ideal S1x8x4x128x128 .f32) : FVec Ideal S1x8x4x128x128 .f32 := fun x => next f i a s (x 1) (x 2) (x 3) (x 4)

variable (m : (ℓ : Loc nD τ sig) → Buf (Elt Ideal) ℓ)

/-- The blocks each point is given. -/
theorem idx : ∀ t : Fin cfg0.N,
    win0_1.index t = ![(grid0.coords t 0).val, 0, 0]
    ∧ win0_2.index t = ![(grid0.coords t 0).val, 0, 0]
    ∧ win0_6.index t = ![0, 0]
    ∧ win0_8.index t = ![0, (grid0.coords t 0).val, 0, 0, 0]
    ∧ win0_10.index t = ![0, (grid0.coords t 0).val, 0, 0, 0] :=
  (by decide +kernel : ∀ t : Fin grid0.N, _)

abbrev argF (c : Dev nD) : FVec Ideal S8x16x512 .f32 := m ((c : Thread nD τ).loc main_arg1)
abbrev argI (c : Dev nD) : FVec Ideal S8x16x512 .bf16 := m ((c : Thread nD τ).loc main_arg2)
abbrev argA (c : Dev nD) : FVec Ideal S2x512 .f32 := m ((c : Thread nD τ).loc main_arg4)
abbrev argS (c : Dev nD) : FVec Ideal S1x8x4x128x128 .f32 := m ((c : Thread nD τ).loc main_arg6)

section Point

variable (c : Dev nD) (t : Fin cfg0.N) (b : Fin 8)

theorem block_f (hb : (b : ℕ) = (grid0.coords t 0).val) (s : Fin 16) (l : Fin 512) :
    (iblk m c 1 t : Vec Ideal S1x16x512 .f32) (ix3 0 s l) = argF m c (ix3 b s l) := by
  blk_ext [iblk, V, idx t]

theorem block_i (hb : (b : ℕ) = (grid0.coords t 0).val) (s : Fin 16) (l : Fin 512) :
    (iblk m c 2 t : Vec Ideal S1x16x512 .bf16) (ix3 0 s l) = argI m c (ix3 b s l) := by
  blk_ext [iblk, V, idx t]

theorem block_a (r : Fin 2) (l : Fin 512) : (iblk m c 6 t : Vec Ideal S2x512 .f32) (ix2 r l) = argA m c (ix2 r l) := by
  blk_ext [iblk, V, idx t]

theorem block_s (hb : (b : ℕ) = (grid0.coords t 0).val) (h : Fin 4) (d v : Fin 128) :
    (iblk m c 8 t : Vec Ideal S1x1x4x128x128 .f32) (ix5 0 0 h d v) = argS m c (ix5 0 b h d v) := by
  blk_ext [iblk, V, idx t]

theorem logs_eq (hb : (b : ℕ) = (grid0.coords t 0).val) (l : Fin 512) :
    RecBlock.logs (iblk m c 1 t) (iblk m c 6 t) l = fun j : Fin 16 => logAt (argF m c) (argA m c) b l j := by
  funext j
  unfold RecBlock.logs logAt gateAt
  simp only [block_a]
  rw [block_f m c t b hb, show (⟨(j : ℕ) % 16, Nat.mod_lt _ (by norm_num)⟩ : Fin 16) = j from Fin.ext (Nat.mod_eq_of_lt j.isLt)]

/-- What a point leaves, of real logits. -/
theorem point (ha : ∀ i, ∃ r : ℝ, argA m c i = (r : EReal)) (hb : (b : ℕ) = (grid0.coords t 0).val) (h : Fin 4) (d v : Fin 128) :
    RecBlock.state (iblk m c 1 t) (iblk m c 2 t) (iblk m c 4 t) (iblk m c 6 t) (iblk m c 8 t) h d v
      = next (argF m c) (argI m c) (argA m c) (argS m c) b h d v := by
  choose a ha using ha
  have hg : ∀ n : ℕ, ∃ r : ℝ, logAt (argF m c) (argA m c) b (lane h d) n = (r : EReal) := fun n => by
    unfold logAt gateAt
    simp only [ha]
    exact (RecMath.log_gate _ _).imp fun _ h => h.1
  choose g hg using hg
  have h15 : RecBlock.sums (iblk m c 1 t) (iblk m c 4 t) (iblk m c 6 t) 79 (lane h d) = upTo (argF m c) (argA m c) b (lane h d) 15 := by
    unfold RecBlock.sums upTo
    rw [logs_eq m c t b hb]
    simp only [hg]
    exact RecMath.parts_all _ g fun j => RecTable.all m c t j
  have hs : ∀ s : Fin 16, RecBlock.sums (iblk m c 1 t) (iblk m c 4 t) (iblk m c 6 t) ⟨80 + s, by omega⟩ (lane h d)
      = upTo (argF m c) (argA m c) b (lane h d) 15 - upTo (argF m c) (argA m c) b (lane h d) s := fun s => by
    unfold RecBlock.sums upTo
    rw [logs_eq m c t b hb]
    simp only [hg]
    exact RecMath.parts_after _ g s fun j => RecTable.after m c t s j
  unfold RecBlock.state next
  rw [h15, block_s m c t b hb, mul_comm]
  congr 1
  refine Finset.sum_congr rfl fun s _ => ?_
  rw [hs, block_i m c t b hb, block_f m c t b hb, mul_comm]
  simp only [block_a]
  rfl

theorem left (ha : ∀ i, ∃ r : ℝ, argA m c i = (r : EReal)) (h h' : Fin 4) (d v d' v' : Fin 128) (hb : (b : ℕ) = (grid0.coords t 0).val)
    (hh : (h' : ℕ) = h) (hd : (d' : ℕ) = d) (hv : (v' : ℕ) = v) :
    (outsAt0 m c t).2 (ix5 0 0 h d v) = next (argF m c) (argI m c) (argA m c) (argS m c) b h' d' v' := by
  obtain rfl : h' = h := Fin.ext hh
  obtain rfl : d' = d := Fin.ext hd
  obtain rfl : v' = v := Fin.ext hv
  refine Eq.trans ?_ (point m c t b ha hb h' d' v')
  simp only [outsAt0]
  exact RecBlock.out_apply _ _ _ _ _ _ _ _ _ _ _ _ _ _ _ _ _ _ _ _ _ _ _ _ _ _ _ _ _ _ _ _ _ _ _ _ _ _ _ _

end Point

theorem final (c : Dev nD) (ha : ∀ i, ∃ r : ℝ, argA m c i = (r : EReal)) : (dats m 0 c).arrAt 10 (cfgs 0).N
    = result (argF m c) (argI m c) (argA m c) (argS m c) := by
  refine (dats m 0 c).arrAt_eq_of_covers 10 _ (by decide +kernel) fun t _ y => ?_
  blk_simp
  rw [after0_10]
  have h0 : (y 0 : ℕ) < 1 := (y 0).isLt
  have h1 : (y 1 : ℕ) < 1 := (y 1).isLt
  obtain ⟨h, hh⟩ : ∃ r : Fin 4, (r : ℕ) = y 2 := ⟨⟨_, (y 2).isLt⟩, rfl⟩
  obtain ⟨d, hd⟩ : ∃ r : Fin 128, (r : ℕ) = y 3 := ⟨⟨_, (y 3).isLt⟩, rfl⟩
  obtain ⟨v, hv⟩ : ∃ r : Fin 128, (r : ℕ) = y 4 := ⟨⟨_, (y 4).isLt⟩, rfl⟩
  have hy : y = (ix5 0 0 h d v : S1x1x4x128x128.Idx) := by
    funext a
    apply Fin.ext
    match a with
    | ⟨0, _⟩ => show (y 0 : ℕ) = 0; omega
    | ⟨1, _⟩ => show (y 1 : ℕ) = 0; omega
    | ⟨2, _⟩ => exact hh.symm
    | ⟨3, _⟩ => exact hd.symm
    | ⟨4, _⟩ => exact hv.symm
  refine (congrArg (outsAt0 m c t).2 hy).trans (left m c t _ ha h _ d v _ _ ?_ ?_ ?_ ?_)
  · blk_simp [idx t]; (try omega)
  · blk_simp [idx t]; (try omega)
  · blk_simp [idx t]; (try omega)
  · blk_simp [idx t]; (try omega)

end Cert.Proof.RecArray

end
-- ==== Proof.RecOut.lean ====
/-
  THE RECURRENCE'S BLOCK: the rows of one batch, as the body leaves them.
-/
module

public import proofs.«01_k».proof.Proof.RecBlock
public import proofs.«01_k».proof.Proof.RecNorm

@[expose] public section

set_option maxRecDepth 16384

noncomputable section

namespace Cert.Proof.RecOut

open Idealize.ShloMosaic Idealize.ShloMosaic.TcCoe Idealize.SL.Sem
open Cert.RecurrenceSampleIdeal Cert.RecurrenceSampleIdeal.Gen Cert.Proof.RecPays Cert.Proof.RecBlock Cert.Proof.RecScore Cert.Proof.RecNorm
open scoped BigOperators

section Terms

variable (x0 : Vec Ideal S1x16x512 .bf16) (x1 : Vec Ideal S1x16x512 .f32) (x2 : Vec Ideal S1x16x512 .bf16) (x3 : Vec Ideal S1x16x512 .bf16)
  (x4 : Vec Ideal S96x16 .bf16) (x5 : Vec Ideal S16x16 .i32) (x6 : Vec Ideal S2x512 .f32) (x7 : Vec Ideal S1x512 .f32)
  (x8 : Vec Ideal S1x1x4x128x128 .f32)

def query (t : Fin 16) (l : Fin 512) : EReal := silu (x0 (ix3 0 t l))

def key (t : Fin 16) (l : Fin 512) : EReal := 1 - gate (fun r => x6 (ix2 r l)) (x1 (ix3 0 t l))

/-- The decays of the levels: level `n` has the table's rows from `16 n` on. -/
def level (n : Fin 4) (t : Fin 16) (l : Fin 512) : EReal := Ideal.exp (sums x1 x4 x6 ⟨16 * n + t, by omega⟩ l)

def scores (h : Fin 4) (t s : Fin 16) : EReal := score (query x0) (key x1 x6) (level x1 x4 x6) (x5 (ix2 t s)) h t s

def decayed (t : Fin 16) (l : Fin 512) : EReal := query x0 t l * Ideal.exp (sums x1 x4 x6 ⟨64 + t, by omega⟩ l)

/-- A row's output at a lane of a head. -/
def out (h : Fin 4) (t : Fin 16) (v : Fin 128) : EReal :=
  scaled (row (scores x0 x1 x4 x5 x6 h) (decayed x0 x1 x4 x6) (fun s l => x2 (ix3 0 s l)) (fun v d => x8 (ix5 0 0 h d v)) h t) v
    * (x7 (ix2 0 (lane h v)) * silu (x3 (ix3 0 t (lane h v))))

theorem level_eq (w0 w1 w2 w3 : Vec Ideal S16x16 .bf16)
    (h0 : ∀ t j : Fin 16, w0 (ix2 t j) = x4 (ix2 ⟨16 * 0 + t, by omega⟩ j)) (h1 : ∀ t j : Fin 16, w1 (ix2 t j) = x4 (ix2 ⟨16 * 1 + t, by omega⟩ j))
    (h2 : ∀ t j : Fin 16, w2 (ix2 t j) = x4 (ix2 ⟨16 * 2 + t, by omega⟩ j)) (h3 : ∀ t j : Fin 16, w3 (ix2 t j) = x4 (ix2 ⟨16 * 3 + t, by omega⟩ j)) :
    ![decay (k0_pay11 x6 x1) w0, decay (k0_pay11 x6 x1) w1, decay (k0_pay11 x6 x1) w2, decay (k0_pay11 x6 x1) w3] = level x1 x4 x6 := by
  funext n t l
  match n with
  | 0 => show decay (k0_pay11 x6 x1) w0 t l = _; unfold decay level sums; simp only [h0, log_apply]; rfl
  | 1 => show decay (k0_pay11 x6 x1) w1 t l = _; unfold decay level sums; simp only [h1, log_apply]; rfl
  | 2 => show decay (k0_pay11 x6 x1) w2 t l = _; unfold decay level sums; simp only [h2, log_apply]; rfl
  | 3 => show decay (k0_pay11 x6 x1) w3 t l = _; unfold decay level sums; simp only [h3, log_apply]; rfl

theorem query_eq : (fun t l => k0_pay15 (k0_pay13 x0) (k0_pay14 x0) (ix2 t l)) = query x0 := by
  funext t l
  exact silu_apply x0 t l

theorem key_eq : (fun (t : Fin 16) (l : Fin 512) => k0_pay12 x6 x1 (ix2 t l)) = key x1 x6 := by
  funext t l
  exact rest_apply x6 x1 t l

theorem decayed_apply (t : Fin 16) (l : Fin 512) (w : Vec Ideal S16x16 .bf16) (hw : ∀ t j : Fin 16, w (ix2 t j) = x4 (ix2 ⟨64 + t, by omega⟩ j)) :
    k0_pay56 (k0_pay15 (k0_pay13 x0) (k0_pay14 x0)) (k0_pay16 (k0_pay11 x6 x1)) w (ix2 t l) = decayed x0 x1 x4 x6 t l := by
  rw [query_apply, silu_apply]
  simp only [hw, log_apply]
  rfl

end Terms

theorem whole_rows (x : Vec Ideal S1x16x512 .bf16) :
    View.ld x (Rect.unit (s := S1x16x512) ![0, 0, 0] ![1, 16, 512] inb_S1x16x512_S1x16x512_0_0_0) = x := by rw [View.ld_unit_zero hz3]

theorem whole_rows' (x : Vec Ideal S1x16x512 .f32) :
    View.ld x (Rect.unit (s := S1x16x512) ![0, 0, 0] ![1, 16, 512] inb_S1x16x512_S1x16x512_0_0_0) = x := by rw [View.ld_unit_zero hz3]

theorem whole_logits (x : Vec Ideal S2x512 .f32) :
    View.ld x (Rect.unit (s := S2x512) ![0, 0] ![2, 512] inb_S2x512_S2x512_0_0) = x := by rw [View.ld_unit_zero hz2]

theorem whole_levels (x : Vec Ideal S16x16 .i32) :
    View.ld x (Rect.unit (s := S16x16) ![0, 0] ![16, 16] inb_S16x16_S16x16_0_0) = x := by rw [View.ld_unit_zero hz2]

theorem whole_norm (x : Vec Ideal S1x512 .f32) :
    View.ld x (Rect.unit (s := S1x512) ![0, 0] ![1, 512] inb_S1x512_S1x512_0_0) = x := by rw [View.ld_unit_zero hz2]

theorem finish (h : Fin 4) (t : Fin 16) (v : Fin 128) {a a' : Fin 16 → Fin 16 → EReal} {q q' i i' : Fin 16 → Fin 512 → EReal}
    {s s' : Fin 128 → Fin 128 → EReal} {g g' : EReal} (ha : ∀ t s, a t s = a' t s) (hq : ∀ t l, q t l = q' t l) (hi : ∀ t l, i t l = i' t l)
    (hs : ∀ v d, s v d = s' v d) (hg : g = g') : scaled (row a q i s h t) v * g = scaled (row a' q' i' s' h t) v * g' := by
  obtain rfl : a = a' := funext fun t => funext fun s => ha t s
  obtain rfl : q = q' := funext fun t => funext fun s => hq t s
  obtain rfl : i = i' := funext fun t => funext fun s => hi t s
  obtain rfl : s = s' := funext fun t => funext fun s => hs t s
  rw [hg]

theorem row_apply (c : Dev nD) (i : grid0.Coords) (arg2 : Memref sig .tc .vmem S1x16x512 .bf16) (harg2 : arg2.IsWhole) (arg3 : Memref sig .tc .vmem S1x16x512 .f32) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S96x16 .bf16) (harg6 : arg6.IsWhole) (arg7 : Memref sig .tc .vmem S16x16 .i32) (harg7 : arg7.IsWhole) (arg8 : Memref sig .tc .vmem S2x512 .f32) (harg8 : arg8.IsWhole) (arg9 : Memref sig .tc .vmem S1x512 .f32) (harg9 : arg9.IsWhole) (arg10 : Memref sig .tc .vmem S1x1x4x128x128 .f32) (harg10 : arg10.IsWhole) (arg11 : Memref sig .tc .vmem S1x16x512 .bf16) (harg11 : arg11.IsWhole) (arg12 : Memref sig .tc .vmem S1x1x4x128x128 .f32) (harg12 : arg12.IsWhole) (arg13 : Memref sig .tc .vmem S4x128x128 .f32) (harg13 : arg13.IsWhole) (hc0 : cond0_0 i) (hc1 : cond0_1 i)
    (x0 : Vec Ideal S1x16x512 .bf16) (x1 : Vec Ideal S1x16x512 .f32) (x2 : Vec Ideal S1x16x512 .bf16) (x3 : Vec Ideal S1x16x512 .bf16) (x4 : Vec Ideal S96x16 .bf16) (x5 : Vec Ideal S16x16 .i32) (x6 : Vec Ideal S2x512 .f32) (x7 : Vec Ideal S1x512 .f32) (x8 : Vec Ideal S1x1x4x128x128 .f32) (h : Fin 4) (t : Fin 16) (v : Fin 128) :
    out0_A_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix3 0 t (lane h v)) = out x0 x1 x2 x3 x4 x5 x6 x7 x8 h t v := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  canon_tiles x hh
  obtain rfl : x = ix3 0 t (lane h v) := by
    funext a
    apply Fin.ext
    match a with
    | ⟨0, _⟩ => have := (x 0).isLt; change (x 0 : ℕ) < 1 at this; show (x 0 : ℕ) = 0; omega
    | ⟨1, _⟩ => exact hh1.symm
    | ⟨2, _⟩ => exact hh2.symm
  change joined _ _ _ _ _ _ _ _ _ (ix3 0 t (lane h v)) = _
  match h with
  | 0 =>
    rw [joined0]
    unfold kernelRun0_A.sl.r_42
    rw [head0]
    refine finish 0 t v (fun t s => ?_) (fun t l => ?_) (fun t l => ?_) (fun v d => ?_) ?_
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      refine (scores0_apply _ _ _ _ _ _ _ _ _ t s).trans ?_
      rw [query_eq, key_eq, level_eq x1 x4 x6]
      · rfl
      all_goals intro t j; pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      refine decayed_apply x0 x1 x4 x6 t l _ fun t j => ?_
      pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      exact input_apply x2 t l
    · unfold kernelRun0_A.sl.v266 kernelRun0_A.sl.HS0_4
      rw [View.readCov_skip _ _ _ _ _ (by decide), View.readCov_skip _ _ _ _ _ (by decide), View.readCov_skip _ _ _ _ _ (by decide)]
      rw [View.readCov_cons_toLoadRect]
      sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      exact RecNorm.gate_apply x3 x7 t (lane 0 v)
  | 1 =>
    rw [joined1]
    unfold kernelRun0_A.sl.r_46
    change (((k0_pay71 (k0_pay68 _ _) (k0_pay69 _ _) : FVec Ideal S16x128 .f32) (ix2 t v) : EReal) * _ : EReal) = _
    rw [head1]
    refine finish 1 t v (fun t s => ?_) (fun t l => ?_) (fun t l => ?_) (fun v d => ?_) ?_
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      refine (scores1_apply _ _ _ _ _ _ _ _ _ t s).trans ?_
      rw [query_eq, key_eq, level_eq x1 x4 x6]
      · rfl
      all_goals intro t j; pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      refine decayed_apply x0 x1 x4 x6 t l _ fun t j => ?_
      pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      exact input_apply x2 t l
    · unfold kernelRun0_A.sl.v295 kernelRun0_A.sl.HS0_5 kernelRun0_A.sl.HS0_4
      rw [View.readCov_skip _ _ _ _ _ (by decide), View.readCov_skip _ _ _ _ _ (by decide), View.readCov_skip _ _ _ _ _ (by decide)]
      rw [View.readCov_cons_toLoadRect]
      sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      exact RecNorm.gate_apply x3 x7 t (lane 1 v)
  | 2 =>
    rw [joined2]
    refine finish 2 t v (fun t s => ?_) (fun t l => ?_) (fun t l => ?_) (fun v d => ?_) ?_
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      refine (scores2_apply _ _ _ _ _ _ _ _ _ t s).trans ?_
      rw [query_eq, key_eq, level_eq x1 x4 x6]
      · rfl
      all_goals intro t j; pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      refine decayed_apply x0 x1 x4 x6 t l _ fun t j => ?_
      pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      exact input_apply x2 t l
    · unfold kernelRun0_A.sl.v324 kernelRun0_A.sl.HS0_6 kernelRun0_A.sl.HS0_5 kernelRun0_A.sl.HS0_4
      rw [View.readCov_skip _ _ _ _ _ (by decide), View.readCov_skip _ _ _ _ _ (by decide), View.readCov_skip _ _ _ _ _ (by decide)]
      rw [View.readCov_cons_toLoadRect]
      sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      exact RecNorm.gate_apply x3 x7 t (lane 2 v)
  | 3 =>
    rw [joined3]
    refine finish 3 t v (fun t s => ?_) (fun t l => ?_) (fun t l => ?_) (fun v d => ?_) ?_
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      refine (scores3_apply _ _ _ _ _ _ _ _ _ t s).trans ?_
      rw [query_eq, key_eq, level_eq x1 x4 x6]
      · rfl
      all_goals intro t j; pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      refine decayed_apply x0 x1 x4 x6 t l _ fun t j => ?_
      pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      exact input_apply x2 t l
    · unfold kernelRun0_A.sl.v353 kernelRun0_A.sl.HS0_7 kernelRun0_A.sl.HS0_6 kernelRun0_A.sl.HS0_5 kernelRun0_A.sl.HS0_4
      rw [View.readCov_skip _ _ _ _ _ (by decide), View.readCov_skip _ _ _ _ _ (by decide), View.readCov_skip _ _ _ _ _ (by decide)]
      rw [View.readCov_cons_toLoadRect]
      sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      pointwise []
    · sl_unfold_run_names
      simp only [View.readAt_eq_ld, harg2.read_unread, harg3.read_unread, harg4.read_unread, harg5.read_unread, harg6.read_unread, harg7.read_unread, harg8.read_unread, harg9.read_unread, harg10.read_unread, whole_rows, whole_rows', whole_logits, whole_levels, whole_norm]
      exact RecNorm.gate_apply x3 x7 t (lane 3 v)

end Cert.Proof.RecOut

end
-- ==== Proof.RecLevels.lean ====
/-
  THE LEVELS OF TWO ROWS. A row's two marks at a level are the places between it and the level's middle; of two rows the level
  is the highest place where their numbers differ, and there the marks of the two together are the places from the one row to the other.
-/
module

public import proofs.«01_k».proof.Proof.RecTable

@[expose] public section

set_option maxRecDepth 16384

noncomputable section

namespace Cert.Proof.RecLevels

open Idealize.ShloMosaic Idealize.ShloMosaic.TcCoe Idealize.SL.Sem
open Cert.RecurrenceSampleIdeal Cert.RecurrenceSampleIdeal.Gen Cert.Proof.RecTable

/-- Whether place `j` lies between row `t` and the middle of its block of `2 ^ (n + 1)` rows. -/
def between (n t j : ℕ) : Bool :=
  if t / 2 ^ n % 2 = 1 then decide (t / 2 ^ (n + 1) * 2 ^ (n + 1) + 2 ^ n ≤ j) && decide (j ≤ t)
  else decide (t < j) && decide (j < t / 2 ^ (n + 1) * 2 ^ (n + 1) + 2 ^ n)

/-- The level of two rows. -/
def level (t s : ℕ) : ℕ := Nat.log2 (t ^^^ s)

theorem words_level : ∀ (n : Fin 4) (t j : Fin 16),
    lit0 ⟨16 * (16 * (n : ℕ) + t) + (j : ℕ), by omega⟩ = if between n t j then 0x3F80#16 else 0x0000#16 := by decide +kernel

theorem words_upto : ∀ t j : Fin 16,
    lit0 ⟨16 * (64 + (t : ℕ)) + (j : ℕ), by omega⟩ = if (j : ℕ) ≤ t then 0x3F80#16 else 0x0000#16 := by decide +kernel

theorem words_pair : ∀ t s : Fin 16, lit1 ⟨16 * (t : ℕ) + (s : ℕ), by omega⟩
    = if (s : ℕ) < t then BitVec.ofNat 32 (level t s) else if (s : ℕ) = t then 4#32 else 0xFFFFFFFF#32 := by decide +kernel

theorem order' : ∀ t s : Fin 16, (S16x16.rowMajor (ix2 t s)).val = 16 * (t : ℕ) + s := by decide +kernel

theorem level_lt : ∀ t s : Fin 16, (s : ℕ) < t → level t s < 4 := by decide +kernel

theorem meet : ∀ t s j : Fin 16, (s : ℕ) < t →
    (if between (level t s) t j then 1 else 0 : ℕ) + (if between (level t s) s j then 1 else 0)
      = if (s : ℕ) < j ∧ (j : ℕ) ≤ t then 1 else 0 := by decide +kernel

variable (m : (ℓ : Loc nD τ sig) → Buf (Elt Ideal) ℓ)

theorem at_level (c : Dev nD) (p : Fin cfg0.N) (n : Fin 4) (t j : Fin 16) :
    (iblk m c 4 p : Vec Ideal S96x16 .bf16) (ix2 ⟨16 * n + t, by omega⟩ j) = (if between n t j then 1 else 0 : EReal) := by
  rw [table]
  refine (congrArg (Ideal.ofBits .bf16) (words_level n t j)).trans ?_
  split
  · exact Ideal.ofBits_one_bf16
  · exact Ideal.ofBits_zero_bf16

theorem upto (c : Dev nD) (p : Fin cfg0.N) (t j : Fin 16) :
    (iblk m c 4 p : Vec Ideal S96x16 .bf16) (ix2 ⟨64 + t, by omega⟩ j) = (if (j : ℕ) ≤ t then 1 else 0 : EReal) := by
  rw [table]
  refine (congrArg (Ideal.ofBits .bf16) (words_upto t j)).trans ?_
  split
  · exact Ideal.ofBits_one_bf16
  · exact Ideal.ofBits_zero_bf16

theorem place' : ∀ t : Fin cfg0.N, win0_5.index t = ![0, 0] := (by decide +kernel : ∀ t : Fin grid0.N, _)

/-- The level of a pair of rows, as a point is given it. -/
theorem pair (c : Dev nD) (p : Fin cfg0.N) (t s : Fin 16) : (iblk m c 5 p : Vec Ideal S16x16 .i32) (ix2 t s)
    = if (s : ℕ) < t then BitVec.ofNat 32 (level t s) else if (s : ℕ) = t then 4#32 else 0xFFFFFFFF#32 := by
  have e : (V m c main_c : Vec Ideal S16x16 .i32) (ix2 t s) = lit1 (S16x16.rowMajor (ix2 t s)) := by
    entry_read
    rfl
  rw [show S16x16.rowMajor (ix2 t s) = (⟨16 * (t : ℕ) + s, by omega⟩ : Fin 256) from Fin.ext (order' t s), words_pair] at e
  rw [← e]
  blk_ext [iblk, place' p]

end Cert.Proof.RecLevels

end
-- ==== Proof.RecDecay.lean ====
/-
  THE DECAYS OF TWO ROWS AT THEIR LEVEL MULTIPLY TO THE DECAY FROM THE ONE TO THE OTHER, when all the logarithms are real and at most zero.
-/
module

public import proofs.«01_k».proof.Proof.RecMath
public import proofs.«01_k».proof.Proof.RecScore

@[expose] public section

set_option maxRecDepth 16384

noncomputable section

namespace Cert.Proof.RecDecay

open Idealize.ShloMosaic
open Cert.Proof.RecPays Cert.Proof.RecMath Cert.Proof.RecScore
open scoped BigOperators

theorem sum_coe (f : Fin 16 → ℝ) : (∑ j, ((f j : ℝ) : EReal)) = ((∑ j, f j : ℝ) : EReal) :=
  (map_sum (⟨⟨((↑) : ℝ → EReal), EReal.coe_zero⟩, EReal.coe_add⟩ : ℝ →+ EReal) f Finset.univ).symm

/-- A row of marks sums what it marks. -/
theorem parts_marks (row : Fin 16 → EReal) (p : Fin 16 → Prop) [DecidablePred p] (g : ℕ → ℝ) (hrow : ∀ j, row j = if p j then 1 else 0) :
    parts row (fun j => (g j : EReal)) = ((∑ j : Fin 16, if p j then g j else 0 : ℝ) : EReal) := by
  rw [parts_coe, ← sum_coe]
  refine Finset.sum_congr rfl fun j _ => ?_
  rw [hrow]
  split <;> simp

theorem upto_coe (g : ℕ → ℝ) (n : ℕ) : (∑ j : Fin 16, if (j : ℕ) ≤ n then (g j : EReal) else 0)
    = ((∑ j : Fin 16, if (j : ℕ) ≤ n then g j else 0 : ℝ) : EReal) := by
  rw [← sum_coe]
  refine Finset.sum_congr rfl fun j _ => ?_
  split <;> simp

/-- From row `s` to row `t` the logarithms sum to the difference of the sums, -/
theorem span (g : ℕ → ℝ) (t s : Fin 16) (hst : (s : ℕ) ≤ t) :
    (∑ j : Fin 16, if (j : ℕ) ≤ t then g j else 0) - (∑ j : Fin 16, if (j : ℕ) ≤ s then g j else 0)
      = ∑ j : Fin 16, if (s : ℕ) < j ∧ (j : ℕ) ≤ t then g j else 0 := by
  rw [← Finset.sum_sub_distrib]
  refine Finset.sum_congr rfl fun j _ => ?_
  by_cases h : (j : ℕ) ≤ s
  · rw [if_pos (by omega), if_pos h, if_neg (by omega), sub_self]
  · rw [if_neg h, sub_zero]
    by_cases h' : (j : ℕ) ≤ t
    · rw [if_pos h', if_pos ⟨by omega, h'⟩]
    · rw [if_neg h', if_neg (by omega)]

theorem marks_add (p q r : Prop) [Decidable p] [Decidable q] [Decidable r] (x : ℝ)
    (h : ((if p then 1 else 0 : ℕ) + if q then 1 else 0) = if r then 1 else 0) : ((if p then x else 0) + if q then x else 0) = if r then x else 0 := by
  by_cases h1 : p <;> by_cases h2 : q <;> by_cases h3 : r <;> simp [h1, h2, h3] at h ⊢

/-- and the two rows' marks give the same sum. -/
theorem meet (r r' : Fin 16 → EReal) (p p' : Fin 16 → Prop) [DecidablePred p] [DecidablePred p'] (g : ℕ → ℝ) (hg : ∀ n, g n ≤ 0) (t s : Fin 16) (hst : (s : ℕ) ≤ t)
    (hr : ∀ j, r j = if p j then 1 else 0) (hr' : ∀ j, r' j = if p' j then 1 else 0)
    (h : ∀ j, ((if p j then 1 else 0 : ℕ) + if p' j then 1 else 0) = if (s : ℕ) < j ∧ (j : ℕ) ≤ t then 1 else 0) :
    Ideal.exp (parts r fun j => (g j : EReal)) * Ideal.exp (parts r' fun j => (g j : EReal))
      = Ideal.exp (min ((∑ j : Fin 16, if (j : ℕ) ≤ t then (g j : EReal) else 0) - ∑ j : Fin 16, if (j : ℕ) ≤ s then (g j : EReal) else 0) 0) := by
  rw [parts_marks r p g hr, parts_marks r' p' g hr', upto_coe, upto_coe, ← EReal.coe_sub, span g t s hst]
  have e : (∑ j : Fin 16, if (s : ℕ) < j ∧ (j : ℕ) ≤ t then g j else 0) ≤ 0 :=
    Finset.sum_nonpos fun j _ => by split <;> [exact hg _; exact le_rfl]
  rw [min_eq_left (by exact_mod_cast e), Ideal.exp_coe, Ideal.exp_coe, Ideal.exp_coe, ← EReal.coe_mul, ← Real.exp_add, ← Finset.sum_add_distrib]
  refine congrArg (fun x : ℝ => ((Real.exp x : ℝ) : EReal)) (Finset.sum_congr rfl fun j _ => ?_)
  exact marks_add _ _ _ _ (h j)

/-- A row is not decayed against itself. -/
theorem still (g : ℕ → ℝ) (n : ℕ) :
    Ideal.exp (min ((∑ j : Fin 16, if (j : ℕ) ≤ n then (g j : EReal) else 0) - ∑ j : Fin 16, if (j : ℕ) ≤ n then (g j : EReal) else 0) 0) = 1 := by
  rw [upto_coe, ← EReal.coe_sub, sub_self, EReal.coe_zero, min_self, ← EReal.coe_zero, Ideal.exp_coe, Real.exp_zero, EReal.coe_one]

section Scores

variable (q k : Fin 16 → Fin 512 → EReal) (e : Fin 4 → Fin 16 → Fin 512 → EReal) (h : Fin 4) (t s : Fin 16)

theorem score_level (n : Fin 4) : score q k e (BitVec.ofNat 32 n) h t s
    = pair (fun t l => q t l * e n t l) (fun t l => k t l * e n t l) h t s := by
  unfold score
  match n with
  | 0 => rw [if_neg (by decide), if_neg (by decide), if_neg (by decide), if_pos (by decide)]
  | 1 => rw [if_neg (by decide), if_neg (by decide), if_pos (by decide)]
  | 2 => rw [if_neg (by decide), if_pos (by decide)]
  | 3 => rw [if_pos (by decide)]

theorem score_self : score q k e 4#32 h t s = pair q k h t s := by
  unfold score
  rw [if_neg (by decide), if_neg (by decide), if_neg (by decide), if_neg (by decide), if_pos rfl]

theorem score_none : score q k e 0xFFFFFFFF#32 h t s = 0 := by
  unfold score
  rw [if_neg (by decide), if_neg (by decide), if_neg (by decide), if_neg (by decide), if_neg (by decide)]

end Scores

end Cert.Proof.RecDecay

end
-- ==== Proof.RecMix.lean ====
/-
  THE SAMPLE'S MIXED HALF: the blocks of the launch put together, of real logits. Every row is the inputs up to it, each by the
  query and the key with the decay between the two rows, plus the old state read out by the decayed query; divided by the root of
  its mean square and gated.
-/
module

public import proofs.«01_k».proof.Proof.RecArray
public import proofs.«01_k».proof.Proof.RecOut
public import proofs.«01_k».proof.Proof.RecLevels
public import proofs.«01_k».proof.Proof.RecDecay

@[expose] public section

set_option maxRecDepth 16384

noncomputable section

namespace Cert.Proof.RecMix

open Idealize.ShloMosaic Idealize.ShloMosaic.TcCoe Idealize.SL.Sem
open Idealize.ShloMosaic.Pipeline (Dat)
open Cert.RecurrenceSampleIdeal Cert.RecurrenceSampleIdeal.Gen
open Cert.Proof.RecPays (lane gate)
open Cert.Proof.RecArray hiding result final idx
open Cert.Proof.RecNorm (silu scaled row)
open scoped BigOperators

section Terms

variable (q : FVec Ideal S8x16x512 .bf16) (f : FVec Ideal S8x16x512 .f32) (i g : FVec Ideal S8x16x512 .bf16) (a : FVec Ideal S2x512 .f32)
  (n : FVec Ideal S1x512 .f32) (s : FVec Ideal S1x8x4x128x128 .f32) (b : Fin 8)

/-- How much row `t` takes of the input of row `r`. -/
def weight (h : Fin 4) (t r : Fin 16) : EReal :=
  ∑ d : Fin 128, silu (q (ix3 b t (lane h d))) * (1 - gateAt f a b (lane h d) r)
    * (if (r : ℕ) ≤ t then Ideal.exp (min (upTo f a b (lane h d) t - upTo f a b (lane h d) r) 0) else 0)

def mix (h : Fin 4) (t : Fin 16) (v : Fin 128) : EReal :=
  scaled (row (weight q f a b h) (fun t l => silu (q (ix3 b t l)) * Ideal.exp (upTo f a b l t)) (fun t l => i (ix3 b t l))
    (fun v d => s (ix5 0 b h d v)) h t) v * (n (ix2 0 (lane h v)) * silu (g (ix3 b t (lane h v))))

/-- The head and the place of a lane. -/
def headOf (l : Fin 512) : Fin 4 := ⟨(l : ℕ) / 128, by omega⟩

def placeOf (l : Fin 512) : Fin 128 := ⟨(l : ℕ) % 128, Nat.mod_lt _ (by norm_num)⟩

theorem lane_of (l : Fin 512) : lane (headOf l) (placeOf l) = l := Fin.ext (Nat.div_add_mod _ _)

theorem headOf_lane (h : Fin 4) (v : Fin 128) : headOf (lane h v) = h :=
  Fin.ext (by show (128 * (h : ℕ) + v) / 128 = h; omega)

theorem placeOf_lane (h : Fin 4) (v : Fin 128) : placeOf (lane h v) = v :=
  Fin.ext (by show (128 * (h : ℕ) + v) % 128 = v; omega)

/-- The whole result array. -/
def result : FVec Ideal S8x16x512 .bf16 := fun x => mix q f i g a n s (x 0) (headOf (x 2)) (x 1) (placeOf (x 2))

end Terms

variable (m : (ℓ : Loc nD τ sig) → Buf (Elt Ideal) ℓ)

/-- The blocks each point is given. -/
theorem idx' : ∀ t : Fin cfg0.N,
    win0_0.index t = ![(grid0.coords t 0).val, 0, 0]
    ∧ win0_3.index t = ![(grid0.coords t 0).val, 0, 0]
    ∧ win0_7.index t = ![0, 0]
    ∧ win0_9.index t = ![(grid0.coords t 0).val, 0, 0] :=
  (by decide +kernel : ∀ t : Fin grid0.N, _)

abbrev argQ (c : Dev nD) : FVec Ideal S8x16x512 .bf16 := m ((c : Thread nD τ).loc main_arg0)
abbrev argG (c : Dev nD) : FVec Ideal S8x16x512 .bf16 := m ((c : Thread nD τ).loc main_arg3)
abbrev argN (c : Dev nD) : FVec Ideal S1x512 .f32 := m ((c : Thread nD τ).loc main_arg5)

section Point

variable (c : Dev nD) (p : Fin cfg0.N) (b : Fin 8)

theorem block_q (hb : (b : ℕ) = (grid0.coords p 0).val) (s : Fin 16) (l : Fin 512) :
    (iblk m c 0 p : Vec Ideal S1x16x512 .bf16) (ix3 0 s l) = argQ m c (ix3 b s l) := by
  blk_ext [iblk, V, idx' p]

theorem block_g (hb : (b : ℕ) = (grid0.coords p 0).val) (s : Fin 16) (l : Fin 512) :
    (iblk m c 3 p : Vec Ideal S1x16x512 .bf16) (ix3 0 s l) = argG m c (ix3 b s l) := by
  blk_ext [iblk, V, idx' p]

theorem block_n (l : Fin 512) : (iblk m c 7 p : Vec Ideal S1x512 .f32) (ix2 0 l) = argN m c (ix2 0 l) := by
  have e : (V m c main_v1 : Vec Ideal S1x512 .f32) (ix2 0 l) = argN m c (ix2 0 l) := by
    entry_read
    pointwise []
  rw [← e]
  blk_ext [iblk, idx' p]

section Real

variable (ha : ∀ i, ∃ r : ℝ, argA m c i = (r : EReal)) (hb : (b : ℕ) = (grid0.coords p 0).val)
include ha hb

theorem logs_real (l : Fin 512) : ∃ g : ℕ → ℝ, (∀ n, logAt (argF m c) (argA m c) b l n = (g n : EReal)) ∧ ∀ n, g n ≤ 0 := by
  choose a ha using ha
  have hg : ∀ n : ℕ, ∃ r : ℝ, logAt (argF m c) (argA m c) b l n = (r : EReal) ∧ r ≤ 0 := fun n => by
    unfold logAt gateAt
    simp only [ha]
    exact RecMath.log_gate _ _
  choose g hg using hg
  exact ⟨g, fun n => (hg n).1, fun n => (hg n).2⟩

/-- The rows of the table that sum up to a row. -/
theorem upTo_eq (t : Fin 16) (l : Fin 512) :
    RecBlock.sums (iblk m c 1 p) (iblk m c 4 p) (iblk m c 6 p) ⟨64 + t, by omega⟩ l = upTo (argF m c) (argA m c) b l t := by
  obtain ⟨g, hg, -⟩ := logs_real m c p b ha hb l
  unfold RecBlock.sums upTo
  rw [logs_eq m c p b hb]
  simp only [hg]
  rw [RecDecay.upto_coe]
  exact RecDecay.parts_marks _ (fun j : Fin 16 => (j : ℕ) ≤ t) g fun j => RecLevels.upto m c p t j

/-- At their level two rows' decays multiply to the decay between them. -/
theorem levels_eq (t s : Fin 16) (hst : (s : ℕ) < t) (l : Fin 512) :
    RecOut.level (iblk m c 1 p) (iblk m c 4 p) (iblk m c 6 p) ⟨RecLevels.level t s, RecLevels.level_lt t s hst⟩ t l
      * RecOut.level (iblk m c 1 p) (iblk m c 4 p) (iblk m c 6 p) ⟨RecLevels.level t s, RecLevels.level_lt t s hst⟩ s l
      = Ideal.exp (min (upTo (argF m c) (argA m c) b l t - upTo (argF m c) (argA m c) b l s) 0) := by
  obtain ⟨g, hg, h0⟩ := logs_real m c p b ha hb l
  unfold RecOut.level RecBlock.sums upTo
  rw [logs_eq m c p b hb]
  simp only [hg]
  exact RecDecay.meet _ _ (fun j : Fin 16 => RecLevels.between (RecLevels.level t s) t j = true)
    (fun j : Fin 16 => RecLevels.between (RecLevels.level t s) s j = true) g h0 t s hst.le
    (fun j => RecLevels.at_level m c p ⟨RecLevels.level t s, RecLevels.level_lt t s hst⟩ t j)
    (fun j => RecLevels.at_level m c p ⟨RecLevels.level t s, RecLevels.level_lt t s hst⟩ s j)
    (fun j => RecLevels.meet t s j hst)

theorem key_eq (t : Fin 16) (l : Fin 512) : RecOut.key (iblk m c 1 p) (iblk m c 6 p) t l = 1 - gateAt (argF m c) (argA m c) b l t := by
  unfold RecOut.key gateAt
  rw [block_f m c p b hb]
  simp only [block_a]

theorem query_eq (t : Fin 16) (l : Fin 512) : RecOut.query (iblk m c 0 p) t l = silu (argQ m c (ix3 b t l)) := by
  unfold RecOut.query
  rw [block_q m c p b hb]

theorem weight_eq (h : Fin 4) (t s : Fin 16) :
    RecOut.scores (iblk m c 0 p) (iblk m c 1 p) (iblk m c 4 p) (iblk m c 5 p) (iblk m c 6 p) h t s
      = weight (argQ m c) (argF m c) (argA m c) b h t s := by
  unfold RecOut.scores weight
  rw [RecLevels.pair]
  by_cases hst : (s : ℕ) < t
  · rw [if_pos hst]
    refine (RecDecay.score_level _ _ _ h t s ⟨RecLevels.level t s, RecLevels.level_lt t s hst⟩).trans ?_
    unfold RecScore.pair
    refine Finset.sum_congr rfl fun d _ => ?_
    rw [mul_mul_mul_comm, levels_eq m c p b ha hb t s hst, key_eq m c p b ha hb, query_eq m c p b ha hb, if_pos hst.le]
  · rw [if_neg hst]
    by_cases he : (s : ℕ) = t
    · rw [if_pos he]
      obtain rfl : s = t := Fin.ext he
      refine (RecDecay.score_self _ _ _ h s s).trans ?_
      unfold RecScore.pair
      refine Finset.sum_congr rfl fun d _ => ?_
      obtain ⟨g, hg, -⟩ := logs_real m c p b ha hb (lane h d)
      have e1 : Ideal.exp (min (upTo (argF m c) (argA m c) b (lane h d) s - upTo (argF m c) (argA m c) b (lane h d) s) 0) = 1 := by
        unfold upTo
        simp only [hg]
        exact RecDecay.still g s
      rw [key_eq m c p b ha hb, query_eq m c p b ha hb, if_pos le_rfl, e1, mul_one]
    · rw [if_neg he]
      refine (RecDecay.score_none _ _ _ h t s).trans ?_
      refine (Finset.sum_eq_zero fun d _ => ?_).symm
      rw [if_neg (by omega), mul_zero]

/-- What a point leaves, of real logits. -/
theorem point' (h : Fin 4) (t : Fin 16) (v : Fin 128) :
    RecOut.out (iblk m c 0 p) (iblk m c 1 p) (iblk m c 2 p) (iblk m c 3 p) (iblk m c 4 p) (iblk m c 5 p) (iblk m c 6 p) (iblk m c 7 p) (iblk m c 8 p) h t v
      = mix (argQ m c) (argF m c) (argI m c) (argG m c) (argA m c) (argN m c) (argS m c) b h t v := by
  unfold RecOut.out mix
  refine RecOut.finish h t v (fun t s => ?_) (fun t l => ?_) (fun t l => ?_) (fun v d => ?_) ?_
  · exact weight_eq m c p b ha hb h t s
  · unfold RecOut.decayed
    rw [upTo_eq m c p b ha hb, query_eq m c p b ha hb]
  · exact block_i m c p b hb t l
  · exact block_s m c p b hb h d v
  · rw [block_n, block_g m c p b hb]

theorem left' (h : Fin 4) (t t' : Fin 16) (v : Fin 128) (l' : Fin 512) (ht : (t' : ℕ) = t) (hl : (l' : ℕ) = lane h v) :
    (outsAt0 m c p).1 (ix3 0 t (lane h v))
      = mix (argQ m c) (argF m c) (argI m c) (argG m c) (argA m c) (argN m c) (argS m c) b (headOf l') t' (placeOf l') := by
  obtain rfl : t' = t := Fin.ext ht
  obtain rfl : l' = lane h v := Fin.ext hl
  rw [headOf_lane, placeOf_lane]
  refine Eq.trans ?_ (point' m c p b ha hb h t' v)
  simp only [outsAt0]
  exact RecOut.row_apply _ _ _ _ _ _ _ _ _ _ _ _ _ _ _ _ _ _ _ _ _ _ _ _ _ _ _ _ _ _ _ _ _ _ _ _ _ _ _ _

end Real

end Point

theorem final (c : Dev nD) (ha : ∀ i, ∃ r : ℝ, argA m c i = (r : EReal)) : (dats m 0 c).arrAt 9 (cfgs 0).N
    = result (argQ m c) (argF m c) (argI m c) (argG m c) (argA m c) (argN m c) (argS m c) := by
  refine (dats m 0 c).arrAt_eq_of_covers 9 _ (by decide +kernel) fun p _ y => ?_
  blk_simp
  rw [after0_9]
  have h0 : (y 0 : ℕ) < 1 := (y 0).isLt
  obtain ⟨t, ht⟩ : ∃ r : Fin 16, (r : ℕ) = y 1 := ⟨⟨_, (y 1).isLt⟩, rfl⟩
  obtain ⟨l, hl⟩ : ∃ r : Fin 512, (r : ℕ) = y 2 := ⟨⟨_, (y 2).isLt⟩, rfl⟩
  have hy : y = (ix3 0 t (lane (headOf l) (placeOf l)) : S1x16x512.Idx) := by
    rw [lane_of]
    funext a
    apply Fin.ext
    match a with
    | ⟨0, _⟩ => show (y 0 : ℕ) = 0; omega
    | ⟨1, _⟩ => exact ht.symm
    | ⟨2, _⟩ => exact hl.symm
  refine (congrArg (outsAt0 m c p).1 hy).trans (left' m c p _ ha ?_ (headOf l) t _ (placeOf l) _ ?_ ?_)
  · blk_simp [idx' p]; (try omega)
  · blk_simp [idx' p]; (try omega)
  · rw [lane_of]; blk_simp [idx' p]; (try omega)

end Cert.Proof.RecMix

end
-- ==== Proof.RecClaim.lean ====
/-
  The sample's recurrence: kernel and reference leave the same two arrays, the mixed half and the new states, of finite logits.
-/
module

public import proofs.«01_k».proof.Proof.RecMixed
public import proofs.«01_k».proof.Proof.RecMix
public import proofs.«01_k».proof.Proof.Gen.RecurrenceSampleIdeal.Value
public import proofs.«01_k».proof.Defs
public import Idealize.ShloMosaic.Adequacy
public import Idealize.ShloMosaic.Init

@[expose] public section

set_option maxRecDepth 16384

noncomputable section

namespace Cert.Proof.RecClaim

open Idealize.ShloMosaic Idealize.ShloMosaic.TcCoe Idealize.SL.Sem
open Cert.RecurrenceSampleIdeal
open Cert.Proof.RecPays (lane)
open scoped BigOperators

theorem running_eq (f : FVec Ideal Cert.RecurrenceSampleReferenceIdeal.S8x16x512 .f32)
    (a : FVec Ideal Cert.RecurrenceSampleReferenceIdeal.S2x512 .f32) (b : Fin 8) (h : Fin 4) (t : Fin 16) (d : Fin 128) :
    RecRef.running (RecRef.heads (Host.log (RecRef.gates a f))) (ix4 b h t d) = RecArray.upTo f a b (lane h d) t := by
  refine RecRef.running_apply _ (RecArray.logAt f a b (lane h d)) b h t d fun j => ?_
  rw [RecRef.heads_apply]
  unfold RecArray.logAt RecArray.gateAt
  rw [show (⟨(j : ℕ) % 16, Nat.mod_lt _ (by norm_num)⟩ : Fin 16) = j from Fin.ext (Nat.mod_eq_of_lt j.isLt)]
  exact congrArg Ideal.log (RecRef.gates_apply a f b j (lane h d))

theorem one_eq (f : FVec Ideal Cert.RecurrenceSampleReferenceIdeal.S8x16x512 .f32)
    (a : FVec Ideal Cert.RecurrenceSampleReferenceIdeal.S2x512 .f32) (b : Fin 8) (h : Fin 4) (t : Fin 16) (d : Fin 128) :
    RecRef.heads (subf RecRef.ones (RecRef.gates a f)) (ix4 b h t d) = 1 - RecArray.gateAt f a b (lane h d) t := by
  rw [RecRef.heads_apply]
  pointwise [RecRef.ones]
  rw [RecRef.gates_apply]
  rfl

/-- The reference's mixed half and the kernel's, of the same arguments. -/
theorem mixed_eq (q : FVec Ideal Cert.RecurrenceSampleReferenceIdeal.S8x16x512 .bf16) (f : FVec Ideal Cert.RecurrenceSampleReferenceIdeal.S8x16x512 .f32)
    (i g : FVec Ideal Cert.RecurrenceSampleReferenceIdeal.S8x16x512 .bf16) (a : FVec Ideal Cert.RecurrenceSampleReferenceIdeal.S2x512 .f32)
    (n : FVec Ideal Cert.RecurrenceSampleReferenceIdeal.S1x512 .f32) (s : FVec Ideal Cert.RecurrenceSampleReferenceIdeal.S1x8x4x128x128 .f32) :
    RecMixed.whole q f i g a n s = RecMix.result q f i g a n s := by
  funext x
  obtain ⟨b, t, h, v, rfl⟩ : ∃ (b : Fin 8) (t : Fin 16) (h : Fin 4) (v : Fin 128), x = ix3 b t (lane h v) :=
    ⟨x 0, x 1, RecMix.headOf (x 2), RecMix.placeOf (x 2), funext fun a => by
      fin_cases a
      · rfl
      · rfl
      · exact (RecMix.lane_of (x 2)).symm⟩
  rw [RecMixed.whole_apply]
  show _ = RecMix.mix q f i g a n s b (RecMix.headOf (lane h v)) t (RecMix.placeOf (lane h v))
  rw [RecMix.headOf_lane, RecMix.placeOf_lane]
  unfold RecMix.mix
  refine congrArg (fun o => RecNorm.scaled o v * _) (funext fun u => ?_)
  rw [RecMixed.rows_apply]
  simp only [RecMixed.scores_apply, running_eq, one_eq]
  simp only [RecRef.heads_apply, RecMixed.swish_apply]
  rfl

/-- The reference's term and the kernel's array, of the same forgetting rows, inputs, logits and old states. -/
theorem whole_eq (f : FVec Ideal Cert.RecurrenceSampleReferenceIdeal.S8x16x512 .f32)
    (i : FVec Ideal Cert.RecurrenceSampleReferenceIdeal.S8x16x512 .bf16) (a : FVec Ideal Cert.RecurrenceSampleReferenceIdeal.S2x512 .f32)
    (s : FVec Ideal Cert.RecurrenceSampleReferenceIdeal.S1x8x4x128x128 .f32) : RecRef.whole f i a s = RecArray.result f i a s := by
  funext x
  obtain ⟨b, h, d, v, rfl⟩ : ∃ (b : Fin 8) (h : Fin 4) (d v : Fin 128), x = ix5 0 b h d v :=
    ⟨x 1, x 2, x 3, x 4, funext fun a => by
      fin_cases a
      · exact Fin.ext (by have : (x 0 : ℕ) < 1 := (x 0).isLt; show (x 0 : ℕ) = 0; omega)
      all_goals rfl⟩
  have hr := fun t => running_eq f a b h t d
  have hone := fun t => one_eq f a b h t d
  show RecRef.whole f i a s (ix5 0 b h d v) = RecArray.next f i a s b h d v
  pointwise [RecRef.whole]
  rw [RecRef.kept_apply, RecRef.taken_apply]
  unfold RecArray.next
  simp only [hr, hone, RecRef.heads_apply]
  rfl

/-- The reference ends, keeps its arguments and leaves every counter at zero. -/
theorem reference_frame : Cert.quiescent_RecurrenceSampleReferenceIdeal := fun m ρ _ =>
  (θ_run Cert.RecurrenceSampleReferenceIdeal.defs _ _).mono
    (fun r h => ⟨fun c => (h c).2.2, Idealize.ShloMosaic.sem_eq_zero_of_no_sems (by decide) r.2⟩)
    (Cert.RecurrenceSampleReferenceIdeal.Value.run (F := Ideal) m ρ)

variable [hPre : Cert.Pre_finite_logits.Facts]

/-- The precondition says that every logit is a real. -/
theorem reals (m : (ℓ : Loc nD τ sig) → Buf (Elt Ideal) ℓ) (hm : Cert.Pre_RecurrenceSampleIdeal_finite_logits m) (c : Dev nD)
    (i : S2x512.Idx) : ∃ r : ℝ, RecArray.argA m c i = (r : EReal) := by
  have h : Ideal.cmp .olt (max (RecArray.argA m c i) (-RecArray.argA m c i)) (Ideal.ofBits .f32 0x7F800000#32) = 1#1 :=
    congrFun (hm c) i
  have htop : Ideal.ofBits .f32 0x7F800000#32 = (⊤ : EReal) := by simp [Ideal.ofBits, Ideal.ieee]
  rw [htop] at h
  generalize RecArray.argA m c i = x at h ⊢
  change EReal at x
  induction x with
  | bot => simp [Ideal.cmp] at h
  | top => simp [Ideal.cmp] at h
  | coe r => exact ⟨r, rfl⟩

set_option maxHeartbeats 4000000 in
/-- From the same arguments kernel and reference leave the same arrays. -/
theorem same : Cert.algebraic_RecurrenceSampleIdeal_RecurrenceSampleReferenceIdeal_pre_finite_logits := by
  intro m g m' g' hpre hagree
  refine ⟨fun c => RecMix.result (RecMix.argQ m c) (RecArray.argF m c) (RecArray.argI m c) (RecMix.argG m c) (RecArray.argA m c) (RecMix.argN m c)
    (RecArray.argS m c), fun c => RecArray.result (RecArray.argF m c) (RecArray.argI m c) (RecArray.argA m c) (RecArray.argS m c), ?_, ?_⟩
  · refine (θ_run Cert.RecurrenceSampleIdeal.defs _ _).mono (fun r h c => ⟨(h c).1.trans (RecMix.final m c (reals m hpre c)),
      (h c).2.1.trans (RecArray.final m c (reals m hpre c)), (h c).2.2⟩) (Cert.RecurrenceSampleIdeal.Value.run_blocks m g)
  · refine (θ_run Cert.RecurrenceSampleReferenceIdeal.defs _ _).mono (fun r h c => ⟨(h c).1.trans ?_, (h c).2.1.trans ?_, (h c).2.2⟩)
      (Cert.RecurrenceSampleReferenceIdeal.Value.run (F := Ideal) m' g')
    · refine (RecMixed.result_eq m' c).trans ?_
      rw [(hagree c).1, (hagree c).2.1, (hagree c).2.2.1, (hagree c).2.2.2.1, (hagree c).2.2.2.2.1, (hagree c).2.2.2.2.2.1, (hagree c).2.2.2.2.2.2]
      exact mixed_eq _ _ _ _ _ _ _
    · refine (RecRef.result_eq m' c).trans ?_
      rw [(hagree c).2.1, (hagree c).2.2.1, (hagree c).2.2.2.2.1, (hagree c).2.2.2.2.2.2]
      exact whole_eq _ _ _ _

end Cert.Proof.RecClaim

end
-- ==== Proof.lean ====
/-
  THE CLAIM: the kernel and the reference end, terminate with every counter at zero, and leave the same array.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.Gen.ProjectionIdeal.Value
public import proofs.«01_k».proof.Proof.Gen.Output
public import proofs.«01_k».proof.Proof.Gen.Output.Frame
public import proofs.«01_k».proof.Proof.Gen.OutputIdeal
public import proofs.«01_k».proof.Proof.Gen.OutputIdeal.Frame
public import proofs.«01_k».proof.Proof.Gen.ProjectionReferenceIdeal
public import proofs.«01_k».proof.Proof.Gen.ProjectionReferenceIdeal.Run
public import proofs.«01_k».proof.Proof.Gen.OutputReferenceIdeal
public import proofs.«01_k».proof.Proof.Gen.OutputReferenceIdeal.Run
public import proofs.«01_k».proof.Proof.Gen.ProjectionSample
public import proofs.«01_k».proof.Proof.Gen.ProjectionSample.Frame
public import proofs.«01_k».proof.Proof.Gen.ProjectionSampleIdeal
public import proofs.«01_k».proof.Proof.Gen.ProjectionSampleIdeal.Frame
public import proofs.«01_k».proof.Proof.Gen.OutputSample
public import proofs.«01_k».proof.Proof.Gen.OutputSample.Frame
public import proofs.«01_k».proof.Proof.Gen.OutputSampleIdeal
public import proofs.«01_k».proof.Proof.Gen.OutputSampleIdeal.Frame
public import proofs.«01_k».proof.Proof.Gen.ProjectionSampleReferenceIdeal
public import proofs.«01_k».proof.Proof.Gen.ProjectionSampleReferenceIdeal.Run
public import proofs.«01_k».proof.Proof.Gen.OutputSampleReferenceIdeal
public import proofs.«01_k».proof.Proof.Gen.OutputSampleReferenceIdeal.Run
public import proofs.«01_k».proof.Proof.Gen.Decode
public import proofs.«01_k».proof.Proof.Gen.Decode.Frame
public import proofs.«01_k».proof.Proof.Gen.DecodeIdeal
public import proofs.«01_k».proof.Proof.Gen.DecodeIdeal.Frame
public import proofs.«01_k».proof.Proof.Gen.DecodeIdeal.Value
public import proofs.«01_k».proof.Proof.Gen.DecodeReferenceIdeal
public import proofs.«01_k».proof.Proof.Gen.DecodeReferenceIdeal.Run
public import proofs.«01_k».proof.Proof.Gen.RecurrenceSample
public import proofs.«01_k».proof.Proof.Gen.RecurrenceSample.Frame
public import proofs.«01_k».proof.Proof.Gen.RecurrenceSampleIdeal
public import proofs.«01_k».proof.Proof.Gen.RecurrenceSampleIdeal.Frame
public import proofs.«01_k».proof.Proof.Gen.RecurrenceSampleIdeal.Value
public import proofs.«01_k».proof.Proof.Gen.RecurrenceSampleReferenceIdeal
public import proofs.«01_k».proof.Proof.Gen.RecurrenceSampleReferenceIdeal.Run
public import proofs.«01_k».proof.Proof.Equation
public import proofs.«01_k».proof.Proof.ProjClaim
public import proofs.«01_k».proof.Proof.OutClaim
public import proofs.«01_k».proof.Proof.ProjSampleClaim
public import proofs.«01_k».proof.Proof.OutSampleClaim
public import proofs.«01_k».proof.Proof.DecClaim
public import proofs.«01_k».proof.Proof.RecClaim
public import Idealize.ShloMosaic.Adequacy
public import Idealize.ShloMosaic.Init

@[expose] public section

noncomputable section

namespace Cert.Proof

open Idealize.ShloMosaic Idealize.SL.Sem Cert.Kernel

/-- The reference ends, keeps its arguments and leaves every counter at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From the same arguments kernel and reference leave the same array. -/
theorem same : Cert.algebraic_KernelIdeal_ReferenceIdeal := by
  pair_intro
  · run_from Cert.KernelIdeal.Value.run_blocks m g
  · run_from Cert.ReferenceIdeal.Value.run m' g'
    refine (Ref.result_eq m' c).trans ?_
    rw [(hagree c).1, (hagree c).2.1, (hagree c).2.2.1, (hagree c).2.2.2]
    exact (Equation.whole_eq _ _ _ _).trans (Array.final m c).symm

/-- The one side condition the precondition states: a scalar spread over the logits' shape. -/
theorem logits_facts : Cert.Pre_finite_logits.Facts := ⟨by decide⟩

theorem claim : Cert.Claim :=
  ⟨Cert.Kernel.Gen.facts, Cert.KernelIdeal.Gen.facts, Cert.ReferenceIdeal.Gen.facts,
    Cert.Projection.Gen.facts, Cert.ProjectionIdeal.Gen.facts, Cert.ProjectionReferenceIdeal.Gen.facts,
    Cert.Output.Gen.facts, Cert.OutputIdeal.Gen.facts, Cert.OutputReferenceIdeal.Gen.facts,
    Cert.ProjectionSample.Gen.facts, Cert.ProjectionSampleIdeal.Gen.facts, Cert.ProjectionSampleReferenceIdeal.Gen.facts,
    Cert.OutputSample.Gen.facts, Cert.OutputSampleIdeal.Gen.facts, Cert.OutputSampleReferenceIdeal.Gen.facts,
    Cert.Decode.Gen.facts, Cert.DecodeIdeal.Gen.facts, Cert.DecodeReferenceIdeal.Gen.facts,
    Cert.RecurrenceSample.Gen.facts, Cert.RecurrenceSampleIdeal.Gen.facts, Cert.RecurrenceSampleReferenceIdeal.Gen.facts, logits_facts,
    fun m ρ _ => Cert.Kernel.Gen.frame m ρ, fun m ρ _ => Cert.KernelIdeal.Gen.frame m ρ, reference_frame,
    fun m ρ _ => Cert.Projection.Gen.frame m ρ, fun m ρ _ => Cert.ProjectionIdeal.Gen.frame m ρ, ProjClaim.reference_frame,
    fun m ρ _ => Cert.Output.Gen.frame m ρ, fun m ρ _ => Cert.OutputIdeal.Gen.frame m ρ, OutClaim.reference_frame,
    fun m ρ _ => Cert.ProjectionSample.Gen.frame m ρ, fun m ρ _ => Cert.ProjectionSampleIdeal.Gen.frame m ρ, ProjSampleClaim.reference_frame,
    fun m ρ _ => Cert.OutputSample.Gen.frame m ρ, fun m ρ _ => Cert.OutputSampleIdeal.Gen.frame m ρ, OutSampleClaim.reference_frame,
    fun m ρ _ => Cert.Decode.Gen.frame m ρ, fun m ρ _ => Cert.DecodeIdeal.Gen.frame m ρ, DecClaim.reference_frame,
    fun m ρ _ => Cert.RecurrenceSample.Gen.frame m ρ,
    fun m ρ _ => Cert.RecurrenceSampleIdeal.Gen.frame m ρ, fun m ρ _ => Cert.RecurrenceSampleIdeal.Gen.frame m ρ,
    RecClaim.reference_frame, fun m ρ _ => RecClaim.reference_frame m ρ trivial,
    trivial, same, trivial, ProjClaim.same, trivial, OutClaim.same, trivial, ProjSampleClaim.same, trivial, OutSampleClaim.same,
    trivial, DecClaim.same, trivial, RecClaim.same (hPre := logits_facts)⟩

end Cert.Proof

end
